-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v24)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v254) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def preserves_Kernel3_Kernel3Ideal : Prop :=
  IdealRules.named_const.Statement Cert.Kernel3Ideal.κ "q_scale" .f32 0x3E38AA3B#32 (((1 / 8) * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v59_0)) (v1 : (c : Dev Cert.Kernel3Ideal.nD) → Buf (Elt Ideal) ((c.tc : Thread Cert.Kernel3Ideal.nD Cert.Kernel3Ideal.τ).loc Cert.Kernel3Ideal.main_v59_1)) (v2 : (c : Dev Cert.Kernel3Ideal.nD) → Buf (Elt Ideal) ((c.tc : Thread Cert.Kernel3Ideal.nD Cert.Kernel3Ideal.τ).loc Cert.Kernel3Ideal.main_v59_2)) (v3 : (c : Dev Cert.Kernel3Ideal.nD) → Buf (Elt Ideal) ((c.tc : Thread Cert.Kernel3Ideal.nD Cert.Kernel3Ideal.τ).loc Cert.Kernel3Ideal.main_v59_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v59_0) = v0 c
          ∧ r.2.mem ((c.tc : Thread Cert.Kernel3Ideal.nD Cert.Kernel3Ideal.τ).loc Cert.Kernel3Ideal.main_v59_1) = v1 c
          ∧ r.2.mem ((c.tc : Thread Cert.Kernel3Ideal.nD Cert.Kernel3Ideal.τ).loc Cert.Kernel3Ideal.main_v59_2) = v2 c
          ∧ r.2.mem ((c.tc : Thread Cert.Kernel3Ideal.nD Cert.Kernel3Ideal.τ).loc Cert.Kernel3Ideal.main_v59_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_v128) = v1 c
          ∧ r.2.mem ((c.tc : Thread Cert.Reference3Ideal.nD Cert.Reference3Ideal.τ).loc Cert.Reference3Ideal.main_v130) = v2 c
          ∧ r.2.mem ((c.tc : Thread Cert.Reference3Ideal.nD Cert.Reference3Ideal.τ).loc Cert.Reference3Ideal.main_v132) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
-- ==== Pre_finite.lean ====
abbrev S16x4096x8x64 : Shape := ⟨4, ![16, 4096, 8, 64]⟩
abbrev S16x4096x2x64 : Shape := ⟨4, ![16, 4096, 2, 64]⟩
abbrev S_ : Shape := ⟨0, ![]⟩

class Facts : Prop where
  bcast_S_S16x4096x8x64 : S_.BroadcastsInDim S16x4096x8x64 (![] : Fin 0 → Fin S16x4096x8x64.rank)
  reducesTo_S16x4096x8x64_S_d0_1_2_3 : S16x4096x8x64.ReducesTo [0, 1, 2, 3] S_
  h_S_ : 0 < S_.numel
  bcast_S_S16x4096x2x64 : S_.BroadcastsInDim S16x4096x2x64 (![] : Fin 0 → Fin S16x4096x2x64.rank)
  reducesTo_S16x4096x2x64_S_d0_1_2_3 : S16x4096x2x64.ReducesTo [0, 1, 2, 3] S_

variable [Facts]

def fn {F : FTy → Type} [FloatOps F] (main_arg0 : FVec F S16x4096x8x64 .f32) (main_arg1 : FVec F S16x4096x2x64 .f32) (main_arg2 : FVec F S16x4096x2x64 .f32) : IVec S_ 1 :=
  let main_v0 : FVec F S16x4096x8x64 .f32 := Host.absf main_arg0
  let main_cst : FVec F S_ .f32 := constant S_ .f32 0x7F800000#32
  let main_v1 : FVec F S16x4096x8x64 .f32 := broadcastInDim S16x4096x8x64 ![] bcast_S_S16x4096x8x64 main_cst
  let main_v2 : IVec S16x4096x8x64 1 := cmpf .olt main_v0 main_v1
  let main_c : IVec S_ 1 := constantI S_ 1 1#1
  let main_v3 : IVec S_ 1 := (fun x v => Host.reduce IntOp.andi x v reducesTo_S16x4096x8x64_S_d0_1_2_3 h_S_) main_v2 main_c
  let main_v4 : FVec F S16x4096x2x64 .f32 := Host.absf main_arg1
  let main_cst_0 : FVec F S_ .f32 := constant S_ .f32 0x7F800000#32
  let main_v5 : FVec F S16x4096x2x64 .f32 := broadcastInDim S16x4096x2x64 ![] bcast_S_S16x4096x2x64 main_cst_0
  let main_v6 : IVec S16x4096x2x64 1 := cmpf .olt main_v4 main_v5
  let main_c_1 : IVec S_ 1 := constantI S_ 1 1#1
  let main_v7 : IVec S_ 1 := (fun x v => Host.reduce IntOp.andi x v reducesTo_S16x4096x2x64_S_d0_1_2_3 h_S_) main_v6 main_c_1
  let main_v8 : IVec S_ 1 := andi main_v3 main_v7
  main_v8
-- ==== Pre_finite2.lean ====
abbrev S16x4096x1024 : Shape := ⟨3, ![16, 4096, 1024]⟩
abbrev S16x4096x512 : Shape := ⟨3, ![16, 4096, 512]⟩
abbrev S1x16x4096x256 : Shape := ⟨4, ![1, 16, 4096, 256]⟩
abbrev S1x1024 : Shape := ⟨2, ![1, 1024]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel

variable [Facts]

def fn {F : FTy → Type} [FloatOps F] (main_arg0 : FVec F S16x4096x1024 .f32) (main_arg1 : FVec F S16x4096x512 .f32) (main_arg2 : FVec F S16x4096x512 .bf16) (main_arg3 : FVec F S1x16x4096x256 .f32) (main_arg4 : FVec F S1x1024 .f32) (main_arg5 : FVec F S1x4x128x128 .f32) (main_arg6 : FVec F S1x512 .f32) (main_arg7 : FVec F S1x1024x1024 .f32) (main_arg8 : FVec F S1x1024 .f32) (main_arg9 : FVec F S1x1024 .f32) (main_arg10 : FVec F S1x1024x2816 .f32) (main_arg11 : FVec F S1x1024x2816 .f32) (main_arg12 : FVec F S1x2816x1024 .f32) (main_arg13 : FVec F S1x256x1024 .f32) (main_arg14 : FVec F S1x1024x1024 .f32) (main_arg15 : FVec F S1x1024 .f32) : IVec S_ 1 :=
  let main_v0 : FVec F S16x4096x512 .f32 := Host.absf main_arg1
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  main_v3
-- ==== Kernel.lean ====
abbrev S16x4096x8x64 : Shape := ⟨4, ![16, 4096, 8, 64]⟩
abbrev S16x4096x2x64 : Shape := ⟨4, ![16, 4096, 2, 64]⟩
abbrev S_ : Shape := ⟨0, ![]⟩
abbrev S16x4096x512 : Shape := ⟨3, ![16, 4096, 512]⟩
abbrev S16x512x4096 : Shape := ⟨3, ![16, 512, 4096]⟩
abbrev S16x4096x128 : Shape := ⟨3, ![16, 4096, 128]⟩
abbrev S16x128x4096 : Shape := ⟨3, ![16, 128, 4096]⟩
abbrev S1x512x1024 : Shape := ⟨3, ![1, 512, 1024]⟩
abbrev S1x4096x128 : Shape := ⟨3, ![1, 4096, 128]⟩
abbrev S1x128x4096 : Shape := ⟨3, ![1, 128, 4096]⟩
abbrev S1x1024x512 : Shape := ⟨3, ![1, 1024, 512]⟩
abbrev S2x4096x256 : Shape := ⟨3, ![2, 4096, 256]⟩
abbrev S1x64x256 : Shape := ⟨3, ![1, 64, 256]⟩
abbrev S64x256 : Shape := ⟨2, ![64, 256]⟩
abbrev S128x256 : Shape := ⟨2, ![128, 256]⟩
abbrev S1x2048x128 : Shape := ⟨3, ![1, 2048, 128]⟩
abbrev S2048x128 : Shape := ⟨2, ![2048, 128]⟩
abbrev S2048x256 : Shape := ⟨2, ![2048, 256]⟩
abbrev S1x2048x256 : Shape := ⟨3, ![1, 2048, 256]⟩
abbrev S256x8x256 : Shape := ⟨3, ![256, 8, 256]⟩
abbrev S8x256 : Shape := ⟨2, ![8, 256]⟩
abbrev S256 : Shape := ⟨1, ![256]⟩
abbrev S1x256 : Shape := ⟨2, ![1, 256]⟩
abbrev S1x8x256 : Shape := ⟨3, ![1, 8, 256]⟩
abbrev S1x64x2048 : Shape := ⟨3, ![1, 64, 2048]⟩
abbrev S64x2048 : Shape := ⟨2, ![64, 2048]⟩
abbrev S512x256 : Shape := ⟨2, ![512, 256]⟩
abbrev S256x512 : Shape := ⟨2, ![256, 512]⟩
abbrev S1x256x512 : Shape := ⟨3, ![1, 256, 512]⟩

abbrev nBuf : Space → Nat
  | .hbm => 19
  | .vmem => 9
  | .smem => 0
  | _ => 0

abbrev bufTy : (tb : Table) → Fin (tcTables nBuf tb) → BufTy
  | .hbm, ⟨0, _⟩ => ⟨S16x4096x8x64, .f32⟩
  | .hbm, ⟨1, _⟩ => ⟨S16x4096x2x64, .f32⟩
  | .hbm, ⟨2, _⟩ => ⟨S16x4096x2x64, .f32⟩
  | .hbm, ⟨3, _⟩ => ⟨S_, .f32⟩
  | .hbm, ⟨4, _⟩ => ⟨S16x4096x8x64, .f32⟩
  | .hbm, ⟨5, _⟩ => ⟨S16x4096x8x64, .f32⟩
  | .hbm, ⟨6, _⟩ => ⟨S_, .f32⟩
  | .hbm, ⟨7, _⟩ => ⟨S_, .f32⟩
  | .hbm, ⟨8, _⟩ => ⟨S16x4096x8x64, .f32⟩
  | .hbm, ⟨9, _⟩ => ⟨S16x4096x8x64, .f32⟩
  | .hbm, ⟨10, _⟩ => ⟨S16x4096x8x64, .bf16⟩
  | .hbm, ⟨11, _⟩ => ⟨S16x4096x512, .bf16⟩
  | .hbm, ⟨12, _⟩ => ⟨S16x512x4096, .bf16⟩
  | .hbm, ⟨13, _⟩ => ⟨S16x4096x2x64, .bf16⟩
  | .hbm, ⟨14, _⟩ => ⟨S16x4096x128, .bf16⟩
  | .hbm, ⟨15, _⟩ => ⟨S16x4096x2x64, .bf16⟩
  | .hbm, ⟨16, _⟩ => ⟨S16x4096x128, .bf16⟩
  | .hbm, ⟨17, _⟩ => ⟨S16x128x4096, .bf16⟩
  | .hbm, ⟨18, _⟩ => ⟨S16x4096x512, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x128x4096, .bf16⟩
  | .local _ .vmem, ⟨5, _⟩ => ⟨S1x128x4096, .bf16⟩
  | .local _ .vmem, ⟨6, _⟩ => ⟨S1x1024x512, .bf16⟩
  | .local _ .vmem, ⟨7, _⟩ => ⟨S1x1024x512, .bf16⟩
  | .local _ .vmem, ⟨8, _⟩ => ⟨S2x4096x256, .f32⟩
  | _, _ => ⟨S16x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16x4096x8x64 : Shape := ⟨4, ![16, 4096, 8, 64]⟩
abbrev S16x4096x2x64 : Shape := ⟨4, ![16, 4096, 2, 64]⟩
abbrev S16x4096x2x4x64 : Shape := ⟨5, ![16, 4096, 2, 4, 64]⟩
abbrev S16x2x4096x4096x4 : Shape := ⟨5, ![16, 2, 4096, 4096, 4]⟩
abbrev S16x2x4x4096x4096 : Shape := ⟨5, ![16, 2, 4, 4096, 4096]⟩
abbrev S_ : Shape := ⟨0, ![]⟩
abbrev S16x2x4x4096 : Shape := ⟨4, ![16, 2, 4, 4096]⟩
abbrev S16x2x4x4096x1 : Shape := ⟨5, ![16, 2, 4, 4096, 1]⟩
abbrev S16x2x64x4x4096 : Shape := ⟨5, ![16, 2, 64, 4, 4096]⟩
abbrev S16x4096x512 : Shape := ⟨3, ![16, 4096, 512]⟩

abbrev nBuf : Space → Nat
  | .hbm => 27
  | .vmem => 0
  | .smem => 0
  | _ => 0

abbrev bufTy : (tb : Table) → Fin (tcTables nBuf tb) → BufTy
  | .hbm, ⟨0, _⟩ => ⟨S16x4096x8x64, .f32⟩
  | .hbm, ⟨1, _⟩ => ⟨S16x4096x2x64, .f32⟩
  | .hbm, ⟨2, _⟩ => ⟨S16x4096x2x64, .f32⟩
  | .hbm, ⟨3, _⟩ => ⟨S16x4096x2x4x64, .f32⟩
  | .hbm, ⟨4, _⟩ => ⟨S16x2x4096x4096x4, .f32⟩
  | .hbm, ⟨5, _⟩ => ⟨S16x2x4x4096x4096, .f32⟩
  | .hbm, ⟨6, _⟩ => ⟨S_, .f32⟩
  | .hbm, ⟨7, _⟩ => ⟨S16x2x4x4096x4096, .f32⟩
  | .hbm, ⟨8, _⟩ => ⟨S16x2x4x4096x4096, .f32⟩
  | .hbm, ⟨9, _⟩ => ⟨S_, .f32⟩
  | .hbm, ⟨10, _⟩ => ⟨S16x2x4x4096, .f32⟩
  | .hbm, ⟨11, _⟩ => ⟨S_, .f32⟩
  | .hbm, ⟨12, _⟩ => ⟨S16x2x4x4096, .f32⟩
  | .hbm, ⟨13, _⟩ => ⟨S16x2x4x4096, .f32⟩
  | .hbm, ⟨14, _⟩ => ⟨S16x2x4x4096x1, .f32⟩
  | .hbm, ⟨15, _⟩ => ⟨S16x2x4x4096x4096, .f32⟩
  | .hbm, ⟨16, _⟩ => ⟨S16x2x4x4096x4096, .f32⟩
  | .hbm, ⟨17, _⟩ => ⟨S16x2x4x4096x4096, .f32⟩
  | .hbm, ⟨18, _⟩ => ⟨S_, .f32⟩
  | .hbm, ⟨19, _⟩ => ⟨S16x2x4x4096, .f32⟩
  | .hbm, ⟨20, _⟩ => ⟨S16x2x4x4096x1, .f32⟩
  | .hbm, ⟨21, _⟩ => ⟨S16x2x4x4096x4096, .f32⟩
  | .hbm, ⟨22, _⟩ => ⟨S16x2x4x4096x4096, .f32⟩
  | .hbm, ⟨23, _⟩ => ⟨S16x2x64x4x4096, .f32⟩
  | .hbm, ⟨24, _⟩ => ⟨S16x4096x2x4x64, .f32⟩
  | .hbm, ⟨25, _⟩ => ⟨S16x4096x512, .f32⟩
  | .hbm, ⟨26, _⟩ => ⟨S16x4096x512, .bf16⟩
  | _, _ => ⟨S16x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel2.lean ====
abbrev S16x4096x1024 : Shape := ⟨3, ![16, 4096, 1024]⟩
abbrev S16x4096x512 : Shape := ⟨3, ![16, 4096, 512]⟩
abbrev S1x16x4096x256 : Shape := ⟨4, ![1, 16, 4096, 256]⟩
abbrev S1x1024 : Shape := ⟨2, ![1, 1024]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S4x128x128 : Shape := ⟨3, ![4, 128, 128]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S1x512x1024 : Shape := ⟨3, ![1, 512, 1024]⟩
abbrev S1x512x512 : Shape := ⟨3, ![1, 512, 512]⟩
abbrev S1x8x512 : Shape := ⟨3, ![1, 8, 512]⟩
abbrev S1x1x512x256 : Shape := ⟨4, ![1, 1, 512, 256]⟩
abbrev S528x512 : Shape := ⟨2, ![528, 512]⟩
abbrev S8x512 : Shape := ⟨2, ![8, 512]⟩
abbrev S512x512 : Shape := ⟨2, ![512, 512]⟩
abbrev S8x128 : Shape := ⟨2, ![8, 128]⟩
abbrev S272x128 : Shape := ⟨2, ![272, 128]⟩
abbrev S256x128 : Shape := ⟨2, ![256, 128]⟩
abbrev S240x128 : Shape := ⟨2, ![240, 128]⟩
abbrev S1x128x128 : Shape := ⟨3, ![1, 128, 128]⟩
abbrev S128x128 : Shape := ⟨2, ![128, 128]⟩
abbrev S256x512 : Shape := ⟨2, ![256, 512]⟩
abbrev S1x256x512 : Shape := ⟨3, ![1, 256, 512]⟩
abbrev S256 : Shape := ⟨1, ![256]⟩
abbrev S256x1 : Shape := ⟨2, ![256, 1]⟩
abbrev S256x2816 : Shape := ⟨2, ![256, 2816]⟩
abbrev S1x1x256x256 : Shape := ⟨4, ![1, 1, 256, 256]⟩
abbrev S256x256 : Shape := ⟨2, ![256, 256]⟩

abbrev nBuf : Space → Nat
  | .hbm => 41
  | .vmem => 27
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .bf16⟩
  | .hbm, ⟨3, _⟩ => ⟨S1x16x4096x256, .f32⟩
  | .hbm, ⟨4, _⟩ => ⟨S1x1024, .f32⟩
  | .hbm, ⟨5, _⟩ => ⟨S1x4x128x128, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S1x1024x2816, .f32⟩
  | .hbm, ⟨11, _⟩ => ⟨S1x1024x2816, .f32⟩
  | .hbm, ⟨12, _⟩ => ⟨S1x2816x1024, .f32⟩
  | .hbm, ⟨13, _⟩ => ⟨S1x256x1024, .f32⟩
  | .hbm, ⟨14, _⟩ => ⟨S1x1024x1024, .f32⟩
  | .hbm, ⟨15, _⟩ => ⟨S1x1024, .f32⟩
  | .hbm, ⟨16, _⟩ => ⟨S4x128x128, .f32⟩
  | .hbm, ⟨17, _⟩ => ⟨S4x128x128, .bf16⟩
  | .hbm, ⟨18, _⟩ => ⟨S512, .f32⟩
  | .hbm, ⟨19, _⟩ => ⟨S1x512, .f32⟩
  | .hbm, ⟨20, _⟩ => ⟨S1024x1024, .f32⟩
  | .hbm, ⟨21, _⟩ => ⟨S1024x1024, .bf16⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1024x2816, .f32⟩
  | .hbm, ⟨29, _⟩ => ⟨S1024x2816, .bf16⟩
  | .hbm, ⟨30, _⟩ => ⟨S1024x2816, .f32⟩
  | .hbm, ⟨31, _⟩ => ⟨S1024x2816, .bf16⟩
  | .hbm, ⟨32, _⟩ => ⟨S2816x1024, .f32⟩
  | .hbm, ⟨33, _⟩ => ⟨S2816x1024, .bf16⟩
  | .hbm, ⟨34, _⟩ => ⟨S256x1024, .f32⟩
  | .hbm, ⟨35, _⟩ => ⟨S256x1024, .bf16⟩
  | .hbm, ⟨36, _⟩ => ⟨S1024x1024, .f32⟩
  | .hbm, ⟨37, _⟩ => ⟨S1024x1024, .bf16⟩
  | .hbm, ⟨38, _⟩ => ⟨S1024, .f32⟩
  | .hbm, ⟨39, _⟩ => ⟨S1x1024, .f32⟩
  | .hbm, ⟨40, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x8x512, .f32⟩
  | .local _ .vmem, ⟨5, _⟩ => ⟨S1x8x512, .f32⟩
  | .local _ .vmem, ⟨6, _⟩ => ⟨S1x8x512, .f32⟩
  | .local _ .vmem, ⟨7, _⟩ => ⟨S1x8x512, .f32⟩
  | .local _ .vmem, ⟨8, _⟩ => ⟨S1x512x512, .bf16⟩
  | .local _ .vmem, ⟨9, _⟩ => ⟨S1x512x512, .bf16⟩
  | .local _ .vmem, ⟨10, _⟩ => ⟨S1x1x512x256, .f32⟩
  | .local _ .vmem, ⟨11, _⟩ => ⟨S1x1x512x256, .f32⟩
  | .local _ .vmem, ⟨12, _⟩ => ⟨S4x128x128, .bf16⟩
  | .local _ .vmem, ⟨13, _⟩ => ⟨S1x512, .f32⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1024x2816, .bf16⟩
  | .local _ .vmem, ⟨19, _⟩ => ⟨S1024x2816, .bf16⟩
  | .local _ .vmem, ⟨20, _⟩ => ⟨S2816x1024, .bf16⟩
  | .local _ .vmem, ⟨21, _⟩ => ⟨S256x1024, .bf16⟩
  | .local _ .vmem, ⟨22, _⟩ => ⟨S1024x1024, .bf16⟩
  | .local _ .vmem, ⟨23, _⟩ => ⟨S1x1024, .f32⟩
  | .local _ .vmem, ⟨24, _⟩ => ⟨S1x512x1024, .f32⟩
  | .local _ .vmem, ⟨25, _⟩ => ⟨S1x512x1024, .f32⟩
  | .local _ .vmem, ⟨26, _⟩ => ⟨S528x512, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg18_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem18_1 : DmaSem sig := 25

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference2Ideal.lean ====
abbrev S16x4096x1024 : Shape := ⟨3, ![16, 4096, 1024]⟩
abbrev S16x4096x512 : Shape := ⟨3, ![16, 4096, 512]⟩
abbrev S1x16x4096x256 : Shape := ⟨4, ![1, 16, 4096, 256]⟩
abbrev S1x1024 : Shape := ⟨2, ![1, 1024]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S4x128x128 : Shape := ⟨3, ![4, 128, 128]⟩
abbrev S512 : Shape := ⟨1, ![512]⟩
abbrev S16x4096x4x128 : Shape := ⟨4, ![16, 4096, 4, 128]⟩
abbrev S_ : Shape := ⟨0, ![]⟩
abbrev S16x1x4x128 : Shape := ⟨4, ![16, 1, 4, 128]⟩
abbrev S16x4097x4x128 : Shape := ⟨4, ![16, 4097, 4, 128]⟩
abbrev S4096 : Shape := ⟨1, ![4096]⟩
abbrev S4096x1 : Shape := ⟨2, ![4096, 1]⟩
abbrev S4096x2 : Shape := ⟨2, ![4096, 2]⟩
abbrev S16x4096x128 : Shape := ⟨3, ![16, 4096, 128]⟩
abbrev S1x4096x1 : Shape := ⟨3, ![1, 4096, 1]⟩
abbrev S16x4096x1x128 : Shape := ⟨4, ![16, 4096, 1, 128]⟩
abbrev S4x128x16x4096 : Shape := ⟨4, ![4, 128, 16, 4096]⟩
abbrev S1x1x512 : Shape := ⟨3, ![1, 1, 512]⟩
abbrev S1024x1024 : Shape := ⟨2, ![1024, 1024]⟩
abbrev S1024 : Shape := ⟨1, ![1024]⟩
abbrev S16x4096 : Shape := ⟨2, ![16, 4096]⟩
abbrev S16x4096x1 : Shape := ⟨3, ![16, 4096, 1]⟩
abbrev S1x1x1024 : Shape := ⟨3, ![1, 1, 1024]⟩
abbrev S1024x2816 : Shape := ⟨2, ![1024, 2816]⟩
abbrev S16x4096x2816 : Shape := ⟨3, ![16, 4096, 2816]⟩
abbrev S2816x1024 : Shape := ⟨2, ![2816, 1024]⟩
abbrev S16x4096x256 : Shape := ⟨3, ![16, 4096, 256]⟩
abbrev S256x1024 : Shape := ⟨2, ![256, 1024]⟩

abbrev nBuf : Space → Nat
  | .hbm => 389
  | .vmem => 0
  | .smem => 0
  | _ => 0

abbrev hbmTy0_0 (i : Nat) : BufTy := match i % 128 with
  | 0 => ⟨S16x4096x1024, .f32⟩
  | 1 => ⟨S16x4096x512, .f32⟩
  | 2 => ⟨S16x4096x512, .bf16⟩
  | 3 => ⟨S1x16x4096x256, .f32⟩
  | 4 => ⟨S1x1024, .f32⟩
  | 5 => ⟨S1x4x128x128, .f32⟩
  | 6 => ⟨S1x512, .f32⟩
  | 7 => ⟨S1x1024x1024, .f32⟩
  | 8 => ⟨S1x1024, .f32⟩
  | 9 => ⟨S1x1024, .f32⟩
  | 10 => ⟨S1x1024x2816, .f32⟩
  | 11 => ⟨S1x1024x2816, .f32⟩
  | 12 => ⟨S1x2816x1024, .f32⟩
  | 13 => ⟨S1x256x1024, .f32⟩
  | 14 => ⟨S1x1024x1024, .f32⟩
  | 15 => ⟨S1x1024, .f32⟩
  | 16 => ⟨S4x128x128, .f32⟩
  | 17 => ⟨S512, .f32⟩
  | 18 => ⟨S16x4096x4x128, .f32⟩
  | 19 => ⟨S_, .f32⟩
  | 20 => ⟨S16x1x4x128, .f32⟩
  | 21 => ⟨S_, .f32⟩
  | 22 => ⟨S_, .f32⟩
  | 23 => ⟨S16x4096x4x128, .f32⟩
  | 24 => ⟨S16x4097x4x128, .f32⟩
  | 25 => ⟨S4096, .i32⟩
  | 26 => ⟨S_, .i32⟩
  | 27 => ⟨S4096, .i32⟩
  | 28 => ⟨S4096, .i32⟩
  | 29 => ⟨S_, .i32⟩
  | 30 => ⟨S_, .i32⟩
  | 31 => ⟨S_, .i32⟩
  | 32 => ⟨S4096, .i32⟩
  | 33 => ⟨S4096, .i32⟩
  | 34 => ⟨S_, .i32⟩
  | 35 => ⟨S4096, .i32⟩
  | 36 => ⟨S4096, .i32⟩
  | 37 => ⟨S_, .i32⟩
  | 38 => ⟨S4096, .i32⟩
  | 39 => ⟨S4096, .i32⟩
  | 40 => ⟨S_, .i32⟩
  | 41 => ⟨S_, .i32⟩
  | 42 => ⟨S_, .i32⟩
  | 43 => ⟨S4096, .i32⟩
  | 44 => ⟨S4096, .i32⟩
  | 45 => ⟨S_, .i32⟩
  | 46 => ⟨S4096, .i32⟩
  | 47 => ⟨S4096, .i32⟩
  | 48 => ⟨S_, .i32⟩
  | 49 => ⟨S4096, .i32⟩
  | 50 => ⟨S4096, .i32⟩
  | 51 => ⟨S_, .i32⟩
  | 52 => ⟨S4096, .i32⟩
  | 53 => ⟨S4096, .i1⟩
  | 54 => ⟨S_, .i32⟩
  | 55 => ⟨S4096, .i32⟩
  | 56 => ⟨S4096, .i32⟩
  | 57 => ⟨S4096, .i32⟩
  | 58 => ⟨S_, .i32⟩
  | 59 => ⟨S4096, .i32⟩
  | 60 => ⟨S4096, .i32⟩
  | 61 => ⟨S4096x1, .i32⟩
  | 62 => ⟨S4096x1, .i32⟩
  | 63 => ⟨S4096x2, .i32⟩
  | 64 => ⟨S16x4096x128, .f32⟩
  | 65 => ⟨S_, .i32⟩
  | 66 => ⟨S4096, .i32⟩
  | 67 => ⟨S4096, .i1⟩
  | 68 => ⟨S_, .i32⟩
  | 69 => ⟨S4096, .i32⟩
  | 70 => ⟨S4096, .i32⟩
  | 71 => ⟨S4096, .i32⟩
  | 72 => ⟨S_, .i32⟩
  | 73 => ⟨S4096, .i32⟩
  | 74 => ⟨S4096, .i32⟩
  | 75 => ⟨S4096x1, .i32⟩
  | 76 => ⟨S4096x1, .i32⟩
  | 77 => ⟨S4096x2, .i32⟩
  | 78 => ⟨S16x4096x128, .f32⟩
  | 79 => ⟨S16x4096x128, .f32⟩
  | 80 => ⟨S4096, .i32⟩
  | 81 => ⟨S_, .i32⟩
  | 82 => ⟨S4096, .i32⟩
  | 83 => ⟨S4096, .i32⟩
  | 84 => ⟨S4096, .f32⟩
  | 85 => ⟨S1x4096x1, .f32⟩
  | 86 => ⟨S16x4096x128, .f32⟩
  | 87 => ⟨S16x4096x128, .f32⟩
  | 88 => ⟨S16x4096x1x128, .f32⟩
  | 89 => ⟨S16x4096x128, .f32⟩
  | 90 => ⟨S16x4096x128, .f32⟩
  | 91 => ⟨S_, .i32⟩
  | 92 => ⟨S4096, .i32⟩
  | 93 => ⟨S4096, .i32⟩
  | 94 => ⟨S_, .i32⟩
  | 95 => ⟨S_, .i32⟩
  | 96 => ⟨S_, .i32⟩
  | 97 => ⟨S4096, .i32⟩
  | 98 => ⟨S4096, .i32⟩
  | 99 => ⟨S_, .i32⟩
  | 100 => ⟨S4096, .i32⟩
  | 101 => ⟨S4096, .i32⟩
  | 102 => ⟨S_, .i32⟩
  | 103 => ⟨S4096, .i32⟩
  | 104 => ⟨S4096, .i32⟩
  | 105 => ⟨S_, .i32⟩
  | 106 => ⟨S_, .i32⟩
  | 107 => ⟨S_, .i32⟩
  | 108 => ⟨S4096, .i32⟩
  | 109 => ⟨S4096, .i32⟩
  | 110 => ⟨S_, .i32⟩
  | 111 => ⟨S4096, .i32⟩
  | 112 => ⟨S4096, .i32⟩
  | 113 => ⟨S_, .i32⟩
  | 114 => ⟨S4096, .i32⟩
  | 115 => ⟨S4096, .i32⟩
  | 116 => ⟨S_, .i32⟩
  | 117 => ⟨S4096, .i32⟩
  | 118 => ⟨S4096, .i1⟩
  | 119 => ⟨S_, .i32⟩
  | 120 => ⟨S4096, .i32⟩
  | 121 => ⟨S4096, .i32⟩
  | 122 => ⟨S4096, .i32⟩
  | 123 => ⟨S_, .i32⟩
  | 124 => ⟨S4096, .i32⟩
  | 125 => ⟨S4096, .i32⟩
  | 126 => ⟨S4096x1, .i32⟩
  | 127 => ⟨S4096x1, .i32⟩
  | _ => ⟨S16x4096x1024, .f32⟩

abbrev hbmTy0_1 (i : Nat) : BufTy := match i % 128 with
  | 0 => ⟨S4096x2, .i32⟩
  | 1 => ⟨S16x4096x128, .f32⟩
  | 2 => ⟨S_, .i32⟩
  | 3 => ⟨S4096, .i32⟩
  | 4 => ⟨S4096, .i1⟩
  | 5 => ⟨S_, .i32⟩
  | 6 => ⟨S4096, .i32⟩
  | 7 => ⟨S4096, .i32⟩
  | 8 => ⟨S4096, .i32⟩
  | 9 => ⟨S_, .i32⟩
  | 10 => ⟨S4096, .i32⟩
  | 11 => ⟨S4096, .i32⟩
  | 12 => ⟨S4096x1, .i32⟩
  | 13 => ⟨S4096x1, .i32⟩
  | 14 => ⟨S4096x2, .i32⟩
  | 15 => ⟨S16x4096x128, .f32⟩
  | 16 => ⟨S16x4096x128, .f32⟩
  | 17 => ⟨S4096, .i32⟩
  | 18 => ⟨S_, .i32⟩
  | 19 => ⟨S4096, .i32⟩
  | 20 => ⟨S4096, .i32⟩
  | 21 => ⟨S4096, .f32⟩
  | 22 => ⟨S1x4096x1, .f32⟩
  | 23 => ⟨S16x4096x128, .f32⟩
  | 24 => ⟨S16x4096x128, .f32⟩
  | 25 => ⟨S16x4096x1x128, .f32⟩
  | 26 => ⟨S16x4096x128, .f32⟩
  | 27 => ⟨S16x4096x128, .f32⟩
  | 28 => ⟨S_, .i32⟩
  | 29 => ⟨S4096, .i32⟩
  | 30 => ⟨S4096, .i32⟩
  | 31 => ⟨S_, .i32⟩
  | 32 => ⟨S_, .i32⟩
  | 33 => ⟨S_, .i32⟩
  | 34 => ⟨S4096, .i32⟩
  | 35 => ⟨S4096, .i32⟩
  | 36 => ⟨S_, .i32⟩
  | 37 => ⟨S4096, .i32⟩
  | 38 => ⟨S4096, .i32⟩
  | 39 => ⟨S_, .i32⟩
  | 40 => ⟨S4096, .i32⟩
  | 41 => ⟨S4096, .i32⟩
  | 42 => ⟨S_, .i32⟩
  | 43 => ⟨S_, .i32⟩
  | 44 => ⟨S_, .i32⟩
  | 45 => ⟨S4096, .i32⟩
  | 46 => ⟨S4096, .i32⟩
  | 47 => ⟨S_, .i32⟩
  | 48 => ⟨S4096, .i32⟩
  | 49 => ⟨S4096, .i32⟩
  | 50 => ⟨S_, .i32⟩
  | 51 => ⟨S4096, .i32⟩
  | 52 => ⟨S4096, .i32⟩
  | 53 => ⟨S_, .i32⟩
  | 54 => ⟨S4096, .i32⟩
  | 55 => ⟨S4096, .i1⟩
  | 56 => ⟨S_, .i32⟩
  | 57 => ⟨S4096, .i32⟩
  | 58 => ⟨S4096, .i32⟩
  | 59 => ⟨S4096, .i32⟩
  | 60 => ⟨S_, .i32⟩
  | 61 => ⟨S4096, .i32⟩
  | 62 => ⟨S4096, .i32⟩
  | 63 => ⟨S4096x1, .i32⟩
  | 64 => ⟨S4096x1, .i32⟩
  | 65 => ⟨S4096x2, .i32⟩
  | 66 => ⟨S16x4096x128, .f32⟩
  | 67 => ⟨S_, .i32⟩
  | 68 => ⟨S4096, .i32⟩
  | 69 => ⟨S4096, .i1⟩
  | 70 => ⟨S_, .i32⟩
  | 71 => ⟨S4096, .i32⟩
  | 72 => ⟨S4096, .i32⟩
  | 73 => ⟨S4096, .i32⟩
  | 74 => ⟨S_, .i32⟩
  | 75 => ⟨S4096, .i32⟩
  | 76 => ⟨S4096, .i32⟩
  | 77 => ⟨S4096x1, .i32⟩
  | 78 => ⟨S4096x1, .i32⟩
  | 79 => ⟨S4096x2, .i32⟩
  | 80 => ⟨S16x4096x128, .f32⟩
  | 81 => ⟨S16x4096x128, .f32⟩
  | 82 => ⟨S4096, .i32⟩
  | 83 => ⟨S_, .i32⟩
  | 84 => ⟨S4096, .i32⟩
  | 85 => ⟨S4096, .i32⟩
  | 86 => ⟨S4096, .f32⟩
  | 87 => ⟨S1x4096x1, .f32⟩
  | 88 => ⟨S16x4096x128, .f32⟩
  | 89 => ⟨S16x4096x128, .f32⟩
  | 90 => ⟨S16x4096x1x128, .f32⟩
  | 91 => ⟨S16x4096x128, .f32⟩
  | 92 => ⟨S16x4096x128, .f32⟩
  | 93 => ⟨S_, .i32⟩
  | 94 => ⟨S4096, .i32⟩
  | 95 => ⟨S4096, .i32⟩
  | 96 => ⟨S_, .i32⟩
  | 97 => ⟨S_, .i32⟩
  | 98 => ⟨S_, .i32⟩
  | 99 => ⟨S4096, .i32⟩
  | 100 => ⟨S4096, .i32⟩
  | 101 => ⟨S_, .i32⟩
  | 102 => ⟨S4096, .i32⟩
  | 103 => ⟨S4096, .i32⟩
  | 104 => ⟨S_, .i32⟩
  | 105 => ⟨S4096, .i32⟩
  | 106 => ⟨S4096, .i32⟩
  | 107 => ⟨S_, .i32⟩
  | 108 => ⟨S_, .i32⟩
  | 109 => ⟨S_, .i32⟩
  | 110 => ⟨S4096, .i32⟩
  | 111 => ⟨S4096, .i32⟩
  | 112 => ⟨S_, .i32⟩
  | 113 => ⟨S4096, .i32⟩
  | 114 => ⟨S4096, .i32⟩
  | 115 => ⟨S_, .i32⟩
  | 116 => ⟨S4096, .i32⟩
  | 117 => ⟨S4096, .i32⟩
  | 118 => ⟨S_, .i32⟩
  | 119 => ⟨S4096, .i32⟩
  | 120 => ⟨S4096, .i1⟩
  | 121 => ⟨S_, .i32⟩
  | 122 => ⟨S4096, .i32⟩
  | 123 => ⟨S4096, .i32⟩
  | 124 => ⟨S4096, .i32⟩
  | 125 => ⟨S_, .i32⟩
  | 126 => ⟨S4096, .i32⟩
  | 127 => ⟨S4096, .i32⟩
  | _ => ⟨S16x4096x1024, .f32⟩

abbrev hbmTy0_2 (i : Nat) : BufTy := match i % 128 with
  | 0 => ⟨S4096x1, .i32⟩
  | 1 => ⟨S4096x1, .i32⟩
  | 2 => ⟨S4096x2, .i32⟩
  | 3 => ⟨S16x4096x128, .f32⟩
  | 4 => ⟨S_, .i32⟩
  | 5 => ⟨S4096, .i32⟩
  | 6 => ⟨S4096, .i1⟩
  | 7 => ⟨S_, .i32⟩
  | 8 => ⟨S4096, .i32⟩
  | 9 => ⟨S4096, .i32⟩
  | 10 => ⟨S4096, .i32⟩
  | 11 => ⟨S_, .i32⟩
  | 12 => ⟨S4096, .i32⟩
  | 13 => ⟨S4096, .i32⟩
  | 14 => ⟨S4096x1, .i32⟩
  | 15 => ⟨S4096x1, .i32⟩
  | 16 => ⟨S4096x2, .i32⟩
  | 17 => ⟨S16x4096x128, .f32⟩
  | 18 => ⟨S16x4096x128, .f32⟩
  | 19 => ⟨S4096, .i32⟩
  | 20 => ⟨S_, .i32⟩
  | 21 => ⟨S4096, .i32⟩
  | 22 => ⟨S4096, .i32⟩
  | 23 => ⟨S4096, .f32⟩
  | 24 => ⟨S1x4096x1, .f32⟩
  | 25 => ⟨S16x4096x128, .f32⟩
  | 26 => ⟨S16x4096x128, .f32⟩
  | 27 => ⟨S16x4096x1x128, .f32⟩
  | 28 => ⟨S16x4096x128, .f32⟩
  | 29 => ⟨S16x4096x128, .f32⟩
  | 30 => ⟨S16x4096x1x128, .f32⟩
  | 31 => ⟨S16x4096x1x128, .f32⟩
  | 32 => ⟨S16x4096x1x128, .f32⟩
  | 33 => ⟨S16x4096x1x128, .f32⟩
  | 34 => ⟨S16x4096x4x128, .f32⟩
  | 35 => ⟨S4x128x16x4096, .f32⟩
  | 36 => ⟨S16x4096x4x128, .f32⟩
  | 37 => ⟨S16x4096x512, .f32⟩
  | 38 => ⟨S1x1x512, .f32⟩
  | 39 => ⟨S16x4096x512, .f32⟩
  | 40 => ⟨S16x4096x512, .f32⟩
  | 41 => ⟨S16x4096x512, .f32⟩
  | 42 => ⟨S16x4096x1024, .f32⟩
  | 43 => ⟨S1024x1024, .f32⟩
  | 44 => ⟨S16x4096x1024, .f32⟩
  | 45 => ⟨S1024, .f32⟩
  | 46 => ⟨S16x4096x1024, .f32⟩
  | 47 => ⟨S_, .f32⟩
  | 48 => ⟨S16x4096, .f32⟩
  | 49 => ⟨S16x4096x1, .f32⟩
  | 50 => ⟨S_, .f32⟩
  | 51 => ⟨S16x4096x1, .f32⟩
  | 52 => ⟨S16x4096x1, .f32⟩
  | 53 => ⟨S_, .f32⟩
  | 54 => ⟨S16x4096x1, .f32⟩
  | 55 => ⟨S16x4096x1, .f32⟩
  | 56 => ⟨S16x4096x1, .f32⟩
  | 57 => ⟨S16x4096x1024, .f32⟩
  | 58 => ⟨S16x4096x1024, .f32⟩
  | 59 => ⟨S1x1x1024, .f32⟩
  | 60 => ⟨S16x4096x1024, .f32⟩
  | 61 => ⟨S16x4096x1024, .f32⟩
  | 62 => ⟨S16x4096x1024, .f32⟩
  | 63 => ⟨S1024, .f32⟩
  | 64 => ⟨S16x4096x1024, .f32⟩
  | 65 => ⟨S_, .f32⟩
  | 66 => ⟨S16x4096, .f32⟩
  | 67 => ⟨S16x4096x1, .f32⟩
  | 68 => ⟨S_, .f32⟩
  | 69 => ⟨S16x4096x1, .f32⟩
  | 70 => ⟨S16x4096x1, .f32⟩
  | 71 => ⟨S_, .f32⟩
  | 72 => ⟨S16x4096x1, .f32⟩
  | 73 => ⟨S16x4096x1, .f32⟩
  | 74 => ⟨S16x4096x1, .f32⟩
  | 75 => ⟨S16x4096x1024, .f32⟩
  | 76 => ⟨S16x4096x1024, .f32⟩
  | 77 => ⟨S1x1x1024, .f32⟩
  | 78 => ⟨S16x4096x1024, .f32⟩
  | 79 => ⟨S16x4096x1024, .f32⟩
  | 80 => ⟨S1024x2816, .f32⟩
  | 81 => ⟨S16x4096x2816, .f32⟩
  | 82 => ⟨S16x4096x2816, .f32⟩
  | 83 => ⟨S16x4096x2816, .f32⟩
  | 84 => ⟨S_, .f32⟩
  | 85 => ⟨S16x4096x2816, .f32⟩
  | 86 => ⟨S16x4096x2816, .f32⟩
  | 87 => ⟨S_, .f32⟩
  | 88 => ⟨S16x4096x2816, .f32⟩
  | 89 => ⟨S16x4096x2816, .f32⟩
  | 90 => ⟨S16x4096x2816, .f32⟩
  | 91 => ⟨S1024x2816, .f32⟩
  | 92 => ⟨S16x4096x2816, .f32⟩
  | 93 => ⟨S16x4096x2816, .f32⟩
  | 94 => ⟨S2816x1024, .f32⟩
  | 95 => ⟨S16x4096x1024, .f32⟩
  | 96 => ⟨S1024, .f32⟩
  | 97 => ⟨S16x4096x1024, .f32⟩
  | 98 => ⟨S_, .f32⟩
  | 99 => ⟨S16x4096, .f32⟩
  | 100 => ⟨S16x4096x1, .f32⟩
  | 101 => ⟨S_, .f32⟩
  | 102 => ⟨S16x4096x1, .f32⟩
  | 103 => ⟨S16x4096x1, .f32⟩
  | 104 => ⟨S_, .f32⟩
  | 105 => ⟨S16x4096x1, .f32⟩
  | 106 => ⟨S16x4096x1, .f32⟩
  | 107 => ⟨S16x4096x1, .f32⟩
  | 108 => ⟨S16x4096x1024, .f32⟩
  | 109 => ⟨S16x4096x1024, .f32⟩
  | 110 => ⟨S1x1x1024, .f32⟩
  | 111 => ⟨S16x4096x1024, .f32⟩
  | 112 => ⟨S16x4096x1024, .f32⟩
  | 113 => ⟨S16x4096x1024, .f32⟩
  | 114 => ⟨S16x4096x256, .f32⟩
  | 115 => ⟨S256x1024, .f32⟩
  | 116 => ⟨S16x4096x1024, .f32⟩
  | 117 => ⟨S1024x1024, .f32⟩
  | 118 => ⟨S16x4096x1024, .f32⟩
  | 119 => ⟨S1024, .f32⟩
  | 120 => ⟨S1x1x1024, .f32⟩
  | 121 => ⟨S16x4096x1024, .f32⟩
  | 122 => ⟨S16x4096x1024, .f32⟩
  | 123 => ⟨S16x4096x1024, .f32⟩
  | 124 => ⟨S16x4096x1024, .f32⟩
  | 125 => ⟨S_, .f32⟩
  | 126 => ⟨S16x4096x1024, .f32⟩
  | 127 => ⟨S16x4096x1024, .f32⟩
  | _ => ⟨S16x4096x1024, .f32⟩

abbrev hbmTy0_3 (i : Nat) : BufTy := match i % 128 with
  | 0 => ⟨S_, .f32⟩
  | 1 => ⟨S16x4096x1024, .f32⟩
  | 2 => ⟨S16x4096x1024, .f32⟩
  | 3 => ⟨S16x4096x1024, .f32⟩
  | 4 => ⟨S16x4096x1024, .f32⟩
  | _ => ⟨S16x4096x1024, .f32⟩

abbrev hbmTy (i : Nat) : BufTy := match i / 128 with
  | 0 => hbmTy0_0 i
  | 1 => hbmTy0_1 i
  | 2 => hbmTy0_2 i
  | 3 => hbmTy0_3 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_call0_call0_cst : Ref sig .tc := ⟨.hbm, 21, rfl⟩
abbrev main_call0_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c : Ref sig .tc := ⟨.hbm, 26, rfl⟩
abbrev main_v7 : Ref sig .tc := ⟨.hbm, 27, rfl⟩
abbrev main_v8 : Ref sig .tc := ⟨.hbm, 28, rfl⟩
abbrev main_c_0 : Ref sig .tc := ⟨.hbm, 29, rfl⟩
abbrev main_c_1 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v9 : Ref sig .tc := ⟨.hbm, 36, rfl⟩
abbrev main_c_2 : Ref sig .tc := ⟨.hbm, 37, rfl⟩
abbrev main_v10 : Ref sig .tc := ⟨.hbm, 38, rfl⟩
abbrev main_v11 : Ref sig .tc := ⟨.hbm, 39, rfl⟩
abbrev main_c_3 : Ref sig .tc := ⟨.hbm, 40, rfl⟩
abbrev main_c_4 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v12 : Ref sig .tc := ⟨.hbm, 47, rfl⟩
abbrev main_c_5 : Ref sig .tc := ⟨.hbm, 48, rfl⟩
abbrev main_v13 : Ref sig .tc := ⟨.hbm, 49, rfl⟩
abbrev main_v14 : Ref sig .tc := ⟨.hbm, 50, rfl⟩
abbrev main_c_6 : Ref sig .tc := ⟨.hbm, 51, rfl⟩
abbrev main_v15 : Ref sig .tc := ⟨.hbm, 52, rfl⟩
abbrev main_v16 : Ref sig .tc := ⟨.hbm, 53, rfl⟩
abbrev main_c_7 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_c_8 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_c_9 : Ref sig .tc := ⟨.hbm, 65, rfl⟩
abbrev main_v26 : Ref sig .tc := ⟨.hbm, 66, rfl⟩
abbrev main_v27 : Ref sig .tc := ⟨.hbm, 67, rfl⟩
abbrev main_c_10 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_c_11 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_c_12 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_c_13 : Ref sig .tc := ⟨.hbm, 91, rfl⟩
abbrev main_v48 : Ref sig .tc := ⟨.hbm, 92, rfl⟩
abbrev main_v49 : Ref sig .tc := ⟨.hbm, 93, rfl⟩
abbrev main_c_14 : Ref sig .tc := ⟨.hbm, 94, rfl⟩
abbrev main_c_15 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_v50 : Ref sig .tc := ⟨.hbm, 101, rfl⟩
abbrev main_c_16 : Ref sig .tc := ⟨.hbm, 102, rfl⟩
abbrev main_v51 : Ref sig .tc := ⟨.hbm, 103, rfl⟩
abbrev main_v52 : Ref sig .tc := ⟨.hbm, 104, rfl⟩
abbrev main_c_17 : Ref sig .tc := ⟨.hbm, 105, rfl⟩
abbrev main_c_18 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_call4_v3 : Ref sig .tc := ⟨.hbm, 110, rfl⟩
abbrev main_call4_v4 : Ref sig .tc := ⟨.hbm, 111, rfl⟩
abbrev main_v53 : Ref sig .tc := ⟨.hbm, 112, rfl⟩
abbrev main_c_19 : Ref sig .tc := ⟨.hbm, 113, rfl⟩
abbrev main_v54 : Ref sig .tc := ⟨.hbm, 114, rfl⟩
abbrev main_v55 : Ref sig .tc := ⟨.hbm, 115, rfl⟩
abbrev main_c_20 : Ref sig .tc := ⟨.hbm, 116, rfl⟩
abbrev main_v56 : Ref sig .tc := ⟨.hbm, 117, rfl⟩
abbrev main_v57 : Ref sig .tc := ⟨.hbm, 118, rfl⟩
abbrev main_c_21 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_c_22 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_c_23 : Ref sig .tc := ⟨.hbm, 130, rfl⟩
abbrev main_v67 : Ref sig .tc := ⟨.hbm, 131, rfl⟩
abbrev main_v68 : Ref sig .tc := ⟨.hbm, 132, rfl⟩
abbrev main_c_24 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_c_25 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_c_26 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_c_27 : Ref sig .tc := ⟨.hbm, 156, rfl⟩
abbrev main_v89 : Ref sig .tc := ⟨.hbm, 157, rfl⟩
abbrev main_v90 : Ref sig .tc := ⟨.hbm, 158, rfl⟩
abbrev main_c_28 : Ref sig .tc := ⟨.hbm, 159, rfl⟩
abbrev main_c_29 : Ref sig .tc := ⟨.hbm, 160, rfl⟩
abbrev main_call5_v0 : Ref sig .tc := ⟨.hbm, 161, rfl⟩
abbrev main_call5_v1 : Ref sig .tc := ⟨.hbm, 162, rfl⟩
abbrev main_call5_v2 : Ref sig .tc := ⟨.hbm, 163, rfl⟩
abbrev main_call5_v3 : Ref sig .tc := ⟨.hbm, 164, rfl⟩
abbrev main_call5_v4 : Ref sig .tc := ⟨.hbm, 165, rfl⟩
abbrev main_v91 : Ref sig .tc := ⟨.hbm, 166, rfl⟩
abbrev main_c_30 : Ref sig .tc := ⟨.hbm, 167, rfl⟩
abbrev main_v92 : Ref sig .tc := ⟨.hbm, 168, rfl⟩
abbrev main_v93 : Ref sig .tc := ⟨.hbm, 169, rfl⟩
abbrev main_c_31 : Ref sig .tc := ⟨.hbm, 170, rfl⟩
abbrev main_c_32 : Ref sig .tc := ⟨.hbm, 171, rfl⟩
abbrev main_call6_v0 : Ref sig .tc := ⟨.hbm, 172, rfl⟩
abbrev main_call6_v1 : Ref sig .tc := ⟨.hbm, 173, rfl⟩
abbrev main_call6_v2 : Ref sig .tc := ⟨.hbm, 174, rfl⟩
abbrev main_call6_v3 : Ref sig .tc := ⟨.hbm, 175, rfl⟩
abbrev main_call6_v4 : Ref sig .tc := ⟨.hbm, 176, rfl⟩
abbrev main_v94 : Ref sig .tc := ⟨.hbm, 177, rfl⟩
abbrev main_c_33 : Ref sig .tc := ⟨.hbm, 178, rfl⟩
abbrev main_v95 : Ref sig .tc := ⟨.hbm, 179, rfl⟩
abbrev main_v96 : Ref sig .tc := ⟨.hbm, 180, rfl⟩
abbrev main_c_34 : Ref sig .tc := ⟨.hbm, 181, rfl⟩
abbrev main_v97 : Ref sig .tc := ⟨.hbm, 182, rfl⟩
abbrev main_v98 : Ref sig .tc := ⟨.hbm, 183, rfl⟩
abbrev main_c_35 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_c_36 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_c_37 : Ref sig .tc := ⟨.hbm, 195, rfl⟩
abbrev main_v108 : Ref sig .tc := ⟨.hbm, 196, rfl⟩
abbrev main_v109 : Ref sig .tc := ⟨.hbm, 197, rfl⟩
abbrev main_c_38 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_c_39 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_c_40 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_c_41 : Ref sig .tc := ⟨.hbm, 221, rfl⟩
abbrev main_v130 : Ref sig .tc := ⟨.hbm, 222, rfl⟩
abbrev main_v131 : Ref sig .tc := ⟨.hbm, 223, rfl⟩
abbrev main_c_42 : Ref sig .tc := ⟨.hbm, 224, rfl⟩
abbrev main_c_43 : Ref sig .tc := ⟨.hbm, 225, rfl⟩
abbrev main_call7_v0 : Ref sig .tc := ⟨.hbm, 226, rfl⟩
abbrev main_call7_v1 : Ref sig .tc := ⟨.hbm, 227, rfl⟩
abbrev main_call7_v2 : Ref sig .tc := ⟨.hbm, 228, rfl⟩
abbrev main_call7_v3 : Ref sig .tc := ⟨.hbm, 229, rfl⟩
abbrev main_call7_v4 : Ref sig .tc := ⟨.hbm, 230, rfl⟩
abbrev main_v132 : Ref sig .tc := ⟨.hbm, 231, rfl⟩
abbrev main_c_44 : Ref sig .tc := ⟨.hbm, 232, rfl⟩
abbrev main_v133 : Ref sig .tc := ⟨.hbm, 233, rfl⟩
abbrev main_v134 : Ref sig .tc := ⟨.hbm, 234, rfl⟩
abbrev main_c_45 : Ref sig .tc := ⟨.hbm, 235, rfl⟩
abbrev main_c_46 : Ref sig .tc := ⟨.hbm, 236, rfl⟩
abbrev main_call8_v0 : Ref sig .tc := ⟨.hbm, 237, rfl⟩
abbrev main_call8_v1 : Ref sig .tc := ⟨.hbm, 238, rfl⟩
abbrev main_call8_v2 : Ref sig .tc := ⟨.hbm, 239, rfl⟩
abbrev main_call8_v3 : Ref sig .tc := ⟨.hbm, 240, rfl⟩
abbrev main_call8_v4 : Ref sig .tc := ⟨.hbm, 241, rfl⟩
abbrev main_v135 : Ref sig .tc := ⟨.hbm, 242, rfl⟩
abbrev main_c_47 : Ref sig .tc := ⟨.hbm, 243, rfl⟩
abbrev main_v136 : Ref sig .tc := ⟨.hbm, 244, rfl⟩
abbrev main_v137 : Ref sig .tc := ⟨.hbm, 245, rfl⟩
abbrev main_c_48 : Ref sig .tc := ⟨.hbm, 246, rfl⟩
abbrev main_v138 : Ref sig .tc := ⟨.hbm, 247, rfl⟩
abbrev main_v139 : Ref sig .tc := ⟨.hbm, 248, rfl⟩
abbrev main_c_49 : Ref sig .tc := ⟨.hbm, 249, rfl⟩
abbrev main_v140 : Ref sig .tc := ⟨.hbm, 250, rfl⟩
abbrev main_v141 : Ref sig .tc := ⟨.hbm, 251, rfl⟩
abbrev main_v142 : Ref sig .tc := ⟨.hbm, 252, rfl⟩
abbrev main_c_50 : Ref sig .tc := ⟨.hbm, 253, rfl⟩
abbrev main_v143 : Ref sig .tc := ⟨.hbm, 254, rfl⟩
abbrev main_v144 : Ref sig .tc := ⟨.hbm, 255, rfl⟩
abbrev main_v145 : Ref sig .tc := ⟨.hbm, 256, rfl⟩
abbrev main_v146 : Ref sig .tc := ⟨.hbm, 257, rfl⟩
abbrev main_v147 : Ref sig .tc := ⟨.hbm, 258, rfl⟩
abbrev main_v148 : Ref sig .tc := ⟨.hbm, 259, rfl⟩
abbrev main_c_51 : Ref sig .tc := ⟨.hbm, 260, rfl⟩
abbrev main_v149 : Ref sig .tc := ⟨.hbm, 261, rfl⟩
abbrev main_v150 : Ref sig .tc := ⟨.hbm, 262, rfl⟩
abbrev main_c_52 : Ref sig .tc := ⟨.hbm, 263, rfl⟩
abbrev main_v151 : Ref sig .tc := ⟨.hbm, 264, rfl⟩
abbrev main_v152 : Ref sig .tc := ⟨.hbm, 265, rfl⟩
abbrev main_v153 : Ref sig .tc := ⟨.hbm, 266, rfl⟩
abbrev main_c_53 : Ref sig .tc := ⟨.hbm, 267, rfl⟩
abbrev main_v154 : Ref sig .tc := ⟨.hbm, 268, rfl⟩
abbrev main_v155 : Ref sig .tc := ⟨.hbm, 269, rfl⟩
abbrev main_v156 : Ref sig .tc := ⟨.hbm, 270, rfl⟩
abbrev main_v157 : Ref sig .tc := ⟨.hbm, 271, rfl⟩
abbrev main_v158 : Ref sig .tc := ⟨.hbm, 272, rfl⟩
abbrev main_v159 : Ref sig .tc := ⟨.hbm, 273, rfl⟩
abbrev main_v160 : Ref sig .tc := ⟨.hbm, 274, rfl⟩
abbrev main_v161 : Ref sig .tc := ⟨.hbm, 275, rfl⟩
abbrev main_c_54 : Ref sig .tc := ⟨.hbm, 276, rfl⟩
abbrev main_v162 : Ref sig .tc := ⟨.hbm, 277, rfl⟩
abbrev main_v163 : Ref sig .tc := ⟨.hbm, 278, rfl⟩
abbrev main_v164 : Ref sig .tc := ⟨.hbm, 279, rfl⟩
abbrev main_v165 : Ref sig .tc := ⟨.hbm, 280, rfl⟩
abbrev main_v166 : Ref sig .tc := ⟨.hbm, 281, rfl⟩
abbrev main_v167 : Ref sig .tc := ⟨.hbm, 282, rfl⟩
abbrev main_v168 : Ref sig .tc := ⟨.hbm, 283, rfl⟩
abbrev main_v169 : Ref sig .tc := ⟨.hbm, 284, rfl⟩
abbrev main_v170 : Ref sig .tc := ⟨.hbm, 285, rfl⟩
abbrev main_v171 : Ref sig .tc := ⟨.hbm, 286, rfl⟩
abbrev main_v172 : Ref sig .tc := ⟨.hbm, 287, rfl⟩
abbrev main_v173 : Ref sig .tc := ⟨.hbm, 288, rfl⟩
abbrev main_v174 : Ref sig .tc := ⟨.hbm, 289, rfl⟩
abbrev main_v175 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_v179 : Ref sig .tc := ⟨.hbm, 294, rfl⟩
abbrev main_v180 : Ref sig .tc := ⟨.hbm, 295, rfl⟩
abbrev main_v181 : Ref sig .tc := ⟨.hbm, 296, rfl⟩
abbrev main_v182 : Ref sig .tc := ⟨.hbm, 297, rfl⟩
abbrev main_v183 : Ref sig .tc := ⟨.hbm, 298, rfl⟩
abbrev main_v184 : Ref sig .tc := ⟨.hbm, 299, rfl⟩
abbrev main_v185 : Ref sig .tc := ⟨.hbm, 300, rfl⟩
abbrev main_v186 : Ref sig .tc := ⟨.hbm, 301, rfl⟩
abbrev main_v187 : Ref sig .tc := ⟨.hbm, 302, rfl⟩
abbrev main_cst_55 : Ref sig .tc := ⟨.hbm, 303, rfl⟩
abbrev main_v188 : Ref sig .tc := ⟨.hbm, 304, rfl⟩
abbrev main_v189 : Ref sig .tc := ⟨.hbm, 305, rfl⟩
abbrev main_cst_56 : Ref sig .tc := ⟨.hbm, 306, rfl⟩
abbrev main_v190 : Ref sig .tc := ⟨.hbm, 307, rfl⟩
abbrev main_v191 : Ref sig .tc := ⟨.hbm, 308, rfl⟩
abbrev main_cst_57 : Ref sig .tc := ⟨.hbm, 309, rfl⟩
abbrev main_v192 : Ref sig .tc := ⟨.hbm, 310, rfl⟩
abbrev main_v193 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_v197 : Ref sig .tc := ⟨.hbm, 315, rfl⟩
abbrev main_v198 : Ref sig .tc := ⟨.hbm, 316, rfl⟩
abbrev main_v199 : Ref sig .tc := ⟨.hbm, 317, rfl⟩
abbrev main_v200 : Ref sig .tc := ⟨.hbm, 318, rfl⟩
abbrev main_v201 : Ref sig .tc := ⟨.hbm, 319, rfl⟩
abbrev main_v202 : Ref sig .tc := ⟨.hbm, 320, rfl⟩
abbrev main_cst_58 : Ref sig .tc := ⟨.hbm, 321, rfl⟩
abbrev main_v203 : Ref sig .tc := ⟨.hbm, 322, rfl⟩
abbrev main_v204 : Ref sig .tc := ⟨.hbm, 323, rfl⟩
abbrev main_cst_59 : Ref sig .tc := ⟨.hbm, 324, rfl⟩
abbrev main_v205 : Ref sig .tc := ⟨.hbm, 325, rfl⟩
abbrev main_v206 : Ref sig .tc := ⟨.hbm, 326, rfl⟩
abbrev main_cst_60 : Ref sig .tc := ⟨.hbm, 327, rfl⟩
abbrev main_v207 : Ref sig .tc := ⟨.hbm, 328, rfl⟩
abbrev main_v208 : Ref sig .tc := ⟨.hbm, 329, rfl⟩
abbrev main_v209 : Ref sig .tc := ⟨.hbm, 330, rfl⟩
abbrev main_v210 : Ref sig .tc := ⟨.hbm, 331, rfl⟩
abbrev main_v211 : Ref sig .tc := ⟨.hbm, 332, rfl⟩
abbrev main_v212 : Ref sig .tc := ⟨.hbm, 333, rfl⟩
abbrev main_v213 : Ref sig .tc := ⟨.hbm, 334, rfl⟩
abbrev main_v214 : Ref sig .tc := ⟨.hbm, 335, rfl⟩
abbrev main_v215 : Ref sig .tc := ⟨.hbm, 336, rfl⟩
abbrev main_v216 : Ref sig .tc := ⟨.hbm, 337, rfl⟩
abbrev main_call9_v0 : Ref sig .tc := ⟨.hbm, 338, rfl⟩
abbrev main_call9_v1 : Ref sig .tc := ⟨.hbm, 339, rfl⟩
abbrev main_call9_cst : Ref sig .tc := ⟨.hbm, 340, rfl⟩
abbrev main_call9_v2 : Ref sig .tc := ⟨.hbm, 341, rfl⟩
abbrev main_call9_v3 : Ref sig .tc := ⟨.hbm, 342, rfl⟩
abbrev main_call9_cst_0 : Ref sig .tc := ⟨.hbm, 343, rfl⟩
abbrev main_call9_v4 : Ref sig .tc := ⟨.hbm, 344, rfl⟩
abbrev main_call9_v5 : Ref sig .tc := ⟨.hbm, 345, rfl⟩
abbrev main_v217 : Ref sig .tc := ⟨.hbm, 346, rfl⟩
abbrev main_v218 : Ref sig .tc := ⟨.hbm, 347, rfl⟩
abbrev main_v219 : Ref sig .tc := ⟨.hbm, 348, rfl⟩
abbrev main_v220 : Ref sig .tc := ⟨.hbm, 349, rfl⟩
abbrev main_v221 : Ref sig .tc := ⟨.hbm, 350, rfl⟩
abbrev main_v222 : Ref sig .tc := ⟨.hbm, 351, rfl⟩
abbrev main_v223 : Ref sig .tc := ⟨.hbm, 352, rfl⟩
abbrev main_v224 : Ref sig .tc := ⟨.hbm, 353, rfl⟩
abbrev main_cst_61 : Ref sig .tc := ⟨.hbm, 354, rfl⟩
abbrev main_v225 : Ref sig .tc := ⟨.hbm, 355, rfl⟩
abbrev main_v226 : Ref sig .tc := ⟨.hbm, 356, rfl⟩
abbrev main_cst_62 : Ref sig .tc := ⟨.hbm, 357, rfl⟩
abbrev main_v227 : Ref sig .tc := ⟨.hbm, 358, rfl⟩
abbrev main_v228 : Ref sig .tc := ⟨.hbm, 359, rfl⟩
abbrev main_cst_63 : Ref sig .tc := ⟨.hbm, 360, rfl⟩
abbrev main_v229 : Ref sig .tc := ⟨.hbm, 361, rfl⟩
abbrev main_v230 : Ref sig .tc := ⟨.hbm, 362, rfl⟩
abbrev main_v231 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_v235 : Ref sig .tc := ⟨.hbm, 367, rfl⟩
abbrev main_v236 : Ref sig .tc := ⟨.hbm, 368, rfl⟩
abbrev main_v237 : Ref sig .tc := ⟨.hbm, 369, rfl⟩
abbrev main_v238 : Ref sig .tc := ⟨.hbm, 370, rfl⟩
abbrev main_v239 : Ref sig .tc := ⟨.hbm, 371, rfl⟩
abbrev main_v240 : Ref sig .tc := ⟨.hbm, 372, rfl⟩
abbrev main_v241 : Ref sig .tc := ⟨.hbm, 373, rfl⟩
abbrev main_v242 : Ref sig .tc := ⟨.hbm, 374, rfl⟩
abbrev main_v243 : Ref sig .tc := ⟨.hbm, 375, rfl⟩
abbrev main_v244 : Ref sig .tc := ⟨.hbm, 376, rfl⟩
abbrev main_v245 : Ref sig .tc := ⟨.hbm, 377, rfl⟩
abbrev main_v246 : Ref sig .tc := ⟨.hbm, 378, rfl⟩
abbrev main_v247 : Ref sig .tc := ⟨.hbm, 379, rfl⟩
abbrev main_v248 : Ref sig .tc := ⟨.hbm, 380, rfl⟩
abbrev main_cst_64 : Ref sig .tc := ⟨.hbm, 381, rfl⟩
abbrev main_v249 : Ref sig .tc := ⟨.hbm, 382, rfl⟩
abbrev main_v250 : Ref sig .tc := ⟨.hbm, 383, rfl⟩
abbrev main_cst_65 : Ref sig .tc := ⟨.hbm, 384, rfl⟩
abbrev main_v251 : Ref sig .tc := ⟨.hbm, 385, rfl⟩
abbrev main_v252 : Ref sig .tc := ⟨.hbm, 386, rfl⟩
abbrev main_v253 : Ref sig .tc := ⟨.hbm, 387, rfl⟩
abbrev main_v254 : Ref sig .tc := ⟨.hbm, 388, rfl⟩

abbrev nD : Nat := 1
abbrev τ : Topo := Topo.v7x

variable {F : FTy → Type} [FloatOps F]
-- ==== Kernel3.lean ====
abbrev S16x4096x1024 : Shape := ⟨3, ![16, 4096, 1024]⟩
abbrev S1x1024 : Shape := ⟨2, ![1, 1024]⟩
abbrev S1x1024x1280 : Shape := ⟨3, ![1, 1024, 1280]⟩
abbrev S1x64 : Shape := ⟨2, ![1, 64]⟩
abbrev S768 : Shape := ⟨1, ![768]⟩
abbrev S64 : Shape := ⟨1, ![64]⟩
abbrev S1024x1280 : Shape := ⟨2, ![1024, 1280]⟩
abbrev S1024 : Shape := ⟨1, ![1024]⟩
abbrev S1024x512 : Shape := ⟨2, ![1024, 512]⟩
abbrev S_ : Shape := ⟨0, ![]⟩
abbrev S768x1 : Shape := ⟨2, ![768, 1]⟩
abbrev S1024x768 : Shape := ⟨2, ![1024, 768]⟩
abbrev S768x1024 : Shape := ⟨2, ![768, 1024]⟩
abbrev S64x1 : Shape := ⟨2, ![64, 1]⟩
abbrev S64x64 : Shape := ⟨2, ![64, 64]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S32x4096 : Shape := ⟨2, ![32, 4096]⟩
abbrev S16x4096x512 : Shape := ⟨3, ![16, 4096, 512]⟩
abbrev S16x512x4096 : Shape := ⟨3, ![16, 512, 4096]⟩
abbrev S16x4096x128 : Shape := ⟨3, ![16, 4096, 128]⟩
abbrev S16x128x4096 : Shape := ⟨3, ![16, 128, 4096]⟩
abbrev S1x1024x1024 : Shape := ⟨3, ![1, 1024, 1024]⟩
abbrev S32x1024 : Shape := ⟨2, ![32, 1024]⟩
abbrev S1x1024x512 : Shape := ⟨3, ![1, 1024, 512]⟩
abbrev S1x512x1024 : Shape := ⟨3, ![1, 512, 1024]⟩
abbrev S1x1024x128 : Shape := ⟨3, ![1, 1024, 128]⟩
abbrev S1x128x1024 : Shape := ⟨3, ![1, 128, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S1x256x512 : Shape := ⟨3, ![1, 256, 512]⟩
abbrev S768x256 : Shape := ⟨2, ![768, 256]⟩
abbrev S32x256 : Shape := ⟨2, ![32, 256]⟩
abbrev S64x256 : Shape := ⟨2, ![64, 256]⟩
abbrev S1x256 : Shape := ⟨2, ![1, 256]⟩
abbrev S1x64x256 : Shape := ⟨3, ![1, 64, 256]⟩
abbrev S128x256 : Shape := ⟨2, ![128, 256]⟩
abbrev S256x128 : Shape := ⟨2, ![256, 128]⟩
abbrev S1x256x128 : Shape := ⟨3, ![1, 256, 128]⟩
abbrev S1x128x256 : Shape := ⟨3, ![1, 128, 256]⟩

abbrev nBuf : Space → Nat
  | .hbm => 81
  | .vmem => 19
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S1x1024x1280, .f32⟩
  | .hbm, ⟨3, _⟩ => ⟨S1x64, .f32⟩
  | .hbm, ⟨4, _⟩ => ⟨S1x64, .f32⟩
  | .hbm, ⟨5, _⟩ => ⟨S768, .i32⟩
  | .hbm, ⟨6, _⟩ => ⟨S768, .i1⟩
  | .hbm, ⟨7, _⟩ => ⟨S64, .i32⟩
  | .hbm, ⟨8, _⟩ => ⟨S64, .i1⟩
  | .hbm, ⟨9, _⟩ => ⟨S64, .i1⟩
  | .hbm, ⟨10, _⟩ => ⟨S1024x1280, .f32⟩
  | .hbm, ⟨11, _⟩ => ⟨S1024, .f32⟩
  | .hbm, ⟨12, _⟩ => ⟨S1x1024, .f32⟩
  | .hbm, ⟨13, _⟩ => ⟨S1024x512, .f32⟩
  | .hbm, ⟨14, _⟩ => ⟨S1024x512, .bf16⟩
  | .hbm, ⟨15, _⟩ => ⟨S_, .i32⟩
  | .hbm, ⟨16, _⟩ => ⟨S768, .i32⟩
  | .hbm, ⟨17, _⟩ => ⟨S768, .i32⟩
  | .hbm, ⟨18, _⟩ => ⟨S768, .i32⟩
  | .hbm, ⟨19, _⟩ => ⟨S768x1, .i32⟩
  | .hbm, ⟨20, _⟩ => ⟨S1024x768, .f32⟩
  | .hbm, ⟨21, _⟩ => ⟨S768x1024, .f32⟩
  | .hbm, ⟨22, _⟩ => ⟨S768x1024, .bf16⟩
  | .hbm, ⟨23, _⟩ => ⟨S64, .f32⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S64, .i32⟩
  | .hbm, ⟨28, _⟩ => ⟨S64x1, .i32⟩
  | .hbm, ⟨29, _⟩ => ⟨S64, .f32⟩
  | .hbm, ⟨30, _⟩ => ⟨S64x1, .f32⟩
  | .hbm, ⟨31, _⟩ => ⟨S64, .f32⟩
  | .hbm, ⟨32, _⟩ => ⟨S_, .i32⟩
  | .hbm, ⟨33, _⟩ => ⟨S64, .i32⟩
  | .hbm, ⟨34, _⟩ => ⟨S64, .i32⟩
  | .hbm, ⟨35, _⟩ => ⟨S64, .i32⟩
  | .hbm, ⟨36, _⟩ => ⟨S64x1, .i32⟩
  | .hbm, ⟨37, _⟩ => ⟨S64, .f32⟩
  | .hbm, ⟨38, _⟩ => ⟨S64x1, .f32⟩
  | .hbm, ⟨39, _⟩ => ⟨S64, .f32⟩
  | .hbm, ⟨40, _⟩ => ⟨S64x64, .f32⟩
  | .hbm, ⟨41, _⟩ => ⟨S4096, .f32⟩
  | .hbm, ⟨42, _⟩ => ⟨S64, .f32⟩
  | .hbm, ⟨43, _⟩ => ⟨S1x64, .f32⟩
  | .hbm, ⟨44, _⟩ => ⟨S64x64, .f32⟩
  | .hbm, ⟨45, _⟩ => ⟨S4096, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S4096x1, .f32⟩
  | .hbm, ⟨63, _⟩ => ⟨S1x16, .f32⟩
  | .hbm, ⟨64, _⟩ => ⟨S4096x16, .f32⟩
  | .hbm, ⟨65, _⟩ => ⟨S4096x16, .f32⟩
  | .hbm, ⟨66, _⟩ => ⟨S4096x16, .f32⟩
  | .hbm, ⟨67, _⟩ => ⟨S4096x1, .f32⟩
  | .hbm, ⟨68, _⟩ => ⟨S1x16, .f32⟩
  | .hbm, ⟨69, _⟩ => ⟨S4096x16, .f32⟩
  | .hbm, ⟨70, _⟩ => ⟨S4096x16, .f32⟩
  | .hbm, ⟨71, _⟩ => ⟨S4096x16, .f32⟩
  | .hbm, ⟨72, _⟩ => ⟨S4096x32, .f32⟩
  | .hbm, ⟨73, _⟩ => ⟨S4096x32, .f32⟩
  | .hbm, ⟨74, _⟩ => ⟨S32x4096, .f32⟩
  | .hbm, ⟨75, _⟩ => ⟨S4096x32, .f32⟩
  | .hbm, ⟨76, _⟩ => ⟨S32x4096, .f32⟩
  | .hbm, ⟨77, _⟩ => ⟨S16x4096x512, .f32⟩
  | .hbm, ⟨78, _⟩ => ⟨S16x512x4096, .bf16⟩
  | .hbm, ⟨79, _⟩ => ⟨S16x4096x128, .bf16⟩
  | .hbm, ⟨80, _⟩ => ⟨S16x128x4096, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x512, .bf16⟩
  | .local _ .vmem, ⟨4, _⟩ => ⟨S768x1024, .bf16⟩
  | .local _ .vmem, ⟨5, _⟩ => ⟨S64x1, .f32⟩
  | .local _ .vmem, ⟨6, _⟩ => ⟨S64x1, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S1x1024x512, .f32⟩
  | .local _ .vmem, ⟨12, _⟩ => ⟨S1x1024x512, .f32⟩
  | .local _ .vmem, ⟨13, _⟩ => ⟨S1x512x1024, .bf16⟩
  | .local _ .vmem, ⟨14, _⟩ => ⟨S1x512x1024, .bf16⟩
  | .local _ .vmem, ⟨15, _⟩ => ⟨S1x1024x128, .bf16⟩
  | .local _ .vmem, ⟨16, _⟩ => ⟨S1x1024x128, .bf16⟩
  | .local _ .vmem, ⟨17, _⟩ => ⟨S1x128x1024, .bf16⟩
  | .local _ .vmem, ⟨18, _⟩ => ⟨S1x128x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_5 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59_0 : Ref sig .tc := ⟨.hbm, 77, rfl⟩
abbrev main_v59_1 : Ref sig .tc := ⟨.hbm, 78, rfl⟩
abbrev main_v59_2 : Ref sig .tc := ⟨.hbm, 79, rfl⟩
abbrev main_v59_3 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel3Ideal.lean ====
variable {F : FTy → Type} [FloatOps F] [Named F]
def κ : String → Option EReal := fun
  | "q_scale" => some (((1 / 8) * (Real.log 2)⁻¹ : ℝ) : EReal)
  | _ => none
-- ==== Reference3Ideal.lean ====
abbrev S16x4096x1024 : Shape := ⟨3, ![16, 4096, 1024]⟩
abbrev S1x1024 : Shape := ⟨2, ![1, 1024]⟩
abbrev S1x1024x1280 : Shape := ⟨3, ![1, 1024, 1280]⟩
abbrev S1x64 : Shape := ⟨2, ![1, 64]⟩
abbrev S64 : Shape := ⟨1, ![64]⟩
abbrev S64x64 : Shape := ⟨2, ![64, 64]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S1024 : Shape := ⟨1, ![1024]⟩
abbrev S16x4096 : Shape := ⟨2, ![16, 4096]⟩
abbrev S16x4096x1 : Shape := ⟨3, ![16, 4096, 1]⟩
abbrev S1x1x1024 : Shape := ⟨3, ![1, 1, 1024]⟩
abbrev S1024x1280 : Shape := ⟨2, ![1024, 1280]⟩
abbrev S16x4096x1280 : Shape := ⟨3, ![16, 4096, 1280]⟩
abbrev S16x4096x512 : Shape := ⟨3, ![16, 4096, 512]⟩
abbrev S16x4096x8x64 : Shape := ⟨4, ![16, 4096, 8, 64]⟩
abbrev S16x4096x128 : Shape := ⟨3, ![16, 4096, 128]⟩
abbrev S16x4096x2x64 : Shape := ⟨4, ![16, 4096, 2, 64]⟩
abbrev S16x4096x8 : Shape := ⟨3, ![16, 4096, 8]⟩
abbrev S16x4096x8x1 : Shape := ⟨4, ![16, 4096, 8, 1]⟩
abbrev S1x1x1x64 : Shape := ⟨4, ![1, 1, 1, 64]⟩
abbrev S16x4096x8x32x2 : Shape := ⟨5, ![16, 4096, 8, 32, 2]⟩
abbrev S16x4096x8x32x1 : Shape := ⟨5, ![16, 4096, 8, 32, 1]⟩
abbrev S16x4096x8x32 : Shape := ⟨4, ![16, 4096, 8, 32]⟩
abbrev S1x4096x1x32 : Shape := ⟨4, ![1, 4096, 1, 32]⟩
abbrev S16x4096x8x1x32 : Shape := ⟨5, ![16, 4096, 8, 1, 32]⟩
abbrev S16x4096x8x2x32 : Shape := ⟨5, ![16, 4096, 8, 2, 32]⟩
abbrev S16x4096x2 : Shape := ⟨3, ![16, 4096, 2]⟩
abbrev S16x4096x2x1 : Shape := ⟨4, ![16, 4096, 2, 1]⟩
abbrev S16x4096x2x32x2 : Shape := ⟨5, ![16, 4096, 2, 32, 2]⟩
abbrev S16x4096x2x32x1 : Shape := ⟨5, ![16, 4096, 2, 32, 1]⟩
abbrev S16x4096x2x32 : Shape := ⟨4, ![16, 4096, 2, 32]⟩
abbrev S16x4096x2x1x32 : Shape := ⟨5, ![16, 4096, 2, 1, 32]⟩
abbrev S16x4096x2x2x32 : Shape := ⟨5, ![16, 4096, 2, 2, 32]⟩
abbrev S16x512x4096 : Shape := ⟨3, ![16, 512, 4096]⟩
abbrev S16x128x4096 : Shape := ⟨3, ![16, 128, 4096]⟩

abbrev nBuf : Space → Nat
  | .hbm => 154
  | .vmem => 0
  | .smem => 0
  | _ => 0

abbrev hbmTy0_0 (i : Nat) : BufTy := match i % 128 with
  | 0 => ⟨S16x4096x1024, .f32⟩
  | 1 => ⟨S1x1024, .f32⟩
  | 2 => ⟨S1x1024x1280, .f32⟩
  | 3 => ⟨S1x64, .f32⟩
  | 4 => ⟨S1x64, .f32⟩
  | 5 => ⟨S64, .f32⟩
  | 6 => ⟨S64x64, .f32⟩
  | 7 => ⟨S4096, .f32⟩
  | 8 => ⟨S64, .f32⟩
  | 9 => ⟨S1x64, .f32⟩
  | 10 => ⟨S64x64, .f32⟩
  | 11 => ⟨S4096, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S_, .f32⟩
  | 26 => ⟨S16, .f32⟩
  | 27 => ⟨S16, .f32⟩
  | 28 => ⟨S4096x1, .f32⟩
  | 29 => ⟨S1x16, .f32⟩
  | 30 => ⟨S4096x16, .f32⟩
  | 31 => ⟨S4096x16, .f32⟩
  | 32 => ⟨S4096x16, .f32⟩
  | 33 => ⟨S4096x1, .f32⟩
  | 34 => ⟨S1x16, .f32⟩
  | 35 => ⟨S4096x16, .f32⟩
  | 36 => ⟨S4096x16, .f32⟩
  | 37 => ⟨S4096x16, .f32⟩
  | 38 => ⟨S4096x32, .f32⟩
  | 39 => ⟨S4096x32, .f32⟩
  | 40 => ⟨S4096x32, .f32⟩
  | 41 => ⟨S1024, .f32⟩
  | 42 => ⟨S16x4096x1024, .f32⟩
  | 43 => ⟨S_, .f32⟩
  | 44 => ⟨S16x4096, .f32⟩
  | 45 => ⟨S16x4096x1, .f32⟩
  | 46 => ⟨S_, .f32⟩
  | 47 => ⟨S16x4096x1, .f32⟩
  | 48 => ⟨S16x4096x1, .f32⟩
  | 49 => ⟨S_, .f32⟩
  | 50 => ⟨S16x4096x1, .f32⟩
  | 51 => ⟨S16x4096x1, .f32⟩
  | 52 => ⟨S16x4096x1, .f32⟩
  | 53 => ⟨S16x4096x1024, .f32⟩
  | 54 => ⟨S16x4096x1024, .f32⟩
  | 55 => ⟨S1x1x1024, .f32⟩
  | 56 => ⟨S16x4096x1024, .f32⟩
  | 57 => ⟨S16x4096x1024, .f32⟩
  | 58 => ⟨S1024x1280, .f32⟩
  | 59 => ⟨S16x4096x1280, .f32⟩
  | 60 => ⟨S16x4096x512, .f32⟩
  | 61 => ⟨S16x4096x512, .f32⟩
  | 62 => ⟨S16x4096x8x64, .f32⟩
  | 63 => ⟨S16x4096x128, .f32⟩
  | 64 => ⟨S16x4096x2x64, .f32⟩
  | 65 => ⟨S16x4096x128, .f32⟩
  | 66 => ⟨S64, .f32⟩
  | 67 => ⟨S16x4096x8x64, .f32⟩
  | 68 => ⟨S_, .f32⟩
  | 69 => ⟨S16x4096x8, .f32⟩
  | 70 => ⟨S16x4096x8x1, .f32⟩
  | 71 => ⟨S_, .f32⟩
  | 72 => ⟨S16x4096x8x1, .f32⟩
  | 73 => ⟨S16x4096x8x1, .f32⟩
  | 74 => ⟨S_, .f32⟩
  | 75 => ⟨S16x4096x8x1, .f32⟩
  | 76 => ⟨S16x4096x8x1, .f32⟩
  | 77 => ⟨S16x4096x8x1, .f32⟩
  | 78 => ⟨S16x4096x8x64, .f32⟩
  | 79 => ⟨S16x4096x8x64, .f32⟩
  | 80 => ⟨S1x1x1x64, .f32⟩
  | 81 => ⟨S16x4096x8x64, .f32⟩
  | 82 => ⟨S16x4096x8x64, .f32⟩
  | 83 => ⟨S16x4096x8x32x2, .f32⟩
  | 84 => ⟨S16x4096x8x32x1, .f32⟩
  | 85 => ⟨S16x4096x8x32, .f32⟩
  | 86 => ⟨S16x4096x8x32x1, .f32⟩
  | 87 => ⟨S16x4096x8x32, .f32⟩
  | 88 => ⟨S1x4096x1x32, .f32⟩
  | 89 => ⟨S1x4096x1x32, .f32⟩
  | 90 => ⟨S16x4096x8x32, .f32⟩
  | 91 => ⟨S16x4096x8x32, .f32⟩
  | 92 => ⟨S16x4096x8x32, .f32⟩
  | 93 => ⟨S16x4096x8x32, .f32⟩
  | 94 => ⟨S16x4096x8x32, .f32⟩
  | 95 => ⟨S16x4096x8x32, .f32⟩
  | 96 => ⟨S16x4096x8x32, .f32⟩
  | 97 => ⟨S16x4096x8x32, .f32⟩
  | 98 => ⟨S16x4096x8x32, .f32⟩
  | 99 => ⟨S16x4096x8x32, .f32⟩
  | 100 => ⟨S16x4096x8x1x32, .f32⟩
  | 101 => ⟨S16x4096x8x1x32, .f32⟩
  | 102 => ⟨S16x4096x8x2x32, .f32⟩
  | 103 => ⟨S_, .f32⟩
  | 104 => ⟨S16x4096x8x2x32, .f32⟩
  | 105 => ⟨S16x4096x8x2x32, .f32⟩
  | 106 => ⟨S_, .f32⟩
  | 107 => ⟨S_, .f32⟩
  | 108 => ⟨S16x4096x8x2x32, .f32⟩
  | 109 => ⟨S16x4096x8x2x32, .f32⟩
  | 110 => ⟨S64, .f32⟩
  | 111 => ⟨S16x4096x2x64, .f32⟩
  | 112 => ⟨S_, .f32⟩
  | 113 => ⟨S16x4096x2, .f32⟩
  | 114 => ⟨S16x4096x2x1, .f32⟩
  | 115 => ⟨S_, .f32⟩
  | 116 => ⟨S16x4096x2x1, .f32⟩
  | 117 => ⟨S16x4096x2x1, .f32⟩
  | 118 => ⟨S_, .f32⟩
  | 119 => ⟨S16x4096x2x1, .f32⟩
  | 120 => ⟨S16x4096x2x1, .f32⟩
  | 121 => ⟨S16x4096x2x1, .f32⟩
  | 122 => ⟨S16x4096x2x64, .f32⟩
  | 123 => ⟨S16x4096x2x64, .f32⟩
  | 124 => ⟨S1x1x1x64, .f32⟩
  | 125 => ⟨S16x4096x2x64, .f32⟩
  | 126 => ⟨S16x4096x2x64, .f32⟩
  | 127 => ⟨S16x4096x2x32x2, .f32⟩
  | _ => ⟨S16x4096x1024, .f32⟩

abbrev hbmTy0_1 (i : Nat) : BufTy := match i % 128 with
  | 0 => ⟨S16x4096x2x32x1, .f32⟩
  | 1 => ⟨S16x4096x2x32, .f32⟩
  | 2 => ⟨S16x4096x2x32x1, .f32⟩
  | 3 => ⟨S16x4096x2x32, .f32⟩
  | 4 => ⟨S1x4096x1x32, .f32⟩
  | 5 => ⟨S1x4096x1x32, .f32⟩
  | 6 => ⟨S16x4096x2x32, .f32⟩
  | 7 => ⟨S16x4096x2x32, .f32⟩
  | 8 => ⟨S16x4096x2x32, .f32⟩
  | 9 => ⟨S16x4096x2x32, .f32⟩
  | 10 => ⟨S16x4096x2x32, .f32⟩
  | 11 => ⟨S16x4096x2x32, .f32⟩
  | 12 => ⟨S16x4096x2x32, .f32⟩
  | 13 => ⟨S16x4096x2x32, .f32⟩
  | 14 => ⟨S16x4096x2x32, .f32⟩
  | 15 => ⟨S16x4096x2x32, .f32⟩
  | 16 => ⟨S16x4096x2x1x32, .f32⟩
  | 17 => ⟨S16x4096x2x1x32, .f32⟩
  | 18 => ⟨S16x4096x2x2x32, .f32⟩
  | 19 => ⟨S16x4096x512, .f32⟩
  | 20 => ⟨S16x512x4096, .f32⟩
  | 21 => ⟨S16x512x4096, .bf16⟩
  | 22 => ⟨S16x4096x128, .f32⟩
  | 23 => ⟨S16x4096x128, .bf16⟩
  | 24 => ⟨S16x128x4096, .f32⟩
  | 25 => ⟨S16x128x4096, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_7 : Ref sig .tc := ⟨.hbm, 68, rfl⟩
abbrev main_v55 : Ref sig .tc := ⟨.hbm, 69, rfl⟩
abbrev main_v56 : Ref sig .tc := ⟨.hbm, 70, rfl⟩
abbrev main_cst_8 : Ref sig .tc := ⟨.hbm, 71, rfl⟩
abbrev main_v57 : Ref sig .tc := ⟨.hbm, 72, rfl⟩
abbrev main_v58 : Ref sig .tc := ⟨.hbm, 73, rfl⟩
abbrev main_cst_9 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_cst_10 : Ref sig .tc := ⟨.hbm, 103, rfl⟩
abbrev main_v87 : Ref sig .tc := ⟨.hbm, 104, rfl⟩
abbrev main_v88 : Ref sig .tc := ⟨.hbm, 105, rfl⟩
abbrev main_cst_11 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_cst_12 : Ref sig .tc := ⟨.hbm, 112, rfl⟩
abbrev main_v94 : Ref sig .tc := ⟨.hbm, 113, rfl⟩
abbrev main_v95 : Ref sig .tc := ⟨.hbm, 114, rfl⟩
abbrev main_cst_13 : Ref sig .tc := ⟨.hbm, 115, rfl⟩
abbrev main_v96 : Ref sig .tc := ⟨.hbm, 116, rfl⟩
abbrev main_v97 : Ref sig .tc := ⟨.hbm, 117, rfl⟩
abbrev main_cst_14 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩

abbrev nD : Nat := 1
abbrev τ : Topo := Topo.v7x

variable {F : FTy → Type} [FloatOps F]
-- ==== Proof.Finite.lean ====
/- The precondition, read: every query and every key is a real number. -/
module

public import proofs.«01_k».proof.Pre_finite
public import Idealize.ShloMosaic.Lib.Pointwise
public import Idealize.ShloMosaic.Lib.ReduceAll

@[expose] public section

noncomputable section

namespace Cert.Finite

open Cert.Pre_finite Idealize.ShloMosaic

/-- The shape relations of the predicate. -/
theorem facts : Cert.Pre_finite.Facts := by
  constructor <;> decide

/-- A value whose distance from zero is below infinity is a real number. -/
theorem real_of_lt (x : EReal) (h : BitVec.ofBool (decide (max x (-x) < Ideal.ofBits .f32 0x7F800000#32)) = 1#1) :
    ∃ r : ℝ, x = (r : EReal) := by
  have htop : Ideal.ofBits .f32 0x7F800000#32 = ⊤ := by simp [Ideal.ofBits, Ideal.ieee]
  rw [htop] at h
  have hlt : max x (-x) < ⊤ := by
    by_contra hn
    rw [decide_eq_false hn] at h
    exact absurd h (by decide)
  induction x with
  | bot => simp at hlt
  | top => simp at hlt
  | coe r => exact ⟨r, rfl⟩

variable [Facts]

instance : Subsingleton S_.Idx := ⟨fun _ _ => funext fun a => a.elim0⟩

/-- The predicate says it of every query and of every key. -/
theorem elements (q : FVec Ideal S16x4096x8x64 .f32) (k v : FVec Ideal S16x4096x2x64 .f32)
    (h : Cert.Pre_finite.fn q k v = fun _ => 1#1) :
    (∀ i, ∃ r : ℝ, q i = (r : EReal)) ∧ (∀ i, ∃ r : ℝ, k i = (r : EReal)) := by
  have h0 := congrFun h ix0
  dsimp only [Cert.Pre_finite.fn] at h0
  obtain ⟨hq, hk⟩ := IntOp.andi_eq_one.1 h0
  exact ⟨fun i => real_of_lt _ (Host.reduce_andi_all _ _ _ _ _ hq i), fun i => real_of_lt _ (Host.reduce_andi_all _ _ _ _ _ hk i)⟩

end Cert.Finite

end
-- ==== Proof.Tile.lean ====
/- One item of the attention kernel's body: one head's 64 rows of queries against all 4096 keys and values, written once
   as a function of the blocks it reads. The body computes this function 32 times (four groups of 256 queries, eight heads). -/
module

public import proofs.«01_k».proof.Proof.Gen.KernelIdeal.Skeleton

@[expose] public section

noncomputable section

namespace Cert.KernelIdeal.Tile

open Cert.KernelIdeal Cert.KernelIdeal.Gen Idealize.ShloMosaic

variable {F : FTy → Type} [FloatOps F]

/-- A head's queries as 128 rows: its own 64 in the half of its group, zeros in the other half. -/
def padded (second : Bool) (q : Vec F S1x64x256 .bf16) : FVec F S128x256 .bf16 :=
  bif second then
    concatenate S128x256 0 [⟨S64x256, broadcast S64x256 (Scalar.ofBits .bf16 0x0000#16 : F .bf16)⟩,
      ⟨S64x256, shapeCast S64x256 q shapeCasts_S1x64x256_S64x256⟩] concatenates_S64x256_S64x256_S128x256_d0
  else
    concatenate S128x256 0 [⟨S64x256, shapeCast S64x256 q shapeCasts_S1x64x256_S64x256⟩,
      ⟨S64x256, broadcast S64x256 (Scalar.ofBits .bf16 0x0000#16 : F .bf16)⟩] concatenates_S64x256_S64x256_S128x256_d0

/-- The scores of 2048 keys. -/
def score (w : FVec F S128x256 .bf16) (k : Vec F S1x2048x128 .bf16) : FVec F S2048x256 .f32 :=
  matmul dot_S2048x128_S128x256_S2048x256_1_0_0_1_n_n none (shapeCast S2048x128 k shapeCasts_S1x2048x128_S2048x128) w
    (constant S2048x256 .f32 0x00000000#32)

/-- The greatest of 2048 scores, in eight classes. -/
def foldMax (s : FVec F S2048x256 .f32) : FVec F S8x256 .f32 :=
  multiReduction .maximumf [0] S8x256 (shapeCast S256x8x256 s shapeCasts_S2048x256_S256x8x256) 0xFF800000#32
    reduces_S256x8x256_S8x256 (.inl rfl) rfl

/-- The greatest score of all 4096 keys, repeated over eight rows. -/
def rowMax (s0 s1 : FVec F S2048x256 .f32) : FVec F S8x256 .f32 :=
  broadcastTo S8x256 (shapeCast S1x256 (shapeCast S1x256
    (multiReduction .maximumf [0] S256 (maximumf (foldMax s0) (foldMax s1)) 0xFF800000#32 reduces_S8x256_S256 (.inl rfl) rfl)
    shapeCasts_S256_S1x256) shapeCasts_S1x256_S1x256) broadcasts_S1x256_S8x256

/-- The weights of 2048 keys: two to the score less the greatest score. -/
def weight (mb : FVec F S8x256 .f32) (s : Vec F S1x2048x256 .f32) : FVec F S256x8x256 .f32 :=
  exp2 (subf (shapeCast S256x8x256 (shapeCast S2048x256 s shapeCasts_S1x2048x256_S2048x256) shapeCasts_S2048x256_S256x8x256)
    (broadcastTo S256x8x256 (shapeCast S1x8x256 mb shapeCasts_S8x256_S1x8x256) broadcasts_S1x8x256_S256x8x256))

/-- The sum of 2048 weights, in eight classes. -/
def foldSum (p : FVec F S256x8x256 .f32) : FVec F S8x256 .f32 :=
  multiReduction .add [0] S8x256 p 0x00000000#32 reduces_S256x8x256_S8x256 (.inl rfl) rfl

/-- The values of 2048 keys, weighted. -/
def weighted (v : Vec F S1x64x2048 .bf16) (p : FVec F S256x8x256 .f32) : FVec F S64x256 .f32 :=
  matmul dot_S64x2048_S2048x256_S64x256_1_0_0_1_n_n none (shapeCast S64x2048 v shapeCasts_S1x64x2048_S64x2048)
    (truncf .bf16 (shapeCast S2048x256 p shapeCasts_S256x8x256_S2048x256) bitsLt_bf16_f32) (constant S64x256 .f32 0x00000000#32)

/-- The weighted values over the sum of the weights. -/
def quotient (p0 p1 : FVec F S256x8x256 .f32) (v0 v1 : Vec F S1x64x2048 .bf16) : FVec F S64x256 .f32 :=
  divf (addf (addf (broadcast S64x256 (Scalar.ofBits .f32 0x00000000#32 : F .f32)) (weighted v0 p0)) (weighted v1 p1))
    (broadcastTo S64x256 (shapeCast S1x256
      (multiReduction .add [0] S256
        (addf (addf (broadcast S8x256 (Scalar.ofBits .f32 0x00000000#32 : F .f32)) (foldSum p0)) (foldSum p1))
        0x00000000#32 reduces_S8x256_S256 (.inl rfl) rfl) shapeCasts_S256_S1x256) broadcasts_S1x256_S64x256)

/-- A score tile as the scratch holds it. -/
def stored (s : FVec F S2048x256 .f32) : Vec F S1x2048x256 .f32 := shapeCast S1x2048x256 s shapeCasts_S2048x256_S1x2048x256

/-- One item from its two score tiles. -/
def ofScores (s0 s1 : FVec F S2048x256 .f32) (v0 v1 : Vec F S1x64x2048 .bf16) : FVec F S64x256 .f32 :=
  quotient (weight (rowMax s0 s1) (stored s0)) (weight (rowMax s0 s1) (stored s1)) v0 v1

/-- One item: one head's 256 queries against 4096 keys and values, in two chunks. -/
def item (second : Bool) (q : Vec F S1x64x256 .bf16) (k0 k1 : Vec F S1x2048x128 .bf16) (v0 v1 : Vec F S1x64x2048 .bf16) :
    FVec F S64x256 .f32 :=
  ofScores (score (padded second q) k0) (score (padded second q) k1) v0 v1

/-- Eight heads' results as 256 rows of the output. -/
def rows (o0 o1 o2 o3 o4 o5 o6 o7 : FVec F S64x256 .f32) : FVec F S1x256x512 .bf16 :=
  shapeCast S1x256x512 (truncf .bf16 (transpose S256x512 [1, 0]
    (concatenate S512x256 0 [⟨S64x256, o0⟩, ⟨S64x256, o1⟩, ⟨S64x256, o2⟩, ⟨S64x256, o3⟩, ⟨S64x256, o4⟩, ⟨S64x256, o5⟩,
      ⟨S64x256, o6⟩, ⟨S64x256, o7⟩]
      concatenates_S64x256_S64x256_S64x256_S64x256_S64x256_S64x256_S64x256_S64x256_S512x256_d0)
    transposes_S512x256_p1_0_S256x512) bitsLt_bf16_f32) shapeCasts_S256x512_S1x256x512

end Cert.KernelIdeal.Tile

end
-- ==== Proof.Block.lean ====
/- What one grid point leaves in its output block, as four groups of rows, each of eight items. -/
module

public import proofs.«01_k».proof.Proof.Gen.KernelIdeal.Frame
public import proofs.«01_k».proof.Proof.Tile
public import Idealize.ShloMosaic.Lib.Pipeline.ReadBack
public import Idealize.ShloMosaic.Lib.Pipeline.Value

@[expose] public section

noncomputable section

namespace Cert.KernelIdeal.Block

open Cert.KernelIdeal Cert.KernelIdeal.Gen Cert.KernelIdeal.Tile Idealize.ShloMosaic Idealize.ShloMosaic.TcCoe

variable {F : FTy → Type} [FloatOps F]

/-- Head `h`'s queries of group `g` in the point's query block. -/
def qOf (x0 : Vec F S1x512x1024 .bf16) (g : Fin 4) (h : Fin 8) : Vec F S1x64x256 .bf16 :=
  View.ld x0 (Rect.unit ![0, h.val * 64, g.val * 256] S1x64x256.size (by
    intro a; have := g.isLt; have := h.isLt; fin_cases a <;> simp [S1x64x256, S1x512x1024] <;> omega))

/-- The keys of chunk `a`. -/
def kOf (x1 : Vec F S1x4096x128 .bf16) (a : Fin 2) : Vec F S1x2048x128 .bf16 :=
  View.ld x1 (Rect.unit ![0, a.val * 2048, 0] S1x2048x128.size (by
    intro b; have := a.isLt; fin_cases b <;> simp [S1x2048x128, S1x4096x128] <;> omega))

/-- Head `h`'s values of chunk `a`. -/
def vOf (x2 : Vec F S1x128x4096 .bf16) (h : Fin 8) (a : Fin 2) : Vec F S1x64x2048 .bf16 :=
  View.ld x2 (Rect.unit ![0, h.val / 4 * 64, a.val * 2048] S1x64x2048.size (by
    intro b; have := a.isLt; have := h.isLt; fin_cases b <;> simp [S1x64x2048, S1x128x4096] <;> omega))

/-- Group `g`, head `h`. -/
def itemOf (x0 : Vec F S1x512x1024 .bf16) (x1 : Vec F S1x4096x128 .bf16) (x2 : Vec F S1x128x4096 .bf16) (g : Fin 4) (h : Fin 8) :
    FVec F S64x256 .f32 :=
  item (decide (4 ≤ h.val)) (qOf x0 g h) (kOf x1 0) (kOf x1 1) (vOf x2 h 0) (vOf x2 h 1)

/-- Group `g`'s 256 rows. -/
def rowsOf (x0 : Vec F S1x512x1024 .bf16) (x1 : Vec F S1x4096x128 .bf16) (x2 : Vec F S1x128x4096 .bf16) (g : Fin 4) :
    FVec F S1x256x512 .bf16 :=
  rows (itemOf x0 x1 x2 g 0) (itemOf x0 x1 x2 g 1) (itemOf x0 x1 x2 g 2) (itemOf x0 x1 x2 g 3) (itemOf x0 x1 x2 g 4)
    (itemOf x0 x1 x2 g 5) (itemOf x0 x1 x2 g 6) (itemOf x0 x1 x2 g 7)

variable (c : Dev nD) (i : grid0.Coords) (arg2 : Memref sig .tc .vmem S1x512x1024 .bf16) (harg2 : arg2.IsWhole) (arg3 : Memref sig .tc .vmem S1x4096x128 .bf16) (harg3 : arg3.IsWhole) (arg4 : Memref sig .tc .vmem S1x128x4096 .bf16) (harg4 : arg4.IsWhole) (arg5 : Memref sig .tc .vmem S1x1024x512 .bf16) (harg5 : arg5.IsWhole) (arg6 : Memref sig .tc .vmem S2x4096x256 .f32) (harg6 : arg6.IsWhole)
    (x0 : Vec F S1x512x1024 .bf16) (x1 : Vec F S1x4096x128 .bf16) (x2 : Vec F S1x128x4096 .bf16)

set_option maxRecDepth 20000
set_option maxHeartbeats 4000000
/-- The stores that a point leaves in its output block, last first: the four groups' rows. -/
theorem pieces : (kernelRun0_A c i arg2 harg2 arg3 harg3 arg4 harg4 arg5 harg5 arg6 harg6 x0 x1 x2).1 =
    [⟨Rect.unit ![0, 768, 0] S1x256x512.size inb_S1x1024x512_S1x256x512_0_768_0, rowsOf x0 x1 x2 3⟩,
     ⟨Rect.unit ![0, 512, 0] S1x256x512.size inb_S1x1024x512_S1x256x512_0_512_0, rowsOf x0 x1 x2 2⟩,
     ⟨Rect.unit ![0, 256, 0] S1x256x512.size inb_S1x1024x512_S1x256x512_0_256_0, rowsOf x0 x1 x2 1⟩,
     ⟨Rect.unit ![0, 0, 0] S1x256x512.size inb_S1x1024x512_S1x256x512_0_0_0, rowsOf x0 x1 x2 0⟩] := by
  unfold kernelRun0_A
  dsimp only
  simp only [ kernelRun0_A.sl.r, kernelRun0_A.sl.r_1, kernelRun0_A.sl.r_2, kernelRun0_A.sl.r_3, kernelRun0_A.sl.r_4, kernelRun0_A.sl.r_5, kernelRun0_A.sl.r_6,
      kernelRun0_A.sl.r_7, kernelRun0_A.sl.r_8, kernelRun0_A.sl.r_9, kernelRun0_A.sl.r_10, kernelRun0_A.sl.r_11, kernelRun0_A.sl.r_12,
      kernelRun0_A.sl.r_13, kernelRun0_A.sl.r_14, kernelRun0_A.sl.r_15, kernelRun0_A.sl.r_16, kernelRun0_A.sl.r_17, kernelRun0_A.sl.r_18,
      kernelRun0_A.sl.r_19, kernelRun0_A.sl.r_20, kernelRun0_A.sl.r_21, kernelRun0_A.sl.r_22, kernelRun0_A.sl.r_23, kernelRun0_A.sl.r_24,
      kernelRun0_A.sl.r_25, kernelRun0_A.sl.r_26, kernelRun0_A.sl.r_27, kernelRun0_A.sl.r_28, kernelRun0_A.sl.r_29, kernelRun0_A.sl.r_30,
      kernelRun0_A.sl.r_31, kernelRun0_A.sl.r_32, kernelRun0_A.sl.r_33, kernelRun0_A.sl.r_34, kernelRun0_A.sl.r_35, kernelRun0_A.sl.r_36,
      kernelRun0_A.sl.r_37, kernelRun0_A.sl.r_38, kernelRun0_A.sl.r_39, kernelRun0_A.sl.r_40, kernelRun0_A.sl.r_41, kernelRun0_A.sl.r_42,
      kernelRun0_A.sl.r_43, kernelRun0_A.sl.r_44, kernelRun0_A.sl.r_45, kernelRun0_A.sl.r_46, kernelRun0_A.sl.r_47, kernelRun0_A.sl.r_48,
      kernelRun0_A.sl.r_49, kernelRun0_A.sl.r_50, kernelRun0_A.sl.r_51, kernelRun0_A.sl.r_52, kernelRun0_A.sl.r_53, kernelRun0_A.sl.r_54,
      kernelRun0_A.sl.r_55, kernelRun0_A.sl.r_56, kernelRun0_A.sl.r_57, kernelRun0_A.sl.r_58, kernelRun0_A.sl.r_59, kernelRun0_A.sl.r_60,
      kernelRun0_A.sl.r_61, kernelRun0_A.sl.r_62, kernelRun0_A.sl.r_63, kernelRun0_A.sl.r_64, kernelRun0_A.sl.r_65, kernelRun0_A.sl.r_66,
      kernelRun0_A.sl.r_67, kernelRun0_A.sl.r_68, kernelRun0_A.sl.r_69, kernelRun0_A.sl.r_70, kernelRun0_A.sl.r_71, kernelRun0_A.sl.r_72,
      kernelRun0_A.sl.r_73, kernelRun0_A.sl.r_74, kernelRun0_A.sl.r_75, kernelRun0_A.sl.r_76, kernelRun0_A.sl.r_77, kernelRun0_A.sl.r_78,
      kernelRun0_A.sl.r_79, kernelRun0_A.sl.r_80, kernelRun0_A.sl.r_81, kernelRun0_A.sl.r_82, kernelRun0_A.sl.r_83, kernelRun0_A.sl.r_84,
      kernelRun0_A.sl.r_85, kernelRun0_A.sl.r_86, kernelRun0_A.sl.r_87, kernelRun0_A.sl.r_88, kernelRun0_A.sl.r_89, kernelRun0_A.sl.r_90,
      kernelRun0_A.sl.r_91, kernelRun0_A.sl.r_92, kernelRun0_A.sl.r_93, kernelRun0_A.sl.r_94, kernelRun0_A.sl.r_95, kernelRun0_A.sl.r_96,
      kernelRun0_A.sl.r_97, kernelRun0_A.sl.r_98, kernelRun0_A.sl.r_99, kernelRun0_A.sl.r_100, kernelRun0_A.sl.r_101, kernelRun0_A.sl.r_102,
      kernelRun0_A.sl.r_103, kernelRun0_A.sl.r_104, kernelRun0_A.sl.r_105, kernelRun0_A.sl.r_106, kernelRun0_A.sl.r_107, kernelRun0_A.sl.r_108,
      kernelRun0_A.sl.r_109, kernelRun0_A.sl.r_110, kernelRun0_A.sl.r_111, kernelRun0_A.sl.r_112, kernelRun0_A.sl.r_113, kernelRun0_A.sl.r_114,
      kernelRun0_A.sl.r_115, kernelRun0_A.sl.r_116, kernelRun0_A.sl.r_117, kernelRun0_A.sl.r_118, kernelRun0_A.sl.r_119, kernelRun0_A.sl.r_120,
      kernelRun0_A.sl.r_121, kernelRun0_A.sl.r_122, kernelRun0_A.sl.r_123, kernelRun0_A.sl.r_124, kernelRun0_A.sl.r_125, kernelRun0_A.sl.r_126,
      kernelRun0_A.sl.r_127, kernelRun0_A.sl.r_128, kernelRun0_A.sl.r_129, kernelRun0_A.sl.r_130, kernelRun0_A.sl.r_131, kernelRun0_A.sl.r_132,
      kernelRun0_A.sl.r_133, kernelRun0_A.sl.r_134, kernelRun0_A.sl.r_135, kernelRun0_A.sl.r_136, kernelRun0_A.sl.r_137, kernelRun0_A.sl.r_138,
      kernelRun0_A.sl.r_139, kernelRun0_A.sl.r_140, kernelRun0_A.sl.r_141, kernelRun0_A.sl.r_142, kernelRun0_A.sl.r_143, kernelRun0_A.sl.r_144,
      kernelRun0_A.sl.r_145, kernelRun0_A.sl.r_146, kernelRun0_A.sl.r_147, kernelRun0_A.sl.r_148, kernelRun0_A.sl.r_149, kernelRun0_A.sl.r_150,
      kernelRun0_A.sl.r_151, kernelRun0_A.sl.r_152, kernelRun0_A.sl.r_153, kernelRun0_A.sl.r_154, kernelRun0_A.sl.r_155, kernelRun0_A.sl.r_156,
      kernelRun0_A.sl.r_157, kernelRun0_A.sl.r_158, kernelRun0_A.sl.r_159, kernelRun0_A.sl.r_160, kernelRun0_A.sl.r_161, kernelRun0_A.sl.r_162,
      kernelRun0_A.sl.r_163, kernelRun0_A.sl.r_164, kernelRun0_A.sl.r_165, kernelRun0_A.sl.r_166, kernelRun0_A.sl.r_167, kernelRun0_A.sl.r_168,
      kernelRun0_A.sl.r_169, kernelRun0_A.sl.r_170, kernelRun0_A.sl.r_171, kernelRun0_A.sl.r_172, kernelRun0_A.sl.r_173, kernelRun0_A.sl.r_174,
      kernelRun0_A.sl.r_175, kernelRun0_A.sl.r_176, kernelRun0_A.sl.r_177, kernelRun0_A.sl.r_178, kernelRun0_A.sl.r_179, kernelRun0_A.sl.r_180,
      kernelRun0_A.sl.r_181, kernelRun0_A.sl.r_182, kernelRun0_A.sl.r_183, kernelRun0_A.sl.r_184, kernelRun0_A.sl.r_185, kernelRun0_A.sl.r_186,
      kernelRun0_A.sl.r_187, kernelRun0_A.sl.r_188, kernelRun0_A.sl.r_189, kernelRun0_A.sl.r_190, kernelRun0_A.sl.r_191, kernelRun0_A.sl.r_192,
      kernelRun0_A.sl.r_193, kernelRun0_A.sl.r_194, kernelRun0_A.sl.r_195, kernelRun0_A.sl.r_196, kernelRun0_A.sl.r_197, kernelRun0_A.sl.r_198,
      kernelRun0_A.sl.r_199, kernelRun0_A.sl.r_200, kernelRun0_A.sl.r_201, kernelRun0_A.sl.r_202, kernelRun0_A.sl.r_203, kernelRun0_A.sl.r_204,
      kernelRun0_A.sl.r_205, kernelRun0_A.sl.r_206, kernelRun0_A.sl.r_207, kernelRun0_A.sl.r_208, kernelRun0_A.sl.r_209, kernelRun0_A.sl.r_210,
      kernelRun0_A.sl.r_211, kernelRun0_A.sl.r_212, kernelRun0_A.sl.r_213, kernelRun0_A.sl.r_214, kernelRun0_A.sl.r_215, kernelRun0_A.sl.r_216,
      kernelRun0_A.sl.r_217, kernelRun0_A.sl.r_218, kernelRun0_A.sl.r_219, kernelRun0_A.sl.r_220, kernelRun0_A.sl.r_221, kernelRun0_A.sl.r_222,
      kernelRun0_A.sl.r_223, kernelRun0_A.sl.r_224, kernelRun0_A.sl.r_225, kernelRun0_A.sl.r_226, kernelRun0_A.sl.cst_294, kernelRun0_A.sl.cst_181,
      kernelRun0_A.sl.cst_830, kernelRun0_A.sl.cst_1131]
  simp only [ kernelRun0_A.sl.v39, kernelRun0_A.sl.v63, kernelRun0_A.sl.v100, kernelRun0_A.sl.v124, kernelRun0_A.sl.v161, kernelRun0_A.sl.v185,
      kernelRun0_A.sl.v222, kernelRun0_A.sl.v246, kernelRun0_A.sl.v283, kernelRun0_A.sl.v307, kernelRun0_A.sl.v344, kernelRun0_A.sl.v368,
      kernelRun0_A.sl.v405, kernelRun0_A.sl.v429, kernelRun0_A.sl.v466, kernelRun0_A.sl.v490, kernelRun0_A.sl.v527, kernelRun0_A.sl.v551,
      kernelRun0_A.sl.v588, kernelRun0_A.sl.v612, kernelRun0_A.sl.v649, kernelRun0_A.sl.v673, kernelRun0_A.sl.v710, kernelRun0_A.sl.v734,
      kernelRun0_A.sl.v771, kernelRun0_A.sl.v795, kernelRun0_A.sl.v832, kernelRun0_A.sl.v856, kernelRun0_A.sl.v893, kernelRun0_A.sl.v917,
      kernelRun0_A.sl.v954, kernelRun0_A.sl.v978, kernelRun0_A.sl.v1015, kernelRun0_A.sl.v1039, kernelRun0_A.sl.v1076, kernelRun0_A.sl.v1100,
      kernelRun0_A.sl.v1137, kernelRun0_A.sl.v1161, kernelRun0_A.sl.v1198, kernelRun0_A.sl.v1222, kernelRun0_A.sl.v1259, kernelRun0_A.sl.v1283,
      kernelRun0_A.sl.v1320, kernelRun0_A.sl.v1344, kernelRun0_A.sl.v1381, kernelRun0_A.sl.v1405, kernelRun0_A.sl.v1442, kernelRun0_A.sl.v1466,
      kernelRun0_A.sl.v1503, kernelRun0_A.sl.v1527, kernelRun0_A.sl.v1564, kernelRun0_A.sl.v1588, kernelRun0_A.sl.v1625, kernelRun0_A.sl.v1649,
      kernelRun0_A.sl.v1686, kernelRun0_A.sl.v1710, kernelRun0_A.sl.v1747, kernelRun0_A.sl.v1771, kernelRun0_A.sl.v1803, kernelRun0_A.sl.v1808,
      kernelRun0_A.sl.v1832, kernelRun0_A.sl.v1869, kernelRun0_A.sl.v1893, kernelRun0_A.sl.v1918, kernelRun0_A.sl.v1933]
  simp only [ kernelRun0_A.sl.HS0_3, kernelRun0_A.sl.HS0_4, kernelRun0_A.sl.HS0_5, kernelRun0_A.sl.HS0_6, kernelRun0_A.sl.HS0_7, kernelRun0_A.sl.HS0_8,
      kernelRun0_A.sl.HS0_9, kernelRun0_A.sl.HS0_10, kernelRun0_A.sl.HS0_11, kernelRun0_A.sl.HS0_12, kernelRun0_A.sl.HS0_13, kernelRun0_A.sl.HS0_14,
      kernelRun0_A.sl.HS0_15, kernelRun0_A.sl.HS0_16, kernelRun0_A.sl.HS0_17, kernelRun0_A.sl.HS0_18, kernelRun0_A.sl.HS0_19, kernelRun0_A.sl.HS0_20,
      kernelRun0_A.sl.HS0_21, kernelRun0_A.sl.HS0_22, kernelRun0_A.sl.HS0_23, kernelRun0_A.sl.HS0_24, kernelRun0_A.sl.HS0_25, kernelRun0_A.sl.HS0_26,
      kernelRun0_A.sl.HS0_27, kernelRun0_A.sl.HS0_28, kernelRun0_A.sl.HS0_29, kernelRun0_A.sl.HS0_30, kernelRun0_A.sl.HS0_31, kernelRun0_A.sl.HS0_32,
      kernelRun0_A.sl.HS0_33, kernelRun0_A.sl.HS0_34, kernelRun0_A.sl.HS0_35, kernelRun0_A.sl.HS0_36, kernelRun0_A.sl.HS0_37, kernelRun0_A.sl.HS0_38,
      kernelRun0_A.sl.HS0_39, kernelRun0_A.sl.HS0_40, kernelRun0_A.sl.HS0_41, kernelRun0_A.sl.HS0_42, kernelRun0_A.sl.HS0_43, kernelRun0_A.sl.HS0_44,
      kernelRun0_A.sl.HS0_45, kernelRun0_A.sl.HS0_46, kernelRun0_A.sl.HS0_47, kernelRun0_A.sl.HS0_48, kernelRun0_A.sl.HS0_49, kernelRun0_A.sl.HS0_50,
      kernelRun0_A.sl.HS0_51, kernelRun0_A.sl.HS0_52, kernelRun0_A.sl.HS0_53, kernelRun0_A.sl.HS0_54, kernelRun0_A.sl.HS0_55, kernelRun0_A.sl.HS0_56,
      kernelRun0_A.sl.HS0_57, kernelRun0_A.sl.HS0_58, kernelRun0_A.sl.HS0_59, kernelRun0_A.sl.HS0_60, kernelRun0_A.sl.HS0_61, kernelRun0_A.sl.HS0_62,
      kernelRun0_A.sl.HS0_63, kernelRun0_A.sl.HS0_64]
  simp (disch := decide) only [↓View.readCov_skip, ↓View.readCov_cons_toLoadRect]
  simp only [ kernelRun0_A.sl.r, kernelRun0_A.sl.r_1, kernelRun0_A.sl.r_2, kernelRun0_A.sl.r_3, kernelRun0_A.sl.r_4, kernelRun0_A.sl.r_5, kernelRun0_A.sl.r_6,
      kernelRun0_A.sl.r_7, kernelRun0_A.sl.r_8, kernelRun0_A.sl.r_9, kernelRun0_A.sl.r_10, kernelRun0_A.sl.r_11, kernelRun0_A.sl.r_12,
      kernelRun0_A.sl.r_13, kernelRun0_A.sl.r_14, kernelRun0_A.sl.r_15, kernelRun0_A.sl.r_16, kernelRun0_A.sl.r_17, kernelRun0_A.sl.r_18,
      kernelRun0_A.sl.r_19, kernelRun0_A.sl.r_20, kernelRun0_A.sl.r_21, kernelRun0_A.sl.r_22, kernelRun0_A.sl.r_23, kernelRun0_A.sl.r_24,
      kernelRun0_A.sl.r_25, kernelRun0_A.sl.r_26, kernelRun0_A.sl.r_27, kernelRun0_A.sl.r_28, kernelRun0_A.sl.r_29, kernelRun0_A.sl.r_30,
      kernelRun0_A.sl.r_31, kernelRun0_A.sl.r_32, kernelRun0_A.sl.r_33, kernelRun0_A.sl.r_34, kernelRun0_A.sl.r_35, kernelRun0_A.sl.r_36,
      kernelRun0_A.sl.r_37, kernelRun0_A.sl.r_38, kernelRun0_A.sl.r_39, kernelRun0_A.sl.r_40, kernelRun0_A.sl.r_41, kernelRun0_A.sl.r_42,
      kernelRun0_A.sl.r_43, kernelRun0_A.sl.r_44, kernelRun0_A.sl.r_45, kernelRun0_A.sl.r_46, kernelRun0_A.sl.r_47, kernelRun0_A.sl.r_48,
      kernelRun0_A.sl.r_49, kernelRun0_A.sl.r_50, kernelRun0_A.sl.r_51, kernelRun0_A.sl.r_52, kernelRun0_A.sl.r_53, kernelRun0_A.sl.r_54,
      kernelRun0_A.sl.r_55, kernelRun0_A.sl.r_56, kernelRun0_A.sl.r_57, kernelRun0_A.sl.r_58, kernelRun0_A.sl.r_59, kernelRun0_A.sl.r_60,
      kernelRun0_A.sl.r_61, kernelRun0_A.sl.r_62, kernelRun0_A.sl.r_63, kernelRun0_A.sl.r_64, kernelRun0_A.sl.r_65, kernelRun0_A.sl.r_66,
      kernelRun0_A.sl.r_67, kernelRun0_A.sl.r_68, kernelRun0_A.sl.r_69, kernelRun0_A.sl.r_70, kernelRun0_A.sl.r_71, kernelRun0_A.sl.r_72,
      kernelRun0_A.sl.r_73, kernelRun0_A.sl.r_74, kernelRun0_A.sl.r_75, kernelRun0_A.sl.r_76, kernelRun0_A.sl.r_77, kernelRun0_A.sl.r_78,
      kernelRun0_A.sl.r_79, kernelRun0_A.sl.r_80, kernelRun0_A.sl.r_81, kernelRun0_A.sl.r_82, kernelRun0_A.sl.r_83, kernelRun0_A.sl.r_84,
      kernelRun0_A.sl.r_85, kernelRun0_A.sl.r_86, kernelRun0_A.sl.r_87, kernelRun0_A.sl.r_88, kernelRun0_A.sl.r_89, kernelRun0_A.sl.r_90,
      kernelRun0_A.sl.r_91, kernelRun0_A.sl.r_92, kernelRun0_A.sl.r_93, kernelRun0_A.sl.r_94, kernelRun0_A.sl.r_95, kernelRun0_A.sl.r_96,
      kernelRun0_A.sl.r_97, kernelRun0_A.sl.r_98, kernelRun0_A.sl.r_99, kernelRun0_A.sl.r_100, kernelRun0_A.sl.r_101, kernelRun0_A.sl.r_102,
      kernelRun0_A.sl.r_103, kernelRun0_A.sl.r_104, kernelRun0_A.sl.r_105, kernelRun0_A.sl.r_106, kernelRun0_A.sl.r_107, kernelRun0_A.sl.r_108,
      kernelRun0_A.sl.r_109, kernelRun0_A.sl.r_110, kernelRun0_A.sl.r_111, kernelRun0_A.sl.r_112, kernelRun0_A.sl.r_113, kernelRun0_A.sl.r_114,
      kernelRun0_A.sl.r_115, kernelRun0_A.sl.r_116, kernelRun0_A.sl.r_117, kernelRun0_A.sl.r_118, kernelRun0_A.sl.r_119, kernelRun0_A.sl.r_120,
      kernelRun0_A.sl.r_121, kernelRun0_A.sl.r_122, kernelRun0_A.sl.r_123, kernelRun0_A.sl.r_124, kernelRun0_A.sl.r_125, kernelRun0_A.sl.r_126,
      kernelRun0_A.sl.r_127, kernelRun0_A.sl.r_128, kernelRun0_A.sl.r_129, kernelRun0_A.sl.r_130, kernelRun0_A.sl.r_131, kernelRun0_A.sl.r_132,
      kernelRun0_A.sl.r_133, kernelRun0_A.sl.r_134, kernelRun0_A.sl.r_135, kernelRun0_A.sl.r_136, kernelRun0_A.sl.r_137, kernelRun0_A.sl.r_138,
      kernelRun0_A.sl.r_139, kernelRun0_A.sl.r_140, kernelRun0_A.sl.r_141, kernelRun0_A.sl.r_142, kernelRun0_A.sl.r_143, kernelRun0_A.sl.r_144,
      kernelRun0_A.sl.r_145, kernelRun0_A.sl.r_146, kernelRun0_A.sl.r_147, kernelRun0_A.sl.r_148, kernelRun0_A.sl.r_149, kernelRun0_A.sl.r_150,
      kernelRun0_A.sl.r_151, kernelRun0_A.sl.r_152, kernelRun0_A.sl.r_153, kernelRun0_A.sl.r_154, kernelRun0_A.sl.r_155, kernelRun0_A.sl.r_156,
      kernelRun0_A.sl.r_157, kernelRun0_A.sl.r_158, kernelRun0_A.sl.r_159, kernelRun0_A.sl.r_160, kernelRun0_A.sl.r_161, kernelRun0_A.sl.r_162,
      kernelRun0_A.sl.r_163, kernelRun0_A.sl.r_164, kernelRun0_A.sl.r_165, kernelRun0_A.sl.r_166, kernelRun0_A.sl.r_167, kernelRun0_A.sl.r_168,
      kernelRun0_A.sl.r_169, kernelRun0_A.sl.r_170, kernelRun0_A.sl.r_171, kernelRun0_A.sl.r_172, kernelRun0_A.sl.r_173, kernelRun0_A.sl.r_174,
      kernelRun0_A.sl.r_175, kernelRun0_A.sl.r_176, kernelRun0_A.sl.r_177, kernelRun0_A.sl.r_178, kernelRun0_A.sl.r_179, kernelRun0_A.sl.r_180,
      kernelRun0_A.sl.r_181, kernelRun0_A.sl.r_182, kernelRun0_A.sl.r_183, kernelRun0_A.sl.r_184, kernelRun0_A.sl.r_185, kernelRun0_A.sl.r_186,
      kernelRun0_A.sl.r_187, kernelRun0_A.sl.r_188, kernelRun0_A.sl.r_189, kernelRun0_A.sl.r_190, kernelRun0_A.sl.r_191, kernelRun0_A.sl.r_192,
      kernelRun0_A.sl.r_193, kernelRun0_A.sl.r_194, kernelRun0_A.sl.r_195, kernelRun0_A.sl.r_196, kernelRun0_A.sl.r_197, kernelRun0_A.sl.r_198,
      kernelRun0_A.sl.r_199, kernelRun0_A.sl.r_200, kernelRun0_A.sl.r_201, kernelRun0_A.sl.r_202, kernelRun0_A.sl.r_203, kernelRun0_A.sl.r_204,
      kernelRun0_A.sl.r_205, kernelRun0_A.sl.r_206, kernelRun0_A.sl.r_207, kernelRun0_A.sl.r_208, kernelRun0_A.sl.r_209, kernelRun0_A.sl.r_210,
      kernelRun0_A.sl.r_211, kernelRun0_A.sl.r_212, kernelRun0_A.sl.r_213, kernelRun0_A.sl.r_214, kernelRun0_A.sl.r_215, kernelRun0_A.sl.r_216,
      kernelRun0_A.sl.r_217, kernelRun0_A.sl.r_218, kernelRun0_A.sl.r_219, kernelRun0_A.sl.r_220, kernelRun0_A.sl.r_221, kernelRun0_A.sl.r_222,
      kernelRun0_A.sl.r_223, kernelRun0_A.sl.r_224, kernelRun0_A.sl.r_225, kernelRun0_A.sl.r_226, View.readAt_eq_ld, harg2.read_unread, harg3.read_unread, harg4.read_unread]
  rfl

end Cert.KernelIdeal.Block

end
-- ==== Proof.Softmax.lean ====
/- The mathematics of the claim: weights taken in base two of scores divided by log 2, the weighted sum divided once by the
   sum of the weights, is softmax attention. -/
module

public import Idealize.ShloMosaic.PureOps.Ideal
public import Idealize.ShloMosaic.PureOps.Ideal.Laws

@[expose] public section

noncomputable section

namespace Cert.Softmax

open Idealize.ShloMosaic

variable {ι : Type} [Fintype ι]

/-- Attention with weights in base two: the weighted sum of the values over the sum of the weights. -/
def attend (S V : ι → EReal) : EReal :=
  Ideal.div (∑ s, V s * Ideal.exp2 (S s - Finset.univ.sup S)) (∑ s, Ideal.exp2 (S s - Finset.univ.sup S))

/-- Attention as the reference writes it: the softmax weights first, then the weighted sum. -/
def soft (T V : ι → EReal) : EReal :=
  ∑ s, V s * Ideal.div (Ideal.exp (T s - Finset.univ.sup T)) (∑ s', Ideal.exp (T s' - Finset.univ.sup T))

/-- A sum of reals, read in the extended reals. -/
theorem coe_sum (f : ι → ℝ) (A : Finset ι) : ((∑ s ∈ A, f s : ℝ) : EReal) = ∑ s ∈ A, (f s : EReal) := by
  classical
  induction A using Finset.induction_on with
  | empty => simp
  | insert a A ha ih => rw [Finset.sum_insert ha, Finset.sum_insert ha, EReal.coe_add, ih]

/-- A factor that is a nonnegative real goes through a sum of extended reals. -/
theorem sum_mul_coe (f : ι → EReal) (r : ℝ) (hr : 0 ≤ r) (A : Finset ι) :
    (∑ s ∈ A, f s) * (r : EReal) = ∑ s ∈ A, f s * (r : EReal) := by
  classical
  induction A using Finset.induction_on with
  | empty => simp
  | insert a A ha ih =>
    rw [Finset.sum_insert ha, Finset.sum_insert ha, ← ih]
    exact EReal.right_distrib_of_nonneg_of_ne_top (by exact_mod_cast hr) (EReal.coe_ne_top r) _ _

/-- The greatest of finitely many reals is one of them. -/
theorem sup_coe [Nonempty ι] (t : ι → ℝ) : ∃ m, (∀ s, t s ≤ t m) ∧ Finset.univ.sup (fun s => (t s : EReal)) = (t m : EReal) := by
  obtain ⟨m, -, hm⟩ := Finset.exists_max_image Finset.univ t Finset.univ_nonempty
  refine ⟨m, fun s => hm s (Finset.mem_univ s), le_antisymm (Finset.sup_le fun s hs => ?_) ?_⟩
  · exact_mod_cast hm s hs
  · exact Finset.le_sup (f := fun s => (t s : EReal)) (Finset.mem_univ m)

/-- Two to a real over log 2 is e to the real. -/
theorem two_pow (x : ℝ) : Real.rpow 2 (x * (Real.log 2)⁻¹) = Real.exp x := by
  have h2 : Real.log 2 ≠ 0 := (Real.log_pos (by norm_num)).ne'
  show (2 : ℝ) ^ (x * (Real.log 2)⁻¹) = _
  rw [Real.rpow_def_of_pos (by norm_num)]
  congr 1
  field_simp

/-- On real scores the two are one function, whatever the values are. -/
theorem attend_eq_soft [Nonempty ι] (t : ι → ℝ) (S T V : ι → EReal) (hT : ∀ s, T s = (t s : EReal))
    (hS : ∀ s, S s = ((t s * (Real.log 2)⁻¹ : ℝ) : EReal)) : attend S V = soft T V := by
  obtain rfl : T = fun s => (t s : EReal) := funext hT
  obtain rfl : S = fun s => ((t s * (Real.log 2)⁻¹ : ℝ) : EReal) := funext hS
  obtain ⟨m, hm, em⟩ := sup_coe t
  obtain ⟨m', hm', em'⟩ := sup_coe fun s => t s * (Real.log 2)⁻¹
  have hl : 0 < (Real.log 2)⁻¹ := inv_pos.mpr (Real.log_pos (by norm_num))
  have e : t m' = t m := le_antisymm (hm m') (le_of_mul_le_mul_right (hm' m) hl)
  set w : ι → ℝ := fun s => Real.exp (t s - t m)
  have hpos : 0 < ∑ s, w s := Finset.sum_pos (fun s _ => Real.exp_pos _) Finset.univ_nonempty
  have h2 : ∀ s, Ideal.exp2 (((t s * (Real.log 2)⁻¹ : ℝ) : EReal) - Finset.univ.sup fun s => ((t s * (Real.log 2)⁻¹ : ℝ) : EReal))
      = (w s : EReal) := by
    intro s
    rw [em', ← EReal.coe_sub, Ideal.exp2_coe, e, ← sub_mul, two_pow]
  have h1 : ∀ s, Ideal.exp ((t s : EReal) - Finset.univ.sup fun s => (t s : EReal)) = (w s : EReal) := by
    intro s
    rw [em, ← EReal.coe_sub, Ideal.exp_coe]
  unfold attend soft
  simp only [h1, h2]
  rw [← coe_sum]
  have hd : ∀ x : EReal, Ideal.div x ((∑ s, w s : ℝ) : EReal) = x * (((∑ s, w s)⁻¹ : ℝ) : EReal) := by
    intro x
    unfold Ideal.div
    rw [if_neg (by exact_mod_cast hpos.ne'), EReal.coe_inv]
  simp only [hd]
  rw [sum_mul_coe _ _ (inv_nonneg.mpr hpos.le)]
  exact Finset.sum_congr rfl fun s _ => mul_assoc _ _ _

end Cert.Softmax

end
-- ==== Proof.Classes.lean ====
/- Sums and greatest values over 4096 terms, taken in two chunks of 256 rows of eight classes. -/
module

public import Idealize.ShloMosaic.PureOps.Ideal

@[expose] public section

noncomputable section

namespace Cert.Softmax

/-- A sum over eight classes of 256 is the sum over all 2048. -/
theorem sum_classes (f : Fin 2048 → EReal) :
    ∑ x : Fin 8, ∑ y : Fin 256, f ⟨y.val * 8 + x.val, by omega⟩ = ∑ j, f j := by
  rw [Finset.sum_comm, ← Fintype.sum_prod_type' (f := fun (y : Fin 256) (x : Fin 8) => f ⟨y.val * 8 + x.val, by omega⟩)]
  refine Fintype.sum_equiv (finProdFinEquiv (m := 256) (n := 8)) _ _ fun p => congrArg f (Fin.ext ?_)
  simp [finProdFinEquiv]; ring

/-- What is one of the terms is at most the greatest. -/
theorem le_sup_at {n : ℕ} (f : Fin n → EReal) (i : Fin n) {x : EReal} (h : x = f i) : x ≤ Finset.univ.sup f :=
  h ▸ Finset.le_sup (Finset.mem_univ i)

/-- The greatest over the eight classes of both chunks is the greatest of all 4096. -/
theorem sup_classes (S : Fin 4096 → EReal) :
    (Finset.univ.sup fun x : Fin 8 => max (Finset.univ.sup fun y : Fin 256 => S ⟨y.val * 8 + x.val, by omega⟩)
      (Finset.univ.sup fun y : Fin 256 => S ⟨2048 + (y.val * 8 + x.val), by omega⟩)) = Finset.univ.sup S := by
  refine le_antisymm (Finset.sup_le fun x _ => max_le (Finset.sup_le fun y _ => ?_) (Finset.sup_le fun y _ => ?_))
    (Finset.sup_le fun s _ => ?_)
  · exact Finset.le_sup (f := S) (Finset.mem_univ _)
  · exact Finset.le_sup (f := S) (Finset.mem_univ _)
  · have hs := s.isLt
    let x : Fin 8 := ⟨s.val % 8, by omega⟩
    refine le_trans ?_ (le_sup_at (fun x : Fin 8 => max (Finset.univ.sup fun y : Fin 256 => S ⟨y.val * 8 + x.val, by omega⟩)
      (Finset.univ.sup fun y : Fin 256 => S ⟨2048 + (y.val * 8 + x.val), by omega⟩)) x rfl)
    rcases lt_or_ge s.val 2048 with h | h
    · let y : Fin 256 := ⟨s.val / 8, by omega⟩
      have e : s = ⟨y.val * 8 + x.val, by omega⟩ := Fin.ext (show s.val = s.val / 8 * 8 + s.val % 8 by omega)
      exact le_trans (le_sup_at (fun y : Fin 256 => S ⟨y.val * 8 + x.val, by omega⟩) y (congrArg S e)) (le_max_left _ _)
    · let y : Fin 256 := ⟨(s.val - 2048) / 8, by omega⟩
      have e : s = ⟨2048 + (y.val * 8 + x.val), by omega⟩ :=
        Fin.ext (show s.val = 2048 + ((s.val - 2048) / 8 * 8 + s.val % 8) by omega)
      exact le_trans (le_sup_at (fun y : Fin 256 => S ⟨2048 + (y.val * 8 + x.val), by omega⟩) y (congrArg S e))
        (le_max_right _ _)

end Cert.Softmax

end
-- ==== Proof.ItemValue.lean ====
/- An item's value at an index, over the extended reals: softmax attention in base two. -/
module

public import proofs.«01_k».proof.Proof.Tile
public import proofs.«01_k».proof.Proof.Softmax
public import proofs.«01_k».proof.Proof.Classes
public import Idealize.ShloMosaic.Lib.Pointwise

@[expose] public section

noncomputable section

namespace Cert.KernelIdeal.ItemValue

open Cert.KernelIdeal Cert.KernelIdeal.Gen Cert.KernelIdeal.Tile Cert.Softmax Idealize.ShloMosaic

/-- A score of the second group: the keys' upper half meets the queries, the lower half meets zeros. -/
theorem score_second (q : Vec Ideal S1x64x256 .bf16) (k : Vec Ideal S1x2048x128 .bf16) (s : Fin 2048) (r : Fin 256) :
    score (padded true q) k (ix2 s r) = ∑ e : Fin 64, k (ix3 0 s ⟨64 + e.val, by omega⟩) * q (ix3 0 e r) := by
  have hp : padded true q = concatenate S128x256 0 [⟨S64x256, broadcast S64x256 (Scalar.ofBits .bf16 0x0000#16 : Ideal .bf16)⟩,
      ⟨S64x256, shapeCast S64x256 q shapeCasts_S1x64x256_S64x256⟩] concatenates_S64x256_S64x256_S128x256_d0 := rfl
  rw [hp]
  pointwise [score]
  simp

/-- A score of the first group. -/
theorem score_first (q : Vec Ideal S1x64x256 .bf16) (k : Vec Ideal S1x2048x128 .bf16) (s : Fin 2048) (r : Fin 256) :
    score (padded false q) k (ix2 s r) = ∑ e : Fin 64, k (ix3 0 s ⟨e.val, by omega⟩) * q (ix3 0 e r) := by
  have hp : padded false q = concatenate S128x256 0 [⟨S64x256, shapeCast S64x256 q shapeCasts_S1x64x256_S64x256⟩,
      ⟨S64x256, broadcast S64x256 (Scalar.ofBits .bf16 0x0000#16 : Ideal .bf16)⟩] concatenates_S64x256_S64x256_S128x256_d0 := rfl
  rw [hp]
  pointwise [score]
  simp

/-- The pattern of minus infinity. -/
theorem neg_inf : Ideal.ofBits FTy.f32 0xFF800000#32 = (⊥ : EReal) := by
  simp [Ideal.ofBits, Ideal.ieee]

theorem foldMax_apply (s : FVec Ideal S2048x256 .f32) (a : Fin 8) (r : Fin 256) :
    foldMax s (ix2 a r) = Finset.univ.sup fun k : Fin 256 => s (ix2 ⟨k.val * 8 + a.val, by omega⟩ r) := by
  pointwise [foldMax]
  rw [neg_inf]; rfl

theorem rowMax_apply (s0 s1 : FVec Ideal S2048x256 .f32) (a : Fin 8) (r : Fin 256) :
    rowMax s0 s1 (ix2 a r) = Finset.univ.sup fun x : Fin 8 => max (foldMax s0 (ix2 x r)) (foldMax s1 (ix2 x r)) := by
  pointwise [rowMax]
  rw [neg_inf]; rfl

theorem weight_apply (m : FVec Ideal S8x256 .f32) (s : FVec Ideal S2048x256 .f32) (k : Fin 256) (a : Fin 8) (r : Fin 256) :
    weight m (stored s) (ix3 k a r) = Ideal.exp2 (s (ix2 ⟨k.val * 8 + a.val, by omega⟩ r) - m (ix2 a r)) := by
  pointwise [weight, stored]
  rfl

theorem quotient_apply (p0 p1 : FVec Ideal S256x8x256 .f32) (v0 v1 : Vec Ideal S1x64x2048 .bf16) (d : Fin 64) (r : Fin 256) :
    quotient p0 p1 v0 v1 (ix2 d r) = Ideal.div
      (∑ x : Fin 2048, v0 (ix3 0 d x) * p0 (ix3 ⟨x.val / 8, by omega⟩ ⟨x.val % 8, by omega⟩ r) +
        ∑ x : Fin 2048, v1 (ix3 0 d x) * p1 (ix3 ⟨x.val / 8, by omega⟩ ⟨x.val % 8, by omega⟩ r))
      (∑ x : Fin 8, (∑ y : Fin 256, p0 (ix3 y x r) + ∑ y : Fin 256, p1 (ix3 y x r))) := by
  pointwise [quotient, weighted, foldSum]

/-- One column of an item: the scores and the values it is made of, attended. -/
theorem ofScores_apply (S V : Fin 4096 → EReal) (s0 s1 : FVec Ideal S2048x256 .f32) (v0 v1 : Vec Ideal S1x64x2048 .bf16)
    (d : Fin 64) (r : Fin 256) (h0 : ∀ j : Fin 2048, s0 (ix2 j r) = S ⟨j.val, by omega⟩)
    (h1 : ∀ j : Fin 2048, s1 (ix2 j r) = S ⟨2048 + j.val, by omega⟩)
    (hv0 : ∀ j : Fin 2048, v0 (ix3 0 d j) = V ⟨j.val, by omega⟩)
    (hv1 : ∀ j : Fin 2048, v1 (ix3 0 d j) = V ⟨2048 + j.val, by omega⟩) :
    ofScores s0 s1 v0 v1 (ix2 d r) = attend S V := by
  have hm : ∀ a, rowMax s0 s1 (ix2 a r) = Finset.univ.sup S := by
    intro a
    rw [rowMax_apply]
    simp only [foldMax_apply, h0, h1]
    exact sup_classes S
  unfold ofScores attend
  rw [quotient_apply]
  simp only [weight_apply, hm, h0, h1, hv0, hv1]
  rw [Finset.sum_add_distrib, sum_classes fun j => Ideal.exp2 (S ⟨j.val, by omega⟩ - Finset.univ.sup S),
    sum_classes fun j => Ideal.exp2 (S ⟨2048 + j.val, by omega⟩ - Finset.univ.sup S),
    Fin.sum_univ_two_halves 2048 2048 rfl fun s : Fin 4096 => V s * Ideal.exp2 (S s - Finset.univ.sup S),
    Fin.sum_univ_two_halves 2048 2048 rfl fun s : Fin 4096 => Ideal.exp2 (S s - Finset.univ.sup S)]
  have e : ∀ j : Fin 2048, j.val / 8 * 8 + j.val % 8 = j.val := fun j => by omega
  simp only [e]

end Cert.KernelIdeal.ItemValue

end
-- ==== Proof.BlockValue.lean ====
/- One grid point's output block at an index, over the extended reals. -/
module

public import proofs.«01_k».proof.Proof.Block
public import proofs.«01_k».proof.Proof.ItemValue

@[expose] public section

noncomputable section

namespace Cert.KernelIdeal.BlockValue

open Cert.KernelIdeal Cert.KernelIdeal.Gen Cert.KernelIdeal.Tile Cert.KernelIdeal.Block Cert.Softmax Idealize.ShloMosaic

variable (x0 : Vec Ideal S1x512x1024 .bf16) (x1 : Vec Ideal S1x4096x128 .bf16) (x2 : Vec Ideal S1x128x4096 .bf16)

/-- The score of key `s` against head `h`'s query `q`. -/
def scoreOf (h : Fin 8) (q : Fin 1024) (s : Fin 4096) : EReal :=
  ∑ e : Fin 64, x1 (ix3 0 s ⟨h.val / 4 * 64 + e.val, by omega⟩) * x0 (ix3 0 ⟨h.val * 64 + e.val, by omega⟩ q)

/-- Feature `d` of the value of key `s` for head `h`. -/
def valueOf (h : Fin 8) (d : Fin 64) (s : Fin 4096) : EReal := x2 (ix3 0 ⟨h.val / 4 * 64 + d.val, by omega⟩ s)

theorem score_apply (a : Fin 2) (g : Fin 4) (h : Fin 8) (j : Fin 2048) (r : Fin 256) :
    score (padded (decide (4 ≤ h.val)) (qOf x0 g h)) (kOf x1 a) (ix2 j r)
      = scoreOf x0 x1 h ⟨g.val * 256 + r.val, by omega⟩ ⟨a.val * 2048 + j.val, by omega⟩ := by
  by_cases hh : 4 ≤ h.val
  · rw [decide_eq_true hh, ItemValue.score_second]
    unfold scoreOf
    have e4 : h.val / 4 = 1 := by omega
    pointwise [qOf, kOf]
    simp only [e4, one_mul]
  · rw [decide_eq_false hh, ItemValue.score_first]
    unfold scoreOf
    have e4 : h.val / 4 = 0 := by omega
    pointwise [qOf, kOf]
    simp only [e4, zero_mul, zero_add]

theorem item_apply (g : Fin 4) (h : Fin 8) (d : Fin 64) (r : Fin 256) :
    itemOf x0 x1 x2 g h (ix2 d r) = attend (scoreOf x0 x1 h ⟨g.val * 256 + r.val, by omega⟩) (valueOf x2 h d) := by
  unfold itemOf item
  refine ItemValue.ofScores_apply _ _ _ _ _ _ d r (fun j => ?_) (fun j => ?_) (fun j => ?_) (fun j => ?_)
  · rw [score_apply]; congr 1; exact Fin.ext (by simp)
  · rw [score_apply]; congr 1
  · unfold valueOf; pointwise [vOf]
  · unfold valueOf; pointwise [vOf]

/-- Eight heads' results laid side by side: column `n` is feature `n mod 64` of head `n / 64`. -/
theorem rows_apply (o : Fin 8 → FVec Ideal S64x256 .f32) (r : Fin 256) (n : Fin 512) :
    rows (o 0) (o 1) (o 2) (o 3) (o 4) (o 5) (o 6) (o 7) (ix3 0 r n)
      = o ⟨n.val / 64, by omega⟩ (ix2 ⟨n.val % 64, by omega⟩ r) := by
  have key : ∀ (h h' : Fin 8) (d d' : Fin 64), h = h' → d = d' → o h (ix2 d r) = o h' (ix2 d' r) := by
    rintro h _ d _ rfl rfl; rfl
  pointwise [rows]
  split_ifs <;> exact key _ _ _ _ (Fin.ext (by simp; omega)) (Fin.ext (by simp; omega))

/-- What a grid point's block holds at row `q` and column `n`. -/
def blockFn (i : S1x1024x512.Idx) : EReal :=
  attend (scoreOf x0 x1 ⟨(i 2).val / 64, by have : (i 2).val < 512 := (i 2).isLt; omega⟩ ⟨(i 1).val, (i 1).isLt⟩)
    (valueOf x2 ⟨(i 2).val / 64, by have : (i 2).val < 512 := (i 2).isLt; omega⟩ ⟨(i 2).val % 64, by omega⟩)

theorem rowsOf_apply (g : Fin 4) (r : Fin 256) (n : Fin 512) :
    rowsOf x0 x1 x2 g (ix3 0 r n)
      = attend (scoreOf x0 x1 ⟨n.val / 64, by omega⟩ ⟨g.val * 256 + r.val, by omega⟩)
          (valueOf x2 ⟨n.val / 64, by omega⟩ ⟨n.val % 64, by omega⟩) := by
  unfold rowsOf
  rw [rows_apply (itemOf x0 x1 x2 g), item_apply]

/-- A group's rows are the block's rows at its place. -/
theorem group (g : Fin 4) (inb : ∀ a, ![0, g.val * 256, 0] a + S1x256x512.size a ≤ S1x1024x512.size a) (x : S1x256x512.Idx) :
    rowsOf x0 x1 x2 g x = blockFn x0 x1 x2 ((Rect.unit (s := S1x1024x512) ![0, g.val * 256, 0] S1x256x512.size inb).emb x) := by
  obtain ⟨a, r, n, rfl⟩ : ∃ (a : Fin 1) (r : Fin 256) (n : Fin 512), x = ix3 a r n := ⟨x 0, x 1, x 2, eq_ix3 x⟩
  obtain rfl : a = 0 := Subsingleton.elim a 0
  rw [rowsOf_apply]
  have e1 : ((Rect.unit (s := S1x1024x512) ![0, g.val * 256, 0] S1x256x512.size inb).emb (ix3 0 r n) 1).val = g.val * 256 + r.val := by
    show g.val * 256 + 1 * r.val = _
    omega
  have e2 : ((Rect.unit (s := S1x1024x512) ![0, g.val * 256, 0] S1x256x512.size inb).emb (ix3 0 r n) 2).val = n.val := by
    show 0 + 1 * n.val = _
    omega
  unfold blockFn
  simp only [e1, e2]

variable (c : Dev nD) (i : grid0.Coords) (arg2 : Memref sig .tc .vmem S1x512x1024 .bf16) (harg2 : arg2.IsWhole) (arg3 : Memref sig .tc .vmem S1x4096x128 .bf16) (harg3 : arg3.IsWhole) (arg4 : Memref sig .tc .vmem S1x128x4096 .bf16) (harg4 : arg4.IsWhole) (arg5 : Memref sig .tc .vmem S1x1024x512 .bf16) (harg5 : arg5.IsWhole) (arg6 : Memref sig .tc .vmem S2x4096x256 .f32) (harg6 : arg6.IsWhole)

/-- What a grid point leaves in its output block. -/
theorem out_eq : out0_A_3 c i arg2 harg2 arg3 harg3 arg4 harg4 arg5 harg5 arg6 harg6 x0 x1 x2 = blockFn x0 x1 x2 := by
  unfold out0_A_3
  rw [View.read_writes_eq_canon _ _ _ (cover0_A_3 c i arg2 harg2 arg3 harg3 arg4 harg4 arg5 harg5 arg6 harg6 x0 x1 x2)]
  funext y
  refine View.canon_apply_of_pieces (blockFn x0 x1 x2) _ ?_ y (cover0_A_3 c i arg2 harg2 arg3 harg3 arg4 harg4 arg5 harg5 arg6 harg6 x0 x1 x2 y)
  rw [pieces]
  intro p hp x
  simp only [List.mem_cons, List.not_mem_nil, or_false] at hp
  rcases hp with rfl | rfl | rfl | rfl
  · exact group x0 x1 x2 3 inb_S1x1024x512_S1x256x512_0_768_0 x
  · exact group x0 x1 x2 2 inb_S1x1024x512_S1x256x512_0_512_0 x
  · exact group x0 x1 x2 1 inb_S1x1024x512_S1x256x512_0_256_0 x
  · exact group x0 x1 x2 0 inb_S1x1024x512_S1x256x512_0_0_0 x

end Cert.KernelIdeal.BlockValue

end
-- ==== Proof.HostArgs.lean ====
/- What the host hands the kernel: the scaled queries and the values transposed, the keys as rows. -/
module

public import proofs.«01_k».proof.Proof.Gen.KernelIdeal.Frame.Runs
public import Idealize.ShloMosaic.Lib.Pointwise
public import Idealize.ShloMosaic.Lib.StableHlo.ReadAt

@[expose] public section

set_option maxRecDepth 16384

noncomputable section

namespace Cert.KernelIdeal.HostArgs

open Cert.KernelIdeal Cert.KernelIdeal.Gen Idealize.ShloMosaic Idealize.ShloMosaic.TcCoe

variable (m : (ℓ : Loc nD τ sig) → Buf (Elt Ideal) ℓ) (c : Dev nD) (b : Fin 16) (s : Fin 4096)

/-- The queries as launched. -/
abbrev qArg : FVec Ideal S16x4096x8x64 .f32 := m ((c : Thread nD τ).loc main_arg0)

/-- The keys as launched. -/
abbrev kArg : FVec Ideal S16x4096x2x64 .f32 := m ((c : Thread nD τ).loc main_arg1)

/-- The values as launched. -/
abbrev vArg : FVec Ideal S16x4096x2x64 .f32 := m ((c : Thread nD τ).loc main_arg2)

/-- The kernel's queries are the scaled queries, a head and a feature to a row. -/
theorem queries (n : Fin 512) : (V m c main_v7 : Vec Ideal S16x512x4096 .bf16) (ix3 b n s)
    = Ideal.div (qArg m c (ix4 b s ⟨n.val / 64, by omega⟩ ⟨n.val % 64, by omega⟩)
        * Ideal.ofBits .f32 0x3E000000#32) (Ideal.log (Ideal.ofBits .f32 0x40000000#32)) := by
  unfold V hostOps0
  after_reads_at

/-- The kernel's keys. -/
theorem keys (n : Fin 128) : (V m c main_v9 : Vec Ideal S16x4096x128 .bf16) (ix3 b s n)
    = kArg m c (ix4 b s ⟨n.val / 64, by omega⟩ ⟨n.val % 64, by omega⟩) := by
  unfold V hostOps0
  after_reads_at

/-- The kernel's values, a feature to a row. -/
theorem values (n : Fin 128) : (V m c main_v12 : Vec Ideal S16x128x4096 .bf16) (ix3 b n s)
    = vArg m c (ix4 b s ⟨n.val / 64, by omega⟩ ⟨n.val % 64, by omega⟩) := by
  unfold V hostOps0
  after_reads_at

end Cert.KernelIdeal.HostArgs

end
-- ==== Proof.ArrayValue.lean ====
/- What the kernel's result array holds after the run, over the extended reals. -/
module

public import proofs.«01_k».proof.Proof.BlockValue
public import proofs.«01_k».proof.Proof.HostArgs
public import proofs.«01_k».proof.Proof.Gen.KernelIdeal.Value

@[expose] public section

noncomputable section

namespace Cert.KernelIdeal.ArrayValue

open Cert.KernelIdeal Cert.KernelIdeal.Gen Cert.KernelIdeal.BlockValue Cert.KernelIdeal.HostArgs Cert.Softmax
open Idealize.ShloMosaic Idealize.ShloMosaic.TcCoe
open Idealize.ShloMosaic.Pipeline (Dat)

variable (m : (ℓ : Loc nD τ sig) → Buf (Elt Ideal) ℓ) (c : Dev nD)

/-- A query's feature as the kernel scores it: times an eighth, over log 2. -/
def scaled (b : Fin 16) (q : Fin 4096) (h : Fin 8) (e : Fin 64) : EReal :=
  Ideal.div (qArg m c (ix4 b q h e) * Ideal.ofBits .f32 0x3E000000#32) (Ideal.log (Ideal.ofBits .f32 0x40000000#32))

/-- The scores of head `h`'s query `q`. -/
def scoreAt (b : Fin 16) (q : Fin 4096) (h : Fin 8) (s : Fin 4096) : EReal :=
  ∑ e : Fin 64, kArg m c (ix4 b s ⟨h.val / 4, by omega⟩ e) * scaled m c b q h e

/-- The array's element at batch `b`, row `q`, column `n`. -/
def element (b : Fin 16) (q : Fin 4096) (n : Fin 512) : EReal :=
  attend (scoreAt m c b q ⟨n.val / 64, by omega⟩) (fun s => vArg m c (ix4 b s ⟨n.val / 256, by omega⟩ ⟨n.val % 64, by omega⟩))

/-- The result array. -/
def G : FVec Ideal S16x4096x512 .bf16 := fun i => element m c (i 0) (i 1) (i 2)

/-- The block indices of a grid point, all four windows. -/
theorem index_facts : ∀ t : Fin cfg0.N,
    (win0_0.index t 0 = t.val / 4 ∧ win0_0.index t 1 = 0 ∧ win0_0.index t 2 = t.val % 4)
    ∧ (win0_1.index t 0 = t.val / 4 ∧ win0_1.index t 1 = 0 ∧ win0_1.index t 2 = 0)
    ∧ (win0_2.index t 0 = t.val / 4 ∧ win0_2.index t 1 = 0 ∧ win0_2.index t 2 = 0)
    ∧ (win0_3.index t 0 = t.val / 4 ∧ win0_3.index t 1 = t.val % 4 ∧ win0_3.index t 2 = 0) :=
  (by decide +kernel : ∀ t : Fin grid0.N, _)

theorem lt_N (t : Fin cfg0.N) : t.val < 64 := lt_of_lt_of_eq t.isLt N_0

/-- A point's query block. -/
theorem iblk0 (t : Fin cfg0.N) (n : Fin 512) (q : Fin 1024) :
    (iblk m c 0 t : Vec Ideal S1x512x1024 .bf16) (ix3 0 n q)
      = (V m c main_v7 : Vec Ideal S16x512x4096 .bf16) (ix3 ⟨t.val / 4, by have := lt_N t; omega⟩ n
          ⟨t.val % 4 * 1024 + q.val, by omega⟩) := by
  unfold iblk
  rw [View.read_apply]
  show (V m c main_v7 : Vec Ideal S16x512x4096 .bf16) _ = _
  congr 1
  funext a
  apply Fin.ext
  match a with
  | ⟨0, _⟩ => show win0_0.index t 0 * 1 + 1 * 0 = t.val / 4; rw [(index_facts t).1.1]; omega
  | ⟨1, _⟩ => show win0_0.index t 1 * 512 + 1 * n.val = n.val; rw [(index_facts t).1.2.1]; omega
  | ⟨2, _⟩ => show win0_0.index t 2 * 1024 + 1 * q.val = t.val % 4 * 1024 + q.val; rw [(index_facts t).1.2.2]; omega

/-- A point's key block. -/
theorem iblk1 (t : Fin cfg0.N) (s : Fin 4096) (n : Fin 128) :
    (iblk m c 1 t : Vec Ideal S1x4096x128 .bf16) (ix3 0 s n)
      = (V m c main_v9 : Vec Ideal S16x4096x128 .bf16) (ix3 ⟨t.val / 4, by have := lt_N t; omega⟩ s n) := by
  unfold iblk
  rw [View.read_apply]
  show (V m c main_v9 : Vec Ideal S16x4096x128 .bf16) _ = _
  congr 1
  funext a
  apply Fin.ext
  match a with
  | ⟨0, _⟩ => show win0_1.index t 0 * 1 + 1 * 0 = t.val / 4; rw [(index_facts t).2.1.1]; omega
  | ⟨1, _⟩ => show win0_1.index t 1 * 4096 + 1 * s.val = s.val; rw [(index_facts t).2.1.2.1]; omega
  | ⟨2, _⟩ => show win0_1.index t 2 * 128 + 1 * n.val = n.val; rw [(index_facts t).2.1.2.2]; omega

/-- A point's value block. -/
theorem iblk2 (t : Fin cfg0.N) (n : Fin 128) (s : Fin 4096) :
    (iblk m c 2 t : Vec Ideal S1x128x4096 .bf16) (ix3 0 n s)
      = (V m c main_v12 : Vec Ideal S16x128x4096 .bf16) (ix3 ⟨t.val / 4, by have := lt_N t; omega⟩ n s) := by
  unfold iblk
  rw [View.read_apply]
  show (V m c main_v12 : Vec Ideal S16x128x4096 .bf16) _ = _
  congr 1
  funext a
  apply Fin.ext
  match a with
  | ⟨0, _⟩ => show win0_2.index t 0 * 1 + 1 * 0 = t.val / 4; rw [(index_facts t).2.2.1.1]; omega
  | ⟨1, _⟩ => show win0_2.index t 1 * 128 + 1 * n.val = n.val; rw [(index_facts t).2.2.1.2.1]; omega
  | ⟨2, _⟩ => show win0_2.index t 2 * 4096 + 1 * s.val = s.val; rw [(index_facts t).2.2.1.2.2]; omega

theorem ix4_congr {b : Fin 16} {s : Fin 4096} {n2 n2' : Fin 2} {n3 n3' : Fin 64} (h2 : n2.val = n2'.val) (h3 : n3.val = n3'.val) :
    (ix4 b s n2 n3 : S16x4096x2x64.Idx) = ix4 b s n2' n3' := by rw [Fin.ext h2, Fin.ext h3]

/-- A point's scores are the array's. -/
theorem score_block (t : Fin cfg0.N) (h : Fin 8) (q : Fin 1024) (s : Fin 4096) :
    scoreOf (iblk m c 0 t) (iblk m c 1 t) h q s
      = scoreAt m c ⟨t.val / 4, by have := lt_N t; omega⟩ ⟨t.val % 4 * 1024 + q.val, by omega⟩ h s := by
  unfold scoreOf scoreAt scaled
  refine Finset.sum_congr rfl fun e _ => ?_
  rw [iblk0, iblk1, queries, keys]
  congr 1
  · exact congrArg (kArg m c) (ix4_congr (by show (h.val / 4 * 64 + e.val) / 64 = h.val / 4; omega)
      (by show (h.val / 4 * 64 + e.val) % 64 = e.val; omega))
  · have e1 : (h.val * 64 + e.val) / 64 = h.val := by omega
    have e2 : (h.val * 64 + e.val) % 64 = e.val := by omega
    simp only [e1, e2]

/-- A point's values are the array's. -/
theorem value_block (t : Fin cfg0.N) (n : Fin 512) :
    valueOf (iblk m c 2 t) ⟨n.val / 64, by omega⟩ ⟨n.val % 64, by omega⟩
      = fun s => vArg m c (ix4 ⟨t.val / 4, by have := lt_N t; omega⟩ s ⟨n.val / 256, by omega⟩ ⟨n.val % 64, by omega⟩) := by
  funext s
  unfold valueOf
  rw [iblk2, values]
  exact congrArg (vArg m c) (ix4_congr (by show (n.val / 64 / 4 * 64 + n.val % 64) / 64 = n.val / 256; omega)
    (by show (n.val / 64 / 4 * 64 + n.val % 64) % 64 = n.val % 64; omega))

/-- A point's block at an index is the array's element. -/
theorem block_element (t : Fin cfg0.N) (q : Fin 1024) (n : Fin 512) :
    blockFn (iblk m c 0 t) (iblk m c 1 t) (iblk m c 2 t) (ix3 0 q n)
      = element m c ⟨t.val / 4, by have := lt_N t; omega⟩ ⟨t.val % 4 * 1024 + q.val, by omega⟩ n := by
  show attend (scoreOf (iblk m c 0 t) (iblk m c 1 t) ⟨n.val / 64, by omega⟩ q)
    (valueOf (iblk m c 2 t) ⟨n.val / 64, by omega⟩ ⟨n.val % 64, by omega⟩) = _
  rw [value_block, show scoreOf (iblk m c 0 t) (iblk m c 1 t) ⟨n.val / 64, by omega⟩ q = _ from
    funext (score_block m c t ⟨n.val / 64, by omega⟩ q)]
  rfl

/-- Where element `(0, q, n)` of a point's block lies in the array. -/
theorem block_at (t : Fin cfg0.N) (q : Fin 1024) (n : Fin 512) :
    (win0_3.blk t).view.emb (ix3 0 q n)
      = (ix3 ⟨t.val / 4, by have := lt_N t; omega⟩ ⟨t.val % 4 * 1024 + q.val, by omega⟩ n : S16x4096x512.Idx) := by
  funext a
  match a with
  | ⟨0, _⟩ => exact Fin.ext (by show win0_3.index t 0 * 1 + 1 * 0 = t.val / 4; rw [(index_facts t).2.2.2.1]; omega)
  | ⟨1, _⟩ => exact Fin.ext (by show win0_3.index t 1 * 1024 + 1 * q.val = t.val % 4 * 1024 + q.val; rw [(index_facts t).2.2.2.2.1]; omega)
  | ⟨2, _⟩ => exact Fin.ext (by show win0_3.index t 2 * 512 + 1 * n.val = n.val; rw [(index_facts t).2.2.2.2.2]; omega)

/-- The block's function is the array read through the point's block. -/
theorem block_read (t : Fin cfg0.N) :
    blockFn (iblk m c 0 t) (iblk m c 1 t) (iblk m c 2 t) = (win0_3.blk t).view.read (Elt Ideal) (G m c) := by
  have h (q : Fin 1024) (n : Fin 512) : blockFn (iblk m c 0 t) (iblk m c 1 t) (iblk m c 2 t) (ix3 0 q n)
      = G m c ((win0_3.blk t).view.emb (ix3 0 q n)) :=
    (block_element m c t q n).trans (congrArg (G m c) (block_at t q n)).symm
  funext y
  have hy : y = ix3 (0 : Fin 1) (y 1 : Fin 1024) (y 2 : Fin 512) := by
    funext a
    match a with
    | ⟨0, _⟩ => exact Subsingleton.elim (α := Fin 1) _ _
    | ⟨1, _⟩ => rfl
    | ⟨2, _⟩ => rfl
  rw [hy]
  exact h (y 1) (y 2)

/-- What a point writes back is its block of the array. -/
theorem flushed_eq (t : Fin cfg0.N) :
    (dats m 0 c).flushed 3 t = (win0_3.blk t).view.read (Elt Ideal) (G m c) := by
  rw [Cert.KernelIdeal.Value.flushed3_A, out_eq, ← block_read]
  rfl

/-- Every element of the array is in some point's block. -/
theorem cover (i : S16x4096x512.Idx) : ∃ t : Fin cfg0.N, (cfg0.win 3).flush t = true ∧ i ∈ ((cfg0.win 3).blk t).view.set := by
  have h0 : (i 0).val < 16 := (i 0).isLt
  have h1 : (i 1).val < 4096 := (i 1).isLt
  have h2 : (i 2).val < 512 := (i 2).isLt
  have hN : cfg0.N = 64 := N_0
  obtain ⟨t, ht⟩ : ∃ t : Fin cfg0.N, t.val = (i 0).val * 4 + (i 1).val / 1024 := ⟨⟨(i 0).val * 4 + (i 1).val / 1024, by omega⟩, rfl⟩
  refine ⟨t, flush0_3 _, ?_⟩
  show i ∈ ((View.whole main_v13).slice (win0_3.rect t)).set
  rw [View.set_slice_whole, Rect.mem_set_unit]
  intro a
  match a with
  | ⟨0, _⟩ => show win0_3.index t 0 * 1 ≤ (i 0).val ∧ (i 0).val < win0_3.index t 0 * 1 + 1; rw [(index_facts t).2.2.2.1]; omega
  | ⟨1, _⟩ => show win0_3.index t 1 * 1024 ≤ (i 1).val ∧ (i 1).val < win0_3.index t 1 * 1024 + 1024; rw [(index_facts t).2.2.2.2.1]; omega
  | ⟨2, _⟩ => show win0_3.index t 2 * 512 ≤ (i 2).val ∧ (i 2).val < win0_3.index t 2 * 512 + 512; rw [(index_facts t).2.2.2.2.2]; omega

/-- The result array after the run. -/
theorem final : (dats m 0 c).arrAt 3 cfg0.N = G m c :=
  (dats m 0 c).arrAt_eq_of_cover 3 (G m c) (fun t _ => flushed_eq m c t) cover

end Cert.KernelIdeal.ArrayValue

end
-- ==== Proof.RefValue.lean ====
/- What the reference computes, at an index: softmax attention of a head's scores. -/
module

public import proofs.«01_k».proof.Proof.Gen.ReferenceIdeal.Read
public import proofs.«01_k».proof.Proof.Softmax
public import Idealize.ShloMosaic.Lib.Pointwise

@[expose] public section

set_option maxRecDepth 16384

noncomputable section

namespace Cert.ReferenceIdeal.RefValue

open Cert.ReferenceIdeal Cert.ReferenceIdeal.Read Cert.Softmax Idealize.ShloMosaic

variable (x0 : FVec Ideal S16x4096x8x64 .f32) (x1 x2 : FVec Ideal S16x4096x2x64 .f32)
variable (b : Fin 16) (j : Fin 2) (g : Fin 4) (q : Fin 4096)

/-- The scaled scores. -/
theorem scores (s : Fin 4096) : val_main_v4 (F := Ideal) x0 x1 (ix5 b j g q s)
    = (∑ e : Fin 64, x1 (ix4 b s j e) * x0 (ix4 b q ⟨j.val * 4 + g.val, by omega⟩ e)) * Ideal.ofBits .f32 0x3E000000#32 := by
  pointwise [val_main_v4, val_main_v3, val_main_cst, val_main_v2, val_main_v1, val_main_v0]

/-- The greatest along the last axis, from minus infinity. -/
theorem max_last (x : FVec Ideal S16x2x4x4096x4096 .f32) (h : S16x2x4x4096x4096.ReducesTo [4] S16x2x4x4096) (hu : 0 < S_.numel) :
    Host.reduce (FloatOps.maximumf (F := Ideal) (φ := .f32)) x (constant (F := Ideal) S_ .f32 0xFF800000#32) h hu (ix4 b j g q)
      = Finset.univ.sup fun s : Fin 4096 => x (ix5 b j g q s) := by
  pointwise
  rw [show Ideal.ofBits FTy.f32 0xFF800000#32 = (⊥ : EReal) by simp [Ideal.ofBits, Ideal.ieee]]
  rfl

/-- The greatest score. -/
theorem greatest : val_main_v7 (F := Ideal) x0 x1 (ix4 b j g q)
    = Finset.univ.sup fun s : Fin 4096 => val_main_v4 (F := Ideal) x0 x1 (ix5 b j g q s) := by
  rw [val_main_v7_apply, val_main_v6_apply, val_main_cst_1_apply]
  show max (Ideal.ofBits FTy.f32 0xFF800000#32) (val_main_v5 (F := Ideal) x0 x1 (ix4 b j g q)) = _
  rw [show Ideal.ofBits FTy.f32 0xFF800000#32 = (⊥ : EReal) by simp [Ideal.ofBits, Ideal.ieee], max_eq_right bot_le]
  exact max_last b j g q (val_main_v4 (F := Ideal) x0 x1) _ _

/-- The weights before they are normalised. -/
theorem weights (s : Fin 4096) : val_main_v11 (F := Ideal) x0 x1 (ix5 b j g q s)
    = Ideal.exp (val_main_v4 (F := Ideal) x0 x1 (ix5 b j g q s) - val_main_v7 (F := Ideal) x0 x1 (ix4 b j g q)) := by
  pointwise [val_main_v11, val_main_v10, val_main_v9, val_main_v8]

/-- Their sum. -/
theorem total : val_main_v12 (F := Ideal) x0 x1 (ix4 b j g q)
    = ∑ s : Fin 4096, val_main_v11 (F := Ideal) x0 x1 (ix5 b j g q s) := by
  pointwise [val_main_v12, val_main_cst_2]

/-- The result. -/
theorem result (n : Fin 512) : val_main_v19 (F := Ideal) x0 x1 x2 (ix3 b q n)
    = ∑ s : Fin 4096, x2 (ix4 b s ⟨n.val / 256, by omega⟩ ⟨n.val % 64, by omega⟩)
        * Ideal.div (val_main_v11 (F := Ideal) x0 x1 (ix5 b ⟨n.val / 256, by omega⟩ ⟨n.val / 64 % 4, by omega⟩ q s))
          (val_main_v12 (F := Ideal) x0 x1 (ix4 b ⟨n.val / 256, by omega⟩ ⟨n.val / 64 % 4, by omega⟩ q)) := by
  pointwise [val_main_v19, val_main_v18, val_main_v17, val_main_v16, val_main_v15, val_main_v14, val_main_v13]

/-- The result at an index is softmax attention of the scaled scores. -/
theorem result_soft (n : Fin 512) : val_main_v19 (F := Ideal) x0 x1 x2 (ix3 b q n)
    = soft (fun s : Fin 4096 => (∑ e : Fin 64, x1 (ix4 b s ⟨n.val / 256, by omega⟩ e) * x0 (ix4 b q ⟨n.val / 64, by omega⟩ e))
        * Ideal.ofBits .f32 0x3E000000#32)
      (fun s => x2 (ix4 b s ⟨n.val / 256, by omega⟩ ⟨n.val % 64, by omega⟩)) := by
  rw [result]
  unfold soft
  simp only [total, weights, greatest, scores]
  have e : n.val / 256 * 4 + n.val / 64 % 4 = n.val / 64 := by omega
  simp only [e]

end Cert.ReferenceIdeal.RefValue

end
-- ==== Proof.Equation.lean ====
/- The equation: what the kernel's array holds at an index is what the reference computes there. -/
module

public import proofs.«01_k».proof.Proof.ArrayValue
public import proofs.«01_k».proof.Proof.RefValue
public import proofs.«01_k».proof.Proof.Softmax

@[expose] public section

noncomputable section

namespace Cert.Equation

open Idealize.ShloMosaic Cert.Softmax

theorem eighth : Ideal.ofBits .f32 0x3E000000#32 = ((1 / 8 : ℝ) : EReal) := by
  simp [Ideal.ofBits, Ideal.ieee]
  rw [← EReal.coe_mul]
  norm_num

theorem log_two : Ideal.log (Ideal.ofBits .f32 0x40000000#32) = ((Real.log 2 : ℝ) : EReal) := by
  have h2 : Ideal.ofBits .f32 0x40000000#32 = ((2 : ℝ) : EReal) := by
    simp [Ideal.ofBits, Ideal.ieee]
    rw [← EReal.coe_mul]
    norm_num
  rw [h2, Ideal.log_coe]
  rw [if_neg (by norm_num)]

/-- A real query element scaled as the kernel's host line scales it. -/
theorem scaled_real (r : ℝ) : Ideal.div ((r : EReal) * Ideal.ofBits .f32 0x3E000000#32) (Ideal.log (Ideal.ofBits .f32 0x40000000#32))
    = ((r * (1 / 8) * (Real.log 2)⁻¹ : ℝ) : EReal) := by
  rw [eighth, log_two, ← EReal.coe_mul, Ideal.div_coe (Real.log_pos (by norm_num)).ne', ← EReal.coe_mul, one_div (Real.log 2)]

/-- For real queries and keys, scores in base 2 are the reference's scores over the natural logarithm of 2. -/
theorem attend_eq {n : ℕ} [Nonempty (Fin n)] {d : ℕ} (k : Fin n → Fin d → EReal) (q : Fin d → EReal) (V : Fin n → EReal)
    (hk : ∀ s e, ∃ r : ℝ, k s e = (r : EReal)) (hq : ∀ e, ∃ r : ℝ, q e = (r : EReal)) :
    attend (fun s => ∑ e, k s e * Ideal.div (q e * Ideal.ofBits .f32 0x3E000000#32) (Ideal.log (Ideal.ofBits .f32 0x40000000#32))) V
      = soft (fun s => (∑ e, k s e * q e) * Ideal.ofBits .f32 0x3E000000#32) V := by
  choose k' hk' using hk
  choose q' hq' using hq
  have hdot : ∀ s, ∑ e, k s e * q e = ((∑ e, k' s e * q' e : ℝ) : EReal) := fun s => by
    rw [coe_sum]
    exact Finset.sum_congr rfl fun e _ => by rw [hk', hq', EReal.coe_mul]
  refine attend_eq_soft (fun s => (∑ e, k' s e * q' e) * (1 / 8)) _ _ _ (fun s => ?_) (fun s => ?_)
  · rw [hdot, eighth, ← EReal.coe_mul]
  · rw [Finset.sum_mul, Finset.sum_mul, coe_sum]
    exact Finset.sum_congr rfl fun e _ => by
      rw [hk', hq', scaled_real, ← EReal.coe_mul]; congr 1; ring

variable (m : (ℓ : Loc Cert.KernelIdeal.nD Cert.KernelIdeal.τ Cert.KernelIdeal.sig) → Buf (Elt Ideal) ℓ) (c : Dev Cert.KernelIdeal.nD)

open Cert.KernelIdeal.HostArgs Cert.KernelIdeal.ArrayValue Cert.ReferenceIdeal.RefValue in
/-- The array the kernel leaves is the reference's result, when the queries and keys are real. -/
theorem array_eq (hq : ∀ i, ∃ r : ℝ, qArg m c i = (r : EReal)) (hk : ∀ i, ∃ r : ℝ, kArg m c i = (r : EReal)) :
    G m c = Cert.ReferenceIdeal.Read.val_main_v19 (F := Ideal) (qArg m c) (kArg m c) (vArg m c) := by
  have h (b : Fin 16) (q : Fin 4096) (n : Fin 512) : element m c b q n
      = Cert.ReferenceIdeal.Read.val_main_v19 (F := Ideal) (qArg m c) (kArg m c) (vArg m c) (ix3 b q n) := by
    rw [result_soft]
    refine Eq.trans ?_ (attend_eq (fun s e => kArg m c (ix4 b s ⟨n.val / 256, by omega⟩ e)) (fun e => qArg m c (ix4 b q ⟨n.val / 64, by omega⟩ e)) _
      (fun s e => hk _) (fun e => hq _))
    unfold element
    refine congrArg (attend · _) (funext fun s => ?_)
    unfold scoreAt scaled
    have e4 : (⟨n.val / 64 / 4, by omega⟩ : Fin 2) = ⟨n.val / 256, by omega⟩ := Fin.ext (by show n.val / 64 / 4 = n.val / 256; omega)
    exact congrArg (fun g : Fin 2 => ∑ e : Fin 64, kArg m c (ix4 b s g e)
      * Ideal.div (qArg m c (ix4 b q ⟨n.val / 64, by omega⟩ e) * Ideal.ofBits .f32 0x3E000000#32) (Ideal.log (Ideal.ofBits .f32 0x40000000#32))) e4
  funext i
  have hi : i = ix3 (i 0 : Fin 16) (i 1 : Fin 4096) (i 2 : Fin 512) := eq_ix3 i
  refine (h (i 0) (i 1) (i 2)).trans (congrArg _ hi.symm)

end Cert.Equation

end
-- ==== Proof.PostTile.lean ====
/- One half of a grid point of the kernel after the attention: 256 rows, written once as functions of the blocks the body
   reads. The body computes these functions for both halves of its 512 rows, interleaved. -/
module

public import proofs.«01_k».proof.Proof.Gen.Kernel2Ideal.Skeleton

@[expose] public section

noncomputable section

namespace Cert.Kernel2Ideal.Tile

open Cert.Kernel2Ideal Cert.Kernel2Ideal.Gen Idealize.ShloMosaic

variable {F : FTy → Type} [FloatOps F]

/-- The rows' positions in the sequence, for the first eight rows of a half: the half starts at row `r0` of block `b`. -/
def times (b r0 : BitVec 32) : IVec S8x128 32 :=
  addi (iota .tc S8x128 32 [0] iota_S8x128_d0_w32) (broadcast S8x128 (Scalar.addi (Scalar.muli b 512#32) r0))

/-- A column plus itself rotated by `n` rows. -/
def plusTurned (n : BitVec 32) (a : FVec F S272x128 .f32) : FVec F S272x128 .f32 :=
  addf a (dynamicRotate 0 n none a rotates_S272x128_d0)

/-- The 256 rows between the two halos. -/
def inner (a : FVec F S272x128 .f32) : FVec F S256x128 .f32 := extractStridedSlice S256x128 ![8, 0] a slices_S272x128_o8_0_S256x128

/-- The windows' sums, for windows of 2, 4, 8 and 16 rows. -/
def window (g : Fin 4) (a : FVec F S272x128 .f32) : FVec F S256x128 .f32 :=
  match g with
  | 0 => inner (plusTurned 1#32 a)
  | 1 => inner (plusTurned 2#32 (plusTurned 271#32 a))
  | 2 => inner (plusTurned 4#32 (plusTurned 270#32 (plusTurned 271#32 a)))
  | 3 => inner (plusTurned 8#32 (plusTurned 268#32 (plusTurned 270#32 (plusTurned 271#32 a))))

/-- One over the number of rows of a window that lie in the sequence, for eight rows. -/
def edge (back fwd : BitVec 32) (t : IVec S8x128 32) : FVec F S8x128 .f32 :=
  divf (broadcast S8x128 (Scalar.ofBits .f32 0x3F800000#32 : F .f32))
    (sitofp .f32 (addi (subi (minsi (addi t (broadcast S8x128 fwd)) (broadcast S8x128 4095#32))
      (maxsi (subi t (broadcast S8x128 back)) (broadcast S8x128 0#32))) (broadcast S8x128 1#32)))

/-- One over the number of rows of a window, for 256 rows: only the first and the last eight can be at the sequence's ends. -/
def share (back fwd full : BitVec 32) (t : IVec S8x128 32) : FVec F S256x128 .f32 :=
  concatenate S256x128 0 [⟨S8x128, edge back fwd t⟩, ⟨S240x128, broadcast S240x128 (Scalar.ofBits .f32 full : F .f32)⟩,
    ⟨S8x128, edge back fwd (addi t (broadcast S8x128 248#32))⟩] concatenates_S8x128_S240x128_S8x128_S256x128_d0

/-- The share of each of the four windows. -/
def shareOf (g : Fin 4) (t : IVec S8x128 32) : FVec F S256x128 .f32 :=
  match g with
  | 0 => share 1#32 0#32 0x3F000000#32 t
  | 1 => share 2#32 1#32 0x3E800000#32 t
  | 2 => share 4#32 3#32 0x3E000000#32 t
  | 3 => share 8#32 7#32 0x3D800000#32 t

/-- A window's mean less the row itself. -/
def centred (g : Fin 4) (t : IVec S8x128 32) (a : FVec F S272x128 .f32) : FVec F S256x128 .f32 :=
  subf (mulf (window g a) (shareOf g t)) (inner a)

/-- One group of the pool, through its weights. -/
def group (g : Fin 4) (t : IVec S8x128 32) (a : FVec F S272x128 .f32) (w : Vec F S1x128x128 .bf16) : FVec F S256x128 .f32 :=
  matmul dot_S256x128_S128x128_S256x128_1_0_0_1_n_n none (truncf .bf16 (centred g t a) bitsLt_bf16_f32)
    (shapeCast S128x128 w shapeCasts_S1x128x128_S128x128) (constant S256x128 .f32 0x00000000#32)

/-- The four groups side by side, scaled. -/
def pooled (o0 o1 o2 o3 : FVec F S256x128 .f32) (s : Vec F S1x512 .f32) : FVec F S256x512 .f32 :=
  mulf (concatenate S256x512 1 [⟨S256x128, o0⟩, ⟨S256x128, o1⟩, ⟨S256x128, o2⟩, ⟨S256x128, o3⟩]
      concatenates_S256x128_S256x128_S256x128_S256x128_S256x512_d1)
    (broadcastTo S256x512 (shapeCast S1x512 s shapeCasts_S1x512_S1x512) broadcasts_S1x512_S256x512)

/-- The pool and the attention side by side, through the output weights. -/
def mixed (o : FVec F S256x512 .f32) (a : Vec F S1x256x512 .bf16) (w : Vec F S1024x1024 .bf16) : FVec F S256x1024 .f32 :=
  matmul dot_S256x1024_S1024x1024_S256x1024_1_0_0_1_n_n none
    (concatenate S256x1024 1 [⟨S256x512, truncf .bf16 o bitsLt_bf16_f32⟩,
      ⟨S256x512, shapeCast S256x512 a shapeCasts_S1x256x512_S256x512⟩] concatenates_S256x512_S256x512_S256x1024_d1)
    (shapeCast S1024x1024 w shapeCasts_S1024x1024_S1024x1024) (constant S256x1024 .f32 0x00000000#32)

/-- Rows over the root of their mean square, scaled. -/
def normed (z : FVec F S256x1024 .f32) (g : Vec F S1x1024 .f32) : FVec F S256x1024 .f32 :=
  mulf (mulf z (broadcastTo S256x1024 (rsqrt (addf
      (divf (shapeCast S256x1 (multiReduction .add [1] S256 (mulf z z) 0x00000000#32 reduces_S256x1024_S256 (.inl rfl) rfl)
        shapeCasts_S256_S256x1) (broadcast S256x1 (Scalar.ofBits .f32 0x44800000#32 : F .f32)))
      (broadcast S256x1 (Scalar.ofBits .f32 0x358637BD#32 : F .f32)))) broadcasts_S256x1_S256x1024))
    (broadcastTo S256x1024 (shapeCast S1x1024 g shapeCasts_S1x1024_S1x1024) broadcasts_S1x1024_S256x1024)

/-- The rows of the layer's input. -/
def rowsIn (x : Vec F S1x256x1024 .f32) : FVec F S256x1024 .f32 := shapeCast S256x1024 x shapeCasts_S1x256x1024_S256x1024

/-- 1024 features through 2816 columns. -/
def widened (h : FVec F S256x1024 .f32) (w : Vec F S1024x2816 .bf16) : FVec F S256x2816 .f32 :=
  matmul dot_S256x1024_S1024x2816_S256x2816_1_0_0_1_n_n none (truncf .bf16 h bitsLt_bf16_f32)
    (shapeCast S1024x2816 w shapeCasts_S1024x2816_S1024x2816) (constant S256x2816 .f32 0x00000000#32)

/-- The gate times its sigmoid times the other branch. -/
def gated (a b : FVec F S256x2816 .f32) : FVec F S256x2816 .f32 := mulf (mulf a (logistic a)) b

/-- 2816 features through 1024 columns. -/
def narrowed (a : FVec F S256x2816 .f32) (w : Vec F S2816x1024 .bf16) : FVec F S256x1024 .f32 :=
  matmul dot_S256x2816_S2816x1024_S256x1024_1_0_0_1_n_n none (truncf .bf16 a bitsLt_bf16_f32)
    (shapeCast S2816x1024 w shapeCasts_S2816x1024_S2816x1024) (constant S256x1024 .f32 0x00000000#32)

/-- The rows' own embeddings, through their weights. -/
def embedded (p : Vec F S1x1x256x256 .f32) (w : Vec F S256x1024 .bf16) : FVec F S256x1024 .f32 :=
  matmul dot_S256x256_S256x1024_S256x1024_1_0_0_1_n_n none
    (truncf .bf16 (shapeCast S256x256 p shapeCasts_S1x1x256x256_S256x256) bitsLt_bf16_f32)
    (shapeCast S256x1024 w shapeCasts_S256x1024_S256x1024) (constant S256x1024 .f32 0x00000000#32)

/-- The last gate's argument. -/
def logits (x : FVec F S256x1024 .f32) (w : Vec F S1024x1024 .bf16) (b : Vec F S1x1024 .f32) : FVec F S256x1024 .f32 :=
  addf (matmul dot_S256x1024_S1024x1024_S256x1024_1_0_0_1_n_n none (truncf .bf16 x bitsLt_bf16_f32)
      (shapeCast S1024x1024 w shapeCasts_S1024x1024_S1024x1024) (constant S256x1024 .f32 0x00000000#32))
    (broadcastTo S256x1024 (shapeCast S1x1024 b shapeCasts_S1x1024_S1x1024) broadcasts_S1x1024_S256x1024)

/-- The rows after the feed-forward part. -/
def fed (x1 : FVec F S256x1024 .f32) (gp gq : Vec F S1x1024 .f32) (wg wu : Vec F S1024x2816 .bf16) (wd : Vec F S2816x1024 .bf16) :
    FVec F S256x1024 .f32 :=
  addf x1 (normed (narrowed (gated (widened (normed x1 gp) wg) (widened (normed x1 gp) wu)) wd) gq)

/-- The rows with their gated embeddings. -/
def gatedRows (x2 : FVec F S256x1024 .f32) (p : Vec F S1x1x256x256 .f32) (wp : Vec F S256x1024 .bf16) (wb : Vec F S1024x1024 .bf16)
    (b : Vec F S1x1024 .f32) : FVec F S256x1024 .f32 :=
  addf x2 (mulf (embedded p wp) (logistic (logits x2 wb b)))

/-- 256 rows of the result, from the mixed rows. -/
def finish (z : FVec F S256x1024 .f32) (x : Vec F S1x256x1024 .f32) (p : Vec F S1x1x256x256 .f32) (gm gp gq : Vec F S1x1024 .f32)
    (wg wu : Vec F S1024x2816 .bf16) (wd : Vec F S2816x1024 .bf16) (wp : Vec F S256x1024 .bf16) (wb : Vec F S1024x1024 .bf16)
    (b : Vec F S1x1024 .f32) : FVec F S1x256x1024 .f32 :=
  shapeCast S1x256x1024 (gatedRows (fed (addf (rowsIn x) (normed z gm)) gp gq wg wu wd) p wp wb b) shapeCasts_S256x1024_S1x256x1024

end Cert.Kernel2Ideal.Tile

end
-- ==== Proof.PostBlock.lean ====
/- What one grid point of the kernel after the attention leaves in its output block, as two halves of 256 rows. -/
module

public import proofs.«01_k».proof.Proof.Gen.Kernel2Ideal.Frame
public import proofs.«01_k».proof.Proof.PostTile
public import Idealize.ShloMosaic.Lib.Pipeline.ReadBack
public import Idealize.ShloMosaic.Lib.Pipeline.Value
public import Idealize.ShloMosaic.Lib.Pipeline.ValueKit.Basic

@[expose] public section

noncomputable section

namespace Cert.Kernel2Ideal.Block

open Cert.Kernel2Ideal Cert.Kernel2Ideal.Gen Cert.Kernel2Ideal.Tile Idealize.ShloMosaic Idealize.ShloMosaic.TcCoe

variable {F : FTy → Type} [FloatOps F]

/-- The three stores of the pool input, last first: after the rows, the rows, before the rows. -/
def stores (i : grid0.Coords) (x1 : Vec F S1x512x512 .f32) (x2 x3 : Vec F S1x8x512 .f32) : List (View.Piece (Elt F) S528x512 .f32) :=
  [⟨Rect.unit ![520, 0] S8x512.size inb_S528x512_S8x512_520_0, k0_pay4 i x3⟩,
    ⟨Rect.unit ![8, 0] S512x512.size inb_S528x512_S512x512_8_0, k0_pay3 x1⟩,
    ⟨Rect.unit ![0, 0] S8x512.size inb_S528x512_S8x512_0_0, k0_pay2 i x2⟩]

/-- The point's pool input between its two halos of eight rows. -/
def extended (i : grid0.Coords) (x1 : Vec F S1x512x512 .f32) (x2 x3 : Vec F S1x8x512 .f32) : Vec F S528x512 .f32 :=
  View.canon (stores i x1 x2 x3)

/-- The columns of one group for one half, with the halos. -/
def columns (e : Vec F S528x512 .f32) (b : Fin 2) (g : Fin 4) : FVec F S272x128 .f32 :=
  View.ld e (Rect.unit ![b.val * 256, g.val * 128] S272x128.size (by
    intro a; have := b.isLt; have := g.isLt; fin_cases a <;> simp [S272x128, S528x512] <;> omega))

/-- One group's pool weights. -/
def weights (x6 : Vec F S4x128x128 .bf16) (g : Fin 4) : Vec F S1x128x128 .bf16 :=
  View.ld x6 (Rect.unit ![g.val, 0, 0] S1x128x128.size (by
    intro a; have := g.isLt; fin_cases a <;> simp [S1x128x128, S4x128x128] <;> omega))

/-- One half's rows of the attention. -/
def attnOf (x4 : Vec F S1x512x512 .bf16) (b : Fin 2) : Vec F S1x256x512 .bf16 :=
  View.ld x4 (Rect.unit ![0, b.val * 256, 0] S1x256x512.size (by
    intro a; have := b.isLt; fin_cases a <;> simp [S1x256x512, S1x512x512] <;> omega))

/-- One half's rows of the layer's input. -/
def inputOf (x0 : Vec F S1x512x1024 .f32) (b : Fin 2) : Vec F S1x256x1024 .f32 :=
  View.ld x0 (Rect.unit ![0, b.val * 256, 0] S1x256x1024.size (by
    intro a; have := b.isLt; fin_cases a <;> simp [S1x256x1024, S1x512x1024] <;> omega))

/-- One half's rows of the embeddings. -/
def embOf (x5 : Vec F S1x1x512x256 .f32) (b : Fin 2) : Vec F S1x1x256x256 .f32 :=
  View.ld x5 (Rect.unit ![0, 0, b.val * 256, 0] S1x1x256x256.size (by
    intro a; have := b.isLt; fin_cases a <;> simp [S1x1x256x256, S1x1x512x256] <;> omega))

/-- One group of one half. -/
def groupOf (i : grid0.Coords) (e : Vec F S528x512 .f32) (x6 : Vec F S4x128x128 .bf16) (b : Fin 2) (g : Fin 4) : FVec F S256x128 .f32 :=
  group g (times (BitVec.ofNat 32 (i 1).val) (BitVec.ofNat 32 (b.val * 256))) (columns e b g) (weights x6 g)

/-- One half's rows of the result. -/
def half (i : grid0.Coords) (b : Fin 2) (x0 : Vec F S1x512x1024 .f32) (x1 : Vec F S1x512x512 .f32) (x2 : Vec F S1x8x512 .f32) (x3 : Vec F S1x8x512 .f32) (x4 : Vec F S1x512x512 .bf16) (x5 : Vec F S1x1x512x256 .f32) (x6 : Vec F S4x128x128 .bf16) (x7 : Vec F S1x512 .f32) (x8 : Vec F S1024x1024 .bf16) (x9 : Vec F S1x1024 .f32) (x10 : Vec F S1x1024 .f32) (x11 : Vec F S1x1024 .f32) (x12 : Vec F S1024x2816 .bf16) (x13 : Vec F S1024x2816 .bf16) (x14 : Vec F S2816x1024 .bf16) (x15 : Vec F S256x1024 .bf16) (x16 : Vec F S1024x1024 .bf16) (x17 : Vec F S1x1024 .f32) : FVec F S1x256x1024 .f32 :=
  let e := extended i x1 x2 x3
  finish (mixed (pooled (groupOf i e x6 b 0) (groupOf i e x6 b 1) (groupOf i e x6 b 2) (groupOf i e x6 b 3) x7) (attnOf x4 b) x8)
    (inputOf x0 b) (embOf x5 b) x9 x10 x11 x12 x13 x14 x15 x16 x17

/-! The body's pieces, put together as the functions of one half: in the first half, then in the second. -/

section
variable (T : IVec S8x128 32) (a : FVec F S272x128 .f32) (w : Vec F S1x128x128 .bf16) (o0 o1 o2 : FVec F S256x128 .f32) (o : FVec F S256x512 .f32)
  (s : Vec F S1x512 .f32) (A : Vec F S1x256x512 .bf16) (wo : Vec F S1024x1024 .bf16) (x : Vec F S1x256x1024 .f32) (g : Vec F S1x1024 .f32)
  (z f : FVec F S256x1024 .f32) (wg wu : Vec F S1024x2816 .bf16) (wd : Vec F S2816x1024 .bf16) (p : Vec F S1x1x256x256 .f32)
  (wp : Vec F S256x1024 .bf16) (b : Vec F S1x1024 .f32) (n : BitVec 32) (i : grid0.Coords)

theorem first_times : k0_pay5 i = times (BitVec.ofNat 32 (i 1).val) (BitVec.ofNat 32 ((0 : Fin 2).val * 256)) := rfl
theorem first_group0 : k0_pay7 T a (k0_pay6 a) 1#32 w = group 0 T a w := rfl
theorem first_group1 : k0_pay9 (k0_pay8 T a 271#32) w = group 1 T a w := rfl
theorem first_group2 : k0_pay15 a (k0_pay10 a) (k0_pay11 T) k0_pay12 (k0_pay13 T) k0_pay14 w = group 2 T a w := rfl
theorem first_pool : k0_pay21 o0 o1 o2 a (k0_pay16 a) (k0_pay17 T) k0_pay18 (k0_pay19 T) (k0_pay20 T) w s =
    pooled o0 o1 o2 (group 3 T a w) s := rfl
theorem first_sum : k0_pay42 (k0_pay37 o A wo) (k0_pay39 x) (k0_pay40 g) (k0_pay41 o A wo) = addf (rowsIn x) (normed (mixed o A wo) g) := rfl
theorem first_norm : k0_pay43 (k0_pay37 o A wo) (k0_pay39 x) (k0_pay40 g) (k0_pay41 o A wo) b =
    truncf .bf16 (normed (addf (rowsIn x) (normed (mixed o A wo) g)) b) bitsLt_bf16_f32 := rfl
theorem first_ff : k0_pay46 (truncf .bf16 z bitsLt_bf16_f32) wg wu wd = narrowed (gated (widened z wg) (widened z wu)) wd := rfl
theorem first_fed : k0_pay48 z f g = addf z (normed f g) := rfl
theorem first_fed' : k0_pay49 z f g = truncf .bf16 (addf z (normed f g)) bitsLt_bf16_f32 := rfl
theorem first_end : k0_pay54 z (truncf .bf16 z bitsLt_bf16_f32) (k0_pay52 p wp) (k0_pay53 wo) b =
    shapeCast S1x256x1024 (gatedRows z p wp wo b) shapeCasts_S256x1024_S1x256x1024 := rfl
theorem second_times : k0_pay22 n = times n (BitVec.ofNat 32 ((1 : Fin 2).val * 256)) := rfl
theorem second_group0 : k0_pay25 (times n (BitVec.ofNat 32 ((1 : Fin 2).val * 256))) a (k0_pay23 a) (k0_pay24 n) w =
    group 0 (times n (BitVec.ofNat 32 ((1 : Fin 2).val * 256))) a w := rfl
theorem second_group1 : k0_pay28 T a (k0_pay26 a) (k0_pay27 T) w = group 1 T a w := rfl
theorem second_group2 : k0_pay32 (k0_pay30 T a (k0_pay29 a)) (k0_pay31 w) (constant S256x128 .f32 0#32) = group 2 T a w := rfl
theorem second_mixed : k0_pay38 o0 o1 o2 a (k0_pay33 a) (k0_pay34 T) k0_pay35 (k0_pay36 T) (FloatOps.ofBits .f32 1065353216#32) w s A wo =
    mixed (pooled o0 o1 o2 (group 3 T a w) s) A wo := rfl
theorem second_sum : k0_pay44 z x g = addf (rowsIn x) (normed z g) := rfl
theorem second_gated : k0_pay45 z g wg wu = truncf .bf16 (gated (widened (normed z g) wg) (widened (normed z g) wu)) bitsLt_bf16_f32 := rfl
theorem second_fed (v : FVec F S256x2816 .f32) : k0_pay50 z (truncf .bf16 v bitsLt_bf16_f32) (k0_pay47 wd) (constant S256x1024 .f32 0#32) g =
    addf z (normed (narrowed v wd) g) := rfl
theorem second_fed' (v : FVec F S256x2816 .f32) : k0_pay51 z (truncf .bf16 v bitsLt_bf16_f32) (k0_pay47 wd) (constant S256x1024 .f32 0#32) g =
    truncf .bf16 (addf z (normed (narrowed v wd) g)) bitsLt_bf16_f32 := rfl
theorem second_end : k0_pay1 (k0_pay55 z (truncf .bf16 z bitsLt_bf16_f32) p wp wo b) =
    shapeCast S1x256x1024 (gatedRows z p wp wo b) shapeCasts_S256x1024_S1x256x1024 := rfl

end

variable (c : Dev nD) (i : grid0.Coords) (arg2 : Memref sig .tc .vmem S1x512x1024 .f32) (harg2 : arg2.IsWhole) (arg3 : Memref sig .tc .vmem S1x512x512 .f32) (harg3 : arg3.IsWhole) (arg4 : Memref sig .tc .vmem S1x8x512 .f32) (harg4 : arg4.IsWhole) (arg5 : Memref sig .tc .vmem S1x8x512 .f32) (harg5 : arg5.IsWhole) (arg6 : Memref sig .tc .vmem S1x512x512 .bf16) (harg6 : arg6.IsWhole) (arg7 : Memref sig .tc .vmem S1x1x512x256 .f32) (harg7 : arg7.IsWhole) (arg8 : Memref sig .tc .vmem S4x128x128 .bf16) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x2816 .bf16) (harg14 : arg14.IsWhole) (arg15 : Memref sig .tc .vmem S1024x2816 .bf16) (harg15 : arg15.IsWhole) (arg16 : Memref sig .tc .vmem S2816x1024 .bf16) (harg16 : arg16.IsWhole) (arg17 : Memref sig .tc .vmem S256x1024 .bf16) (harg17 : arg17.IsWhole) (arg18 : Memref sig .tc .vmem S1024x1024 .bf16) (harg18 : arg18.IsWhole) (arg19 : Memref sig .tc .vmem S1x1024 .f32) (harg19 : arg19.IsWhole) (arg20 : Memref sig .tc .vmem S1x512x1024 .f32) (harg20 : arg20.IsWhole) (arg21 : Memref sig .tc .vmem S528x512 .f32) (harg21 : arg21.IsWhole)
    (x0 : Vec F S1x512x1024 .f32) (x1 : Vec F S1x512x512 .f32) (x2 : Vec F S1x8x512 .f32) (x3 : Vec F S1x8x512 .f32) (x4 : Vec F S1x512x512 .bf16) (x5 : Vec F S1x1x512x256 .f32) (x6 : Vec F S4x128x128 .bf16) (x7 : Vec F S1x512 .f32) (x8 : Vec F S1024x1024 .bf16) (x9 : Vec F S1x1024 .f32) (x10 : Vec F S1x1024 .f32) (x11 : Vec F S1x1024 .f32) (x12 : Vec F S1024x2816 .bf16) (x13 : Vec F S1024x2816 .bf16) (x14 : Vec F S2816x1024 .bf16) (x15 : Vec F S256x1024 .bf16) (x16 : Vec F S1024x1024 .bf16) (x17 : Vec F S1x1024 .f32)

theorem canon_stores : View.canon (stores i x1 x2 x3) = extended i x1 x2 x3 := rfl

/-! Each load of the stored pool input is the columns of a group. -/

theorem load_0_0 : arg21.view.readCov (stores i x1 x2 x3) (Rect.unit (s := S528x512) ![0, 0] ![272, 128] inb_S528x512_S272x128_0_0).toLoadRect =
    columns (extended i x1 x2 x3) 0 0 := by
  rw [View.readCov_eq_canon', canon_stores]; generalize extended i x1 x2 x3 = E; rfl
theorem load_0_1 : arg21.view.readCov (stores i x1 x2 x3) (Rect.unit (s := S528x512) ![0, 128] ![272, 128] inb_S528x512_S272x128_0_128).toLoadRect =
    columns (extended i x1 x2 x3) 0 1 := by
  rw [View.readCov_eq_canon', canon_stores]; generalize extended i x1 x2 x3 = E; rfl
theorem load_0_2 : arg21.view.readCov (stores i x1 x2 x3) (Rect.unit (s := S528x512) ![0, 256] ![272, 128] inb_S528x512_S272x128_0_256).toLoadRect =
    columns (extended i x1 x2 x3) 0 2 := by
  rw [View.readCov_eq_canon', canon_stores]; generalize extended i x1 x2 x3 = E; rfl
theorem load_0_3 : arg21.view.readCov (stores i x1 x2 x3) (Rect.unit (s := S528x512) ![0, 384] ![272, 128] inb_S528x512_S272x128_0_384).toLoadRect =
    columns (extended i x1 x2 x3) 0 3 := by
  rw [View.readCov_eq_canon', canon_stores]; generalize extended i x1 x2 x3 = E; rfl
theorem load_1_0 : arg21.view.readCov (stores i x1 x2 x3) (Rect.unit (s := S528x512) ![256, 0] ![272, 128] inb_S528x512_S272x128_256_0).toLoadRect =
    columns (extended i x1 x2 x3) 1 0 := by
  rw [View.readCov_eq_canon', canon_stores]; generalize extended i x1 x2 x3 = E; rfl
theorem load_1_1 : arg21.view.readCov (stores i x1 x2 x3) (Rect.unit (s := S528x512) ![256, 128] ![272, 128] inb_S528x512_S272x128_256_128).toLoadRect =
    columns (extended i x1 x2 x3) 1 1 := by
  rw [View.readCov_eq_canon', canon_stores]; generalize extended i x1 x2 x3 = E; rfl
theorem load_1_2 : arg21.view.readCov (stores i x1 x2 x3) (Rect.unit (s := S528x512) ![256, 256] ![272, 128] inb_S528x512_S272x128_256_256).toLoadRect =
    columns (extended i x1 x2 x3) 1 2 := by
  rw [View.readCov_eq_canon', canon_stores]; generalize extended i x1 x2 x3 = E; rfl
theorem load_1_3 : arg21.view.readCov (stores i x1 x2 x3) (Rect.unit (s := S528x512) ![256, 384] ![272, 128] inb_S528x512_S272x128_256_384).toLoadRect =
    columns (extended i x1 x2 x3) 1 3 := by
  rw [View.readCov_eq_canon', canon_stores]; generalize extended i x1 x2 x3 = E; rfl

/-- The point's stores of the pool input. -/
theorem stored : kernelRun0_A.sl.HS0_3 c i arg3 harg3 arg4 harg4 arg5 harg5 x1 x2 x3 = stores i x1 x2 x3 := by
  simp only [kernelRun0_A.sl.HS0_3, View.readAt_eq_ld, harg3.read_unread, harg4.read_unread, harg5.read_unread]
  simp (disch := decide) only [View.ld_unit_lit]
  rfl

set_option maxRecDepth 20000
set_option maxHeartbeats 1000000
/-- The stores that a point leaves in its output block, last first: the two halves. -/
theorem pieces : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17).1 =
    [⟨Rect.unit ![0, 256, 0] S1x256x1024.size inb_S1x512x1024_S1x256x1024_0_256_0, half i 1 x0 x1 x2 x3 x4 x5 x6 x7 x8 x9 x10 x11 x12 x13 x14 x15 x16 x17⟩,
     ⟨Rect.unit ![0, 0, 0] S1x256x1024.size inb_S1x512x1024_S1x256x1024_0_0_0, half i 0 x0 x1 x2 x3 x4 x5 x6 x7 x8 x9 x10 x11 x12 x13 x14 x15 x16 x17⟩] := by
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6,
      kernelRun0_A.sl.r_7, kernelRun0_A.sl.r_8, kernelRun0_A.sl.r_9, kernelRun0_A.sl.r_10, kernelRun0_A.sl.r_11, kernelRun0_A.sl.r_12, kernelRun0_A.sl.r_13,
      kernelRun0_A.sl.r_14, kernelRun0_A.sl.r_15, kernelRun0_A.sl.r_16, kernelRun0_A.sl.r_17, kernelRun0_A.sl.r_18, kernelRun0_A.sl.r_19,
      kernelRun0_A.sl.r_20, kernelRun0_A.sl.r_21, kernelRun0_A.sl.r_22, kernelRun0_A.sl.r_23, kernelRun0_A.sl.r_24, kernelRun0_A.sl.r_25,
      kernelRun0_A.sl.r_26, kernelRun0_A.sl.r_27, kernelRun0_A.sl.r_28, kernelRun0_A.sl.r_29, kernelRun0_A.sl.r_30, kernelRun0_A.sl.r_31,
      kernelRun0_A.sl.r_32, kernelRun0_A.sl.r_33, kernelRun0_A.sl.r_34, kernelRun0_A.sl.r_35, kernelRun0_A.sl.r_36, kernelRun0_A.sl.r_37,
      kernelRun0_A.sl.r_38, kernelRun0_A.sl.r_39, kernelRun0_A.sl.r_40, kernelRun0_A.sl.r_41, kernelRun0_A.sl.r_42, kernelRun0_A.sl.r_43,
      kernelRun0_A.sl.r_44, kernelRun0_A.sl.r_45, kernelRun0_A.sl.r_46]
  simp only [kernelRun0_A.sl.cst_156, kernelRun0_A.sl.cst_176, kernelRun0_A.sl.cst_238, kernelRun0_A.sl.v26, kernelRun0_A.sl.v69, kernelRun0_A.sl.v114,
      kernelRun0_A.sl.v161, kernelRun0_A.sl.v220, kernelRun0_A.sl.v263, kernelRun0_A.sl.v308, kernelRun0_A.sl.v355]
  simp only [stored]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
  simp (disch := decide) only [View.ld_unit_lit]
  have w0 : View.ld x6 (Rect.unit ![0, 0, 0] ![1, 128, 128] inb_S4x128x128_S1x128x128_0_0_0) = weights x6 0 := rfl
  have w1 : View.ld x6 (Rect.unit ![1, 0, 0] ![1, 128, 128] inb_S4x128x128_S1x128x128_1_0_0) = weights x6 1 := rfl
  have w2 : View.ld x6 (Rect.unit ![2, 0, 0] ![1, 128, 128] inb_S4x128x128_S1x128x128_2_0_0) = weights x6 2 := rfl
  have w3 : View.ld x6 (Rect.unit ![3, 0, 0] ![1, 128, 128] inb_S4x128x128_S1x128x128_3_0_0) = weights x6 3 := rfl
  have a0 : View.ld x4 (Rect.unit ![0, 0, 0] ![1, 256, 512] inb_S1x512x512_S1x256x512_0_0_0) = attnOf x4 0 := rfl
  have i0 : View.ld x0 (Rect.unit ![0, 0, 0] ![1, 256, 1024] inb_S1x512x1024_S1x256x1024_0_0_0) = inputOf x0 0 := rfl
  have p0 : View.ld x5 (Rect.unit ![0, 0, 0, 0] ![1, 1, 256, 256] inb_S1x1x512x256_S1x1x256x256_0_0_0_0) = embOf x5 0 := rfl
  have a1 : View.ld x4 (Rect.unit ![0, 256, 0] ![1, 256, 512] inb_S1x512x512_S1x256x512_0_256_0) = attnOf x4 1 := rfl
  have i1 : View.ld x0 (Rect.unit ![0, 256, 0] ![1, 256, 1024] inb_S1x512x1024_S1x256x1024_0_256_0) = inputOf x0 1 := rfl
  have p1 : View.ld x5 (Rect.unit ![0, 0, 256, 0] ![1, 1, 256, 256] inb_S1x1x512x256_S1x1x256x256_0_0_256_0) = embOf x5 1 := rfl
  simp only [w0, w1, w2, w3, a0, a1, i0, i1, p0, p1]
  simp only [first_times, first_group0, first_group1, first_group2, first_pool, first_sum, first_norm, first_ff, first_fed, first_fed', first_end,
    second_times, second_group0, second_group1, second_group2, second_mixed, second_sum, second_gated, second_fed, second_fed', second_end, load_0_0, load_0_1, load_0_2, load_0_3, load_1_0, load_1_1, load_1_2, load_1_3]
  rfl

end Cert.Kernel2Ideal.Block

end
-- ==== Proof.PoolRow.lean ====
/- Sums over windows of a sequence, and rows through a layer's feed-forward part: the mathematics both programs compute. -/
module

public import Idealize.ShloMosaic.PureOps.Ideal
public import Idealize.ShloMosaic.Lib.Pipeline.Value

@[expose] public section

noncomputable section

namespace Cert.PoolRow

open Idealize.ShloMosaic

/-- The first row of a window of `2 n` rows around row `t`, cut at the sequence's start. -/
def lower (n t : Nat) : Nat := t - n
/-- One past the last row of the window, cut at the sequence's end. -/
def upper (n t : Nat) : Nat := min (t + n) 4096

/-- A sequence of 4096 rows, continued by zeros. -/
def ext (f : Fin 4096 → EReal) (n : Nat) : EReal := if h : n < 4096 then f ⟨n, h⟩ else 0

/-- The sum of a window of `2 n` rows around row `t`, cut at the sequence's ends. -/
def windowSum (n : Nat) (f : Fin 4096 → EReal) (t : Nat) : EReal :=
  ∑ i ∈ Finset.range (upper n t - lower n t), ext f (lower n t + i)

/-- The mean of the window less the row itself. -/
def centred (n : Nat) (f : Fin 4096 → EReal) (t : Fin 4096) : EReal :=
  windowSum n f t.val * ((1 / ((upper n t.val - lower n t.val : Nat) : ℝ) : ℝ) : EReal) - f t

/-- Sums of the first rows differ by the sum of the rows between, where the rows are real. -/
theorem prefix_sub (f : Fin 4096 → EReal) (hf : ∀ i, ∃ r : ℝ, f i = r) (n t : Nat) (ht : t < 4096) :
    ∑ i ∈ Finset.range (upper n t), ext f i - ∑ i ∈ Finset.range (lower n t), ext f i = windowSum n f t := by
  have hl : lower n t ≤ upper n t := by unfold lower upper; omega
  have he : ∀ i, ∃ r : ℝ, ext f i = r := fun i => by
    unfold ext; split
    · exact hf _
    · exact ⟨0, rfl⟩
  choose r hr using he
  have hs : ∀ m, ∑ i ∈ Finset.range m, ext f i = ((∑ i ∈ Finset.range m, r i : ℝ) : EReal) := fun m => by
    induction m with
    | zero => simp
    | succ m ih => rw [Finset.sum_range_succ, Finset.sum_range_succ, ih, hr, EReal.coe_add]
  have hw : windowSum n f t = ((∑ i ∈ Finset.range (upper n t - lower n t), r (lower n t + i) : ℝ) : EReal) := by
    unfold windowSum
    generalize upper n t - lower n t = m
    induction m with
    | zero => simp
    | succ m ih => rw [Finset.sum_range_succ, Finset.sum_range_succ, ih, hr, EReal.coe_add]
  rw [hs, hs, hw, ← EReal.coe_sub]
  congr 1
  conv_lhs => rw [show upper n t = lower n t + (upper n t - lower n t) by omega, Finset.sum_range_add]
  ring

/-- The sequence between two halos of eight zeros. -/
def padded (f : Fin 4096 → EReal) (n : Nat) : EReal := if 8 ≤ n then ext f (n - 8) else 0

/-- A whole window of the padded sequence sums to the cut window. -/
theorem padded_sum (f : Fin 4096 → EReal) (n t : Nat) (hn : n ≤ 8) (ht : t < 4096) :
    ∑ k ∈ Finset.range (2 * n), padded f (t + 8 - n + k) = windowSum n f t := by
  have hsplit : 2 * n = (n - t) + (upper n t - lower n t) + (t + n - 4096) := by unfold upper lower; omega
  rw [hsplit, Finset.sum_range_add, Finset.sum_range_add]
  rw [Finset.sum_eq_zero (s := Finset.range (n - t)), Finset.sum_eq_zero (s := Finset.range (t + n - 4096)), zero_add, add_zero]
  · unfold windowSum
    refine Finset.sum_congr rfl fun i hi => ?_
    have := Finset.mem_range.1 hi
    unfold padded
    rw [if_pos (by omega)]
    congr 1
    unfold lower; omega
  · intro i hi
    have := Finset.mem_range.1 hi
    unfold padded ext
    split
    · rw [dif_neg (by unfold upper lower; omega)]
    · rfl
  · intro i hi
    have := Finset.mem_range.1 hi
    unfold padded
    rw [if_neg (by omega)]

/-- A vector times a matrix. -/
def lin {n m : Nat} (a : Fin n → EReal) (w : Fin n → Fin m → EReal) (j : Fin m) : EReal := ∑ k, a k * w k j

/-- A row over the root of its mean square, scaled. -/
def rms (z g : Fin 1024 → EReal) (c : Fin 1024) : EReal :=
  z c * Ideal.rsqrt (Ideal.div (∑ k, z k * z k) (Ideal.ofBits .f32 0x44800000#32) + Ideal.ofBits .f32 0x358637BD#32) * g c

/-- Two halves of a row, one after the other. -/
def joined (o a : Fin 512 → EReal) (k : Fin 1024) : EReal :=
  if h : k.val < 512 then o ⟨k.val, h⟩ else a ⟨k.val - 512, by omega⟩

/-- The gated feed-forward part added to a row. -/
def fed (z gp gq : Fin 1024 → EReal) (wg wu : Fin 1024 → Fin 2816 → EReal) (wd : Fin 2816 → Fin 1024 → EReal) (c : Fin 1024) : EReal :=
  z c + rms (lin (fun j => lin (rms z gp) wg j * Ideal.logistic (lin (rms z gp) wg j) * lin (rms z gp) wu j) wd) gq c

/-- The gated embeddings added to a row. -/
def embedded (z : Fin 1024 → EReal) (p : Fin 256 → EReal) (wp : Fin 256 → Fin 1024 → EReal) (wb : Fin 1024 → Fin 1024 → EReal)
    (b : Fin 1024 → EReal) (c : Fin 1024) : EReal :=
  z c + lin p wp c * Ideal.logistic (lin z wb c + b c)

/-- A row of the result, from its row of the pool. -/
def rowOut (o a : Fin 512 → EReal) (wo : Fin 1024 → Fin 1024 → EReal) (x : Fin 1024 → EReal) (p : Fin 256 → EReal) (gm gp gq : Fin 1024 → EReal)
    (wg wu : Fin 1024 → Fin 2816 → EReal) (wd : Fin 2816 → Fin 1024 → EReal) (wp : Fin 256 → Fin 1024 → EReal)
    (wb : Fin 1024 → Fin 1024 → EReal) (b : Fin 1024 → EReal) (c : Fin 1024) : EReal :=
  embedded (fed (fun k => x k + rms (lin (joined o a) wo) gm k) gp gq wg wu wd) p wp wb b c

/-- Half the window of each of the four groups. -/
def reach (g : Fin 4) : Nat := match g with | 0 => 1 | 1 => 2 | 2 => 4 | 3 => 8

/-- A row of the pool: each group's centred mean through the group's weights, scaled. -/
def poolRow (u : Fin 512 → Fin 4096 → EReal) (w : Fin 4 → Fin 128 → Fin 128 → EReal) (s : Fin 512 → EReal) (t : Fin 4096) (n : Fin 512) : EReal :=
  (∑ e : Fin 128, centred (reach ⟨n.val / 128, by omega⟩) (u ⟨n.val / 128 * 128 + e.val, by omega⟩) t
    * w ⟨n.val / 128, by omega⟩ e ⟨n.val % 128, by omega⟩) * s n

end Cert.PoolRow

end
-- ==== Proof.PostItem.lean ====
/- The functions of one half of a grid point at an index, over the extended reals. -/
module

public import proofs.«01_k».proof.Proof.PostTile
public import proofs.«01_k».proof.Proof.PoolRow
public import Idealize.ShloMosaic.Lib.Pointwise

@[expose] public section

set_option maxRecDepth 20000

noncomputable section

namespace Cert.Kernel2Ideal.ItemValue

open Cert.Kernel2Ideal Cert.Kernel2Ideal.Gen Cert.PoolRow Idealize.ShloMosaic

/-! The windows' sums. -/

/-- A column of 272 rows, as a function of the row's number. -/
def col (a : FVec Ideal S272x128 .f32) (j : Fin 128) (m : Nat) : EReal := if h : m < 272 then a (ix2 ⟨m, h⟩ j) else 0

theorem turned (n : BitVec 32) (a : FVec Ideal S272x128 .f32) (m : Fin 272) (j : Fin 128) :
    Tile.plusTurned n a (ix2 m j) = a (ix2 m j) + a (ix2 ⟨(m.val + 272 - n.toNat % 272) % 272, Nat.mod_lt _ (by omega)⟩ j) := by
  pointwise [Tile.plusTurned]

theorem col_back (n : BitVec 32) (a : FVec Ideal S272x128 .f32) (j : Fin 128) (m k : Nat) (hn : n.toNat = k) (hk : k ≤ m) (hm : m < 272) :
    col (Tile.plusTurned n a) j m = col a j m + col a j (m - k) := by
  unfold col
  rw [dif_pos hm, dif_pos hm, dif_pos (by omega), turned]
  congr 4
  simp only
  rw [hn, Nat.mod_eq_of_lt (show k < 272 by omega), show m + 272 - k = (m - k) + 272 by omega, Nat.add_mod_right, Nat.mod_eq_of_lt (by omega)]

theorem col_fwd (n : BitVec 32) (a : FVec Ideal S272x128 .f32) (j : Fin 128) (m k : Nat) (hn : n.toNat + k = 272) (hk : 0 < k) (hm : m + k < 272) :
    col (Tile.plusTurned n a) j m = col a j m + col a j (m + k) := by
  unfold col
  rw [dif_pos (by omega), dif_pos (by omega), dif_pos hm, turned]
  congr 4
  simp only
  rw [Nat.mod_eq_of_lt (show n.toNat < 272 by omega), show m + 272 - n.toNat = m + k by omega, Nat.mod_eq_of_lt hm]

theorem inner_apply (a : FVec Ideal S272x128 .f32) (r : Fin 256) (j : Fin 128) : Tile.inner a (ix2 r j) = col a j (r.val + 8) := by
  unfold col
  rw [dif_pos (by omega)]
  pointwise [Tile.inner]
  simp only [Nat.add_comm 8]

theorem window_apply (g : Fin 4) (a : FVec Ideal S272x128 .f32) (r : Fin 256) (j : Fin 128) :
    Tile.window g a (ix2 r j) = ∑ k ∈ Finset.range (2 * reach g), col a j (r.val + 8 - reach g + k) := by
  have hr := r.isLt
  obtain ⟨m, hm⟩ : ∃ m, m = r.val := ⟨_, rfl⟩
  have f1 : ∀ (A : FVec Ideal S272x128 .f32) (q : Nat), q + 1 < 272 → col (Tile.plusTurned 271#32 A) j q = col A j q + col A j (q + 1) :=
    fun A q h => col_fwd 271#32 A j q 1 (by decide) (by omega) h
  have f2 : ∀ (A : FVec Ideal S272x128 .f32) (q : Nat), q + 2 < 272 → col (Tile.plusTurned 270#32 A) j q = col A j q + col A j (q + 2) :=
    fun A q h => col_fwd 270#32 A j q 2 (by decide) (by omega) h
  have f4 : ∀ (A : FVec Ideal S272x128 .f32) (q : Nat), q + 4 < 272 → col (Tile.plusTurned 268#32 A) j q = col A j q + col A j (q + 4) :=
    fun A q h => col_fwd 268#32 A j q 4 (by decide) (by omega) h
  match g with
  | 0 =>
    show Tile.inner _ (ix2 r j) = _
    rw [inner_apply, col_back 1#32 a j _ 1 (by decide) (by omega) (by omega), ← hm, show m + 8 - 1 = m + 7 by omega]
    simp only [reach, show m + 8 - 1 = m + 7 by omega, Nat.reduceMul, Finset.sum_range_succ, Finset.sum_range_zero, Nat.add_assoc, Nat.reduceAdd]
    abel
  | 1 =>
    show Tile.inner _ (ix2 r j) = _
    rw [inner_apply, col_back 2#32 _ j _ 2 (by decide) (by omega) (by omega), ← hm, show m + 8 - 2 = m + 6 by omega,
      f1 _ _ (by omega), f1 _ _ (by omega)]
    simp only [reach, show m + 8 - 2 = m + 6 by omega, Nat.reduceMul, Finset.sum_range_succ, Finset.sum_range_zero, Nat.add_assoc, Nat.reduceAdd]
    abel
  | 2 =>
    show Tile.inner _ (ix2 r j) = _
    rw [inner_apply, col_back 4#32 _ j _ 4 (by decide) (by omega) (by omega), ← hm, show m + 8 - 4 = m + 4 by omega,
      f2 _ _ (by omega), f2 _ _ (by omega), f1 _ _ (by omega), f1 _ _ (by omega), f1 _ _ (by omega), f1 _ _ (by omega)]
    simp only [reach, show m + 8 - 4 = m + 4 by omega, Nat.reduceMul, Finset.sum_range_succ, Finset.sum_range_zero, Nat.add_assoc, Nat.reduceAdd]
    abel
  | 3 =>
    show Tile.inner _ (ix2 r j) = _
    rw [inner_apply, col_back 8#32 _ j _ 8 (by decide) (by omega) (by omega), ← hm, show m + 8 - 8 = m by omega,
      f4 _ _ (by omega), f4 _ _ (by omega), f2 _ _ (by omega), f2 _ _ (by omega), f2 _ _ (by omega), f2 _ _ (by omega),
      f1 _ _ (by omega), f1 _ _ (by omega), f1 _ _ (by omega), f1 _ _ (by omega), f1 _ _ (by omega), f1 _ _ (by omega), f1 _ _ (by omega),
      f1 _ _ (by omega)]
    simp only [reach, show m + 8 - 8 = m by omega, Nat.reduceMul, Finset.sum_range_succ, Finset.sum_range_zero, Nat.add_assoc, Nat.reduceAdd, Nat.add_zero]
    abel

/-! The windows' shares. -/

/-- How many rows a window around a row holds, in the kernel's integer arithmetic. -/
def counted (back fwd t : BitVec 32) : BitVec 32 :=
  IntOp.addi (IntOp.subi (IntOp.minsi (IntOp.addi t fwd) 4095#32) (IntOp.maxsi (IntOp.subi t back) 0#32)) 1#32

theorem counted0 : ∀ t : Fin 4096, (counted 1#32 0#32 (BitVec.ofNat 32 t.val)).toInt = (upper 1 t.val - lower 1 t.val : Nat) := by decide +kernel
theorem counted1 : ∀ t : Fin 4096, (counted 2#32 1#32 (BitVec.ofNat 32 t.val)).toInt = (upper 2 t.val - lower 2 t.val : Nat) := by decide +kernel
theorem counted2 : ∀ t : Fin 4096, (counted 4#32 3#32 (BitVec.ofNat 32 t.val)).toInt = (upper 4 t.val - lower 4 t.val : Nat) := by decide +kernel
theorem counted3 : ∀ t : Fin 4096, (counted 8#32 7#32 (BitVec.ofNat 32 t.val)).toInt = (upper 8 t.val - lower 8 t.val : Nat) := by decide +kernel

/-- The share of eight rows at an index. -/
theorem edge_apply (back fwd : BitVec 32) (T : IVec S8x128 32) (r : Fin 8) (j : Fin 128) :
    Tile.edge (F := Ideal) back fwd T (ix2 r j) = Ideal.div 1 (((counted back fwd (T (ix2 r j))).toInt : ℝ) : EReal) := by
  pointwise [Tile.edge]
  rfl

theorem times_apply (i b0 : Nat) (r : Fin 8) (j : Fin 128) :
    Tile.times (BitVec.ofNat 32 i) (BitVec.ofNat 32 b0) (ix2 r j) = BitVec.ofNat 32 (i * 512 + b0 + r.val) := by
  pointwise [Tile.times]
  show BitVec.ofNat 32 r.val + (BitVec.ofNat 32 i * BitVec.ofNat 32 512 + BitVec.ofNat 32 b0) = _
  rw [← BitVec.ofNat_mul, ← BitVec.ofNat_add, ← BitVec.ofNat_add, Nat.add_comm r.val]

theorem share_apply (n : Nat) (hn : 0 < n) (hn8 : n ≤ 8) (back fwd full : BitVec 32)
    (hc : ∀ t : Fin 4096, (counted back fwd (BitVec.ofNat 32 t.val)).toInt = (upper n t.val - lower n t.val : Nat))
    (hf : Ideal.ofBits FTy.f32 full = ((1 / ((2 * n : Nat) : ℝ) : ℝ) : EReal))
    (T : IVec S8x128 32) (p : Nat) (hp : p + 256 ≤ 4096) (hT : ∀ (r : Fin 8) (j : Fin 128), T (ix2 r j) = BitVec.ofNat 32 (p + r.val))
    (r : Fin 256) (j : Fin 128) :
    Tile.share (F := Ideal) back fwd full T (ix2 r j)
      = ((1 / ((upper n (p + r.val) - lower n (p + r.val) : Nat) : ℝ) : ℝ) : EReal) := by
  have key : ∀ q : Nat, q < 4096 → Ideal.div 1 (((counted back fwd (BitVec.ofNat 32 q)).toInt : ℝ) : EReal)
      = ((1 / ((upper n q - lower n q : Nat) : ℝ) : ℝ) : EReal) := by
    intro q hq
    have h0 : ((upper n q - lower n q : Nat) : ℝ) ≠ 0 := by
      have : 0 < upper n q - lower n q := by unfold upper lower; omega
      exact_mod_cast this.ne'
    rw [hc ⟨q, hq⟩, Int.cast_natCast, Ideal.div_coe h0, one_mul]
  have h1 : ∀ (r : Fin 8), Tile.edge (F := Ideal) back fwd T (ix2 r j)
      = ((1 / ((upper n (p + r.val) - lower n (p + r.val) : Nat) : ℝ) : ℝ) : EReal) := by
    intro r
    rw [edge_apply, hT, key _ (by omega)]
  have h2 : ∀ (r : Fin 8), Tile.edge (F := Ideal) back fwd (addi T (broadcast S8x128 248#32)) (ix2 r j)
      = ((1 / ((upper n (p + 248 + r.val) - lower n (p + 248 + r.val) : Nat) : ℝ) : ℝ) : EReal) := by
    intro r
    rw [edge_apply]
    rw [show addi T (broadcast S8x128 248#32) (ix2 r j) = T (ix2 r j) + BitVec.ofNat 32 248 from rfl, hT, ← BitVec.ofNat_add,
      show p + r.val + 248 = p + 248 + r.val by omega, key _ (by omega)]
  unfold Tile.share
  generalize (Tile.edge back fwd T : FVec Ideal S8x128 .f32) = e1 at *
  generalize (Tile.edge back fwd _ : FVec Ideal S8x128 .f32) = e2 at *
  pointwise
  split
  · exact h1 _
  · split
    · rw [hf, show upper n (p + r.val) - lower n (p + r.val) = 2 * n by unfold upper lower; omega]
    · rw [h2]
      simp only
      rw [show p + 248 + (r.val - 8 - 240) = p + r.val by omega]

/-! The four literals of whole windows. -/

theorem half_bits : Ideal.ofBits FTy.f32 0x3F000000#32 = ((1 / ((2 * 1 : Nat) : ℝ) : ℝ) : EReal) := by
  simp [Ideal.ofBits, Ideal.ieee]
  rw [← EReal.coe_mul]
  norm_num
theorem quarter_bits : Ideal.ofBits FTy.f32 0x3E800000#32 = ((1 / ((2 * 2 : Nat) : ℝ) : ℝ) : EReal) := by
  simp [Ideal.ofBits, Ideal.ieee]
  rw [← EReal.coe_mul]
  norm_num
theorem eighth_bits : Ideal.ofBits FTy.f32 0x3E000000#32 = ((1 / ((2 * 4 : Nat) : ℝ) : ℝ) : EReal) := by
  simp [Ideal.ofBits, Ideal.ieee]
  rw [← EReal.coe_mul]
  norm_num
theorem sixteenth_bits : Ideal.ofBits FTy.f32 0x3D800000#32 = ((1 / ((2 * 8 : Nat) : ℝ) : ℝ) : EReal) := by
  simp [Ideal.ofBits, Ideal.ieee]
  rw [← EReal.coe_mul]
  norm_num

theorem shareOf_apply (g : Fin 4) (T : IVec S8x128 32) (p : Nat) (hp : p + 256 ≤ 4096)
    (hT : ∀ (r : Fin 8) (j : Fin 128), T (ix2 r j) = BitVec.ofNat 32 (p + r.val)) (r : Fin 256) (j : Fin 128) :
    Tile.shareOf (F := Ideal) g T (ix2 r j)
      = ((1 / ((upper (reach g) (p + r.val) - lower (reach g) (p + r.val) : Nat) : ℝ) : ℝ) : EReal) := by
  match g with
  | 0 => exact share_apply 1 (by omega) (by omega) _ _ _ counted0 half_bits T p hp hT r j
  | 1 => exact share_apply 2 (by omega) (by omega) _ _ _ counted1 quarter_bits T p hp hT r j
  | 2 => exact share_apply 4 (by omega) (by omega) _ _ _ counted2 eighth_bits T p hp hT r j
  | 3 => exact share_apply 8 (by omega) (by omega) _ _ _ counted3 sixteenth_bits T p hp hT r j

/-- A group's centred means, where its columns are the padded sequence from row `p` on. -/
theorem centred_apply (g : Fin 4) (T : IVec S8x128 32) (p : Nat) (hp : p + 256 ≤ 4096)
    (hT : ∀ (r : Fin 8) (j : Fin 128), T (ix2 r j) = BitVec.ofNat 32 (p + r.val)) (a : FVec Ideal S272x128 .f32) (j : Fin 128)
    (f : Fin 4096 → EReal) (ha : ∀ m : Fin 272, a (ix2 m j) = padded f (p + m.val)) (r : Fin 256) :
    Tile.centred g T a (ix2 r j) = centred (reach g) f ⟨p + r.val, by omega⟩ := by
  have hg : reach g ≤ 8 := by fin_cases g <;> simp [reach]
  have hg0 : 0 < reach g := by fin_cases g <;> simp [reach]
  have hc : ∀ m, m < 272 → col a j m = padded f (p + m) := by
    intro m hm
    unfold col
    rw [dif_pos hm, ha]
  show Tile.window g a (ix2 r j) * Tile.shareOf (F := Ideal) g T (ix2 r j) - Tile.inner a (ix2 r j) = _
  rw [window_apply, shareOf_apply g T p hp hT, inner_apply, hc _ (by omega)]
  unfold centred
  rw [← padded_sum f (reach g) (p + r.val) hg (by omega)]
  congr 1
  · refine congrArg (· * _) (Finset.sum_congr rfl fun k hk => ?_)
    have := Finset.mem_range.1 hk
    rw [hc _ (by omega)]
    congr 1; omega
  · unfold padded ext
    rw [if_pos (by omega), dif_pos (by omega)]
    congr 1

/-! The rows through the rest of the layer. -/

theorem group_apply (g : Fin 4) (T : IVec S8x128 32) (a : FVec Ideal S272x128 .f32) (w : Vec Ideal S1x128x128 .bf16) (r : Fin 256) (j : Fin 128) :
    Tile.group g T a w (ix2 r j) = ∑ e : Fin 128, Tile.centred g T a (ix2 r e) * w (ix3 0 e j) := by
  unfold Tile.group
  generalize (Tile.centred g T a : FVec Ideal S256x128 .f32) = q
  pointwise

theorem pooled_apply (o : Fin 4 → FVec Ideal S256x128 .f32) (s : Vec Ideal S1x512 .f32) (r : Fin 256) (n : Fin 512) :
    Tile.pooled (o 0) (o 1) (o 2) (o 3) s (ix2 r n) = o ⟨n.val / 128, by omega⟩ (ix2 r ⟨n.val % 128, by omega⟩) * s (ix2 0 n) := by
  have key : ∀ (h h' : Fin 4) (d d' : Fin 128), h = h' → d = d' → o h (ix2 r d) = o h' (ix2 r d') := by
    rintro h _ d _ rfl rfl; rfl
  pointwise [Tile.pooled]
  refine congrArg (· * _) ?_
  split_ifs <;> exact key _ _ _ _ (Fin.ext (by simp; omega)) (Fin.ext (by simp; omega))

theorem mixed_apply (o : FVec Ideal S256x512 .f32) (a : Vec Ideal S1x256x512 .bf16) (w : Vec Ideal S1024x1024 .bf16) (r : Fin 256) (c : Fin 1024) :
    Tile.mixed o a w (ix2 r c) = lin (joined (fun n => o (ix2 r n)) (fun n => a (ix3 0 r n))) (fun k j => w (ix2 k j)) c := by
  unfold lin joined
  pointwise [Tile.mixed]

theorem normed_apply (z : FVec Ideal S256x1024 .f32) (g : Vec Ideal S1x1024 .f32) (r : Fin 256) (c : Fin 1024) :
    Tile.normed z g (ix2 r c) = rms (fun k => z (ix2 r k)) (fun k => g (ix2 0 k)) c := by
  unfold rms
  pointwise [Tile.normed]

theorem widened_apply (h : FVec Ideal S256x1024 .f32) (w : Vec Ideal S1024x2816 .bf16) (r : Fin 256) (c : Fin 2816) :
    Tile.widened h w (ix2 r c) = lin (fun k => h (ix2 r k)) (fun k j => w (ix2 k j)) c := by
  unfold lin
  pointwise [Tile.widened]

theorem gated_apply (a b : FVec Ideal S256x2816 .f32) (r : Fin 256) (c : Fin 2816) :
    Tile.gated a b (ix2 r c) = a (ix2 r c) * Ideal.logistic (a (ix2 r c)) * b (ix2 r c) := rfl

theorem narrowed_apply (a : FVec Ideal S256x2816 .f32) (w : Vec Ideal S2816x1024 .bf16) (r : Fin 256) (c : Fin 1024) :
    Tile.narrowed a w (ix2 r c) = lin (fun k => a (ix2 r k)) (fun k j => w (ix2 k j)) c := by
  unfold lin
  pointwise [Tile.narrowed]

theorem embedded_apply (p : Vec Ideal S1x1x256x256 .f32) (w : Vec Ideal S256x1024 .bf16) (r : Fin 256) (c : Fin 1024) :
    Tile.embedded p w (ix2 r c) = lin (fun k => p (ix4 0 0 r k)) (fun k j => w (ix2 k j)) c := by
  unfold lin
  pointwise [Tile.embedded]

theorem logits_apply (x : FVec Ideal S256x1024 .f32) (w : Vec Ideal S1024x1024 .bf16) (b : Vec Ideal S1x1024 .f32) (r : Fin 256) (c : Fin 1024) :
    Tile.logits x w b (ix2 r c) = lin (fun k => x (ix2 r k)) (fun k j => w (ix2 k j)) c + b (ix2 0 c) := by
  unfold lin
  pointwise [Tile.logits]

theorem rowsIn_apply (x : Vec Ideal S1x256x1024 .f32) (r : Fin 256) (c : Fin 1024) : Tile.rowsIn x (ix2 r c) = x (ix3 0 r c) := by
  pointwise [Tile.rowsIn]

theorem fed_apply (z : FVec Ideal S256x1024 .f32) (gp gq : Vec Ideal S1x1024 .f32) (wg wu : Vec Ideal S1024x2816 .bf16) (wd : Vec Ideal S2816x1024 .bf16)
    (r : Fin 256) (c : Fin 1024) :
    Tile.fed z gp gq wg wu wd (ix2 r c) = fed (fun k => z (ix2 r k)) (fun k => gp (ix2 0 k)) (fun k => gq (ix2 0 k)) (fun k j => wg (ix2 k j))
      (fun k j => wu (ix2 k j)) (fun k j => wd (ix2 k j)) c := by
  show z (ix2 r c) + Tile.normed _ _ (ix2 r c) = _
  rw [normed_apply]
  simp only [narrowed_apply, gated_apply, widened_apply, normed_apply]
  rfl

theorem gatedRows_apply (z : FVec Ideal S256x1024 .f32) (p : Vec Ideal S1x1x256x256 .f32) (wp : Vec Ideal S256x1024 .bf16) (wb : Vec Ideal S1024x1024 .bf16)
    (b : Vec Ideal S1x1024 .f32) (r : Fin 256) (c : Fin 1024) :
    Tile.gatedRows z p wp wb b (ix2 r c) = embedded (fun k => z (ix2 r k)) (fun k => p (ix4 0 0 r k)) (fun k j => wp (ix2 k j)) (fun k j => wb (ix2 k j))
      (fun k => b (ix2 0 k)) c := by
  show z (ix2 r c) + Tile.embedded p wp (ix2 r c) * Ideal.logistic (Tile.logits z wb b (ix2 r c)) = _
  rw [embedded_apply, logits_apply]
  rfl

/-- A row of the result, from its rows of the pool and of the attention. -/
theorem finish_apply (o : FVec Ideal S256x512 .f32) (a : Vec Ideal S1x256x512 .bf16) (w : Vec Ideal S1024x1024 .bf16) (x : Vec Ideal S1x256x1024 .f32)
    (p : Vec Ideal S1x1x256x256 .f32) (gm gp gq : Vec Ideal S1x1024 .f32) (wg wu : Vec Ideal S1024x2816 .bf16) (wd : Vec Ideal S2816x1024 .bf16)
    (wp : Vec Ideal S256x1024 .bf16) (wb : Vec Ideal S1024x1024 .bf16) (b : Vec Ideal S1x1024 .f32) (r : Fin 256) (c : Fin 1024) :
    Tile.finish (Tile.mixed o a w) x p gm gp gq wg wu wd wp wb b (ix3 0 r c)
      = rowOut (fun n => o (ix2 r n)) (fun n => a (ix3 0 r n)) (fun k j => w (ix2 k j)) (fun k => x (ix3 0 r k)) (fun k => p (ix4 0 0 r k))
          (fun k => gm (ix2 0 k)) (fun k => gp (ix2 0 k)) (fun k => gq (ix2 0 k)) (fun k j => wg (ix2 k j)) (fun k j => wu (ix2 k j))
          (fun k j => wd (ix2 k j)) (fun k j => wp (ix2 k j)) (fun k j => wb (ix2 k j)) (fun k => b (ix2 0 k)) c := by
  have hz : ∀ c, addf (Tile.rowsIn x) (Tile.normed (Tile.mixed o a w) gm) (ix2 r c)
      = x (ix3 0 r c) + rms (lin (joined (fun n => o (ix2 r n)) (fun n => a (ix3 0 r n))) (fun k j => w (ix2 k j))) (fun k => gm (ix2 0 k)) c := by
    intro c
    show Tile.rowsIn x (ix2 r c) + Tile.normed (Tile.mixed o a w) gm (ix2 r c) = _
    rw [rowsIn_apply, normed_apply]
    simp only [mixed_apply]
  unfold Tile.finish rowOut
  generalize (addf (Tile.rowsIn x) (Tile.normed (Tile.mixed o a w) gm) : FVec Ideal S256x1024 .f32) = z at *
  have hf := gatedRows_apply (Tile.fed z gp gq wg wu wd) p wp wb b r c
  simp only [fed_apply, hz] at hf
  rw [← hf]
  generalize (Tile.gatedRows _ p wp wb b : FVec Ideal S256x1024 .f32) = q
  pointwise

end Cert.Kernel2Ideal.ItemValue

end
-- ==== Proof.PostBlockValue.lean ====
/- One grid point's output block of the kernel after the attention, at an index, over the extended reals. -/
module

public import proofs.«01_k».proof.Proof.PostBlock
public import proofs.«01_k».proof.Proof.PostItem

@[expose] public section

set_option maxRecDepth 20000

noncomputable section

namespace Cert.Kernel2Ideal.BlockValue

open Cert.Kernel2Ideal Cert.Kernel2Ideal.Gen Cert.Kernel2Ideal.Block Cert.PoolRow Idealize.ShloMosaic Idealize.ShloMosaic.TcCoe

variable (i : grid0.Coords)
  (x0 : Vec Ideal S1x512x1024 .f32) (x1 : Vec Ideal S1x512x512 .f32) (x2 : Vec Ideal S1x8x512 .f32) (x3 : Vec Ideal S1x8x512 .f32) (x4 : Vec Ideal S1x512x512 .bf16) (x5 : Vec Ideal S1x1x512x256 .f32) (x6 : Vec Ideal S4x128x128 .bf16) (x7 : Vec Ideal S1x512 .f32) (x8 : Vec Ideal S1024x1024 .bf16) (x9 : Vec Ideal S1x1024 .f32) (x10 : Vec Ideal S1x1024 .f32) (x11 : Vec Ideal S1x1024 .f32) (x12 : Vec Ideal S1024x2816 .bf16) (x13 : Vec Ideal S1024x2816 .bf16) (x14 : Vec Ideal S2816x1024 .bf16) (x15 : Vec Ideal S256x1024 .bf16) (x16 : Vec Ideal S1024x1024 .bf16) (x17 : Vec Ideal S1x1024 .f32)

/-! The pool input with its halos. -/

/-- The row before the block's rows, the rows, the rows after: zeros where the sequence has none. -/
def haloed (r n : Nat) (hr : r < 528) (hn : n < 512) : EReal :=
  if h : r < 8 then (if 0 < (i 1).val then x2 (ix3 0 ⟨r, h⟩ ⟨n, hn⟩) else 0)
  else if h : r < 520 then x1 (ix3 0 ⟨r - 8, by omega⟩ ⟨n, hn⟩)
  else (if (i 1).val < 7 then x3 (ix3 0 ⟨r - 520, by omega⟩ ⟨n, hn⟩) else 0)

theorem after_first : ∀ k : Fin 8, Scalar.cmpi .sgt (BitVec.ofNat 32 k.val) 0#32 = if 0 < k.val then 1#1 else 0#1 := by decide
theorem before_last : ∀ k : Fin 8, Scalar.cmpi .slt (BitVec.ofNat 32 k.val) 7#32 = if k.val < 7 then 1#1 else 0#1 := by decide

theorem before_apply (r : Fin 8) (n : Fin 512) : k0_pay2 i x2 (ix2 r n) = if 0 < (i 1).val then x2 (ix3 0 r n) else 0 := by
  have h := after_first ⟨(i 1).val, (i 1).isLt⟩
  unfold k0_pay2
  simp only at h
  simp only [h]
  split
  · pointwise
  · pointwise

theorem rows_apply (r : Fin 512) (n : Fin 512) : k0_pay3 x1 (ix2 r n) = x1 (ix3 0 r n) := by
  pointwise [k0_pay3]

theorem after_apply (r : Fin 8) (n : Fin 512) : k0_pay4 i x3 (ix2 r n) = if (i 1).val < 7 then x3 (ix3 0 r n) else 0 := by
  have h := before_last ⟨(i 1).val, (i 1).isLt⟩
  unfold k0_pay4
  simp only at h
  simp only [h]
  split
  · pointwise
  · pointwise

theorem stores_cover (y : S528x512.Idx) : ∃ p ∈ stores i x1 x2 x3, y ∈ p.1.set := by
  have h0 : (y 0).val < 528 := (y 0).isLt
  have h1 : (y 1).val < 512 := (y 1).isLt
  by_cases a : (y 0).val < 8
  · refine ⟨_, List.mem_cons_of_mem _ (List.mem_cons_of_mem _ List.mem_cons_self), ?_⟩
    rw [Rect.mem_set_unit]
    intro k
    match k with
    | ⟨0, _⟩ => show 0 ≤ (y 0).val ∧ (y 0).val < 0 + 8; omega
    | ⟨1, _⟩ => show 0 ≤ (y 1).val ∧ (y 1).val < 0 + 512; omega
  by_cases b : (y 0).val < 520
  · refine ⟨_, List.mem_cons_of_mem _ List.mem_cons_self, ?_⟩
    rw [Rect.mem_set_unit]
    intro k
    match k with
    | ⟨0, _⟩ => show 8 ≤ (y 0).val ∧ (y 0).val < 8 + 512; omega
    | ⟨1, _⟩ => show 0 ≤ (y 1).val ∧ (y 1).val < 0 + 512; omega
  · refine ⟨_, List.mem_cons_self, ?_⟩
    rw [Rect.mem_set_unit]
    intro k
    match k with
    | ⟨0, _⟩ => show 520 ≤ (y 0).val ∧ (y 0).val < 520 + 8; omega
    | ⟨1, _⟩ => show 0 ≤ (y 1).val ∧ (y 1).val < 0 + 512; omega

theorem extended_apply (r : Fin 528) (n : Fin 512) :
    extended i x1 x2 x3 (ix2 r n) = haloed i x1 x2 x3 r.val n.val r.isLt n.isLt := by
  unfold extended
  refine View.canon_apply_of_pieces (fun y : S528x512.Idx => haloed i x1 x2 x3 (y 0).val (y 1).val (y 0).isLt (y 1).isLt) (stores i x1 x2 x3) ?_
    (ix2 r n) (stores_cover i x1 x2 x3 (ix2 r n))
  intro p hp x
  unfold stores at hp
  simp only [List.mem_cons, List.not_mem_nil, or_false] at hp
  rcases hp with rfl | rfl | rfl
  · obtain ⟨a, b, rfl⟩ : ∃ (a : Fin 8) (b : Fin 512), x = ix2 a b := ⟨x 0, x 1, eq_ix2 x⟩
    refine (after_apply i x3 a b).trans ?_
    have e0 : ((Rect.unit (s := S528x512) ![520, 0] S8x512.size inb_S528x512_S8x512_520_0).emb (ix2 a b) 0).val = 520 + a.val := by
      show 520 + 1 * a.val = _; omega
    have e1 : ((Rect.unit (s := S528x512) ![520, 0] S8x512.size inb_S528x512_S8x512_520_0).emb (ix2 a b) 1).val = b.val := by
      show 0 + 1 * b.val = _; omega
    unfold haloed
    simp only [e0, e1]
    rw [dif_neg (by omega), dif_neg (by omega)]
    simp only [Nat.add_sub_cancel_left]
  · obtain ⟨a, b, rfl⟩ : ∃ (a : Fin 512) (b : Fin 512), x = ix2 a b := ⟨x 0, x 1, eq_ix2 x⟩
    refine (rows_apply x1 a b).trans ?_
    have e0 : ((Rect.unit (s := S528x512) ![8, 0] S512x512.size inb_S528x512_S512x512_8_0).emb (ix2 a b) 0).val = 8 + a.val := by
      show 8 + 1 * a.val = _; omega
    have e1 : ((Rect.unit (s := S528x512) ![8, 0] S512x512.size inb_S528x512_S512x512_8_0).emb (ix2 a b) 1).val = b.val := by
      show 0 + 1 * b.val = _; omega
    unfold haloed
    simp only [e0, e1]
    rw [dif_neg (by omega), dif_pos (by omega)]
    simp only [Nat.add_sub_cancel_left]
  · obtain ⟨a, b, rfl⟩ : ∃ (a : Fin 8) (b : Fin 512), x = ix2 a b := ⟨x 0, x 1, eq_ix2 x⟩
    refine (before_apply i x2 a b).trans ?_
    have e0 : ((Rect.unit (s := S528x512) ![0, 0] S8x512.size inb_S528x512_S8x512_0_0).emb (ix2 a b) 0).val = a.val := by
      show 0 + 1 * a.val = _; omega
    have e1 : ((Rect.unit (s := S528x512) ![0, 0] S8x512.size inb_S528x512_S8x512_0_0).emb (ix2 a b) 1).val = b.val := by
      show 0 + 1 * b.val = _; omega
    unfold haloed
    simp only [e0, e1]
    rw [dif_pos (by omega)]

/-! One half's rows. -/

theorem columns_apply (e : Vec Ideal S528x512 .f32) (b : Fin 2) (g : Fin 4) (m : Fin 272) (j : Fin 128) :
    columns e b g (ix2 m j) = e (ix2 ⟨b.val * 256 + m.val, by omega⟩ ⟨g.val * 128 + j.val, by omega⟩) := by
  pointwise [columns]

theorem weights_apply (g : Fin 4) (e j : Fin 128) : weights x6 g (ix3 0 e j) = x6 (ix3 g e j) := by
  pointwise [weights]

theorem attnOf_apply (b : Fin 2) (r : Fin 256) (n : Fin 512) : attnOf x4 b (ix3 0 r n) = x4 (ix3 0 ⟨b.val * 256 + r.val, by omega⟩ n) := by
  pointwise [attnOf]

theorem inputOf_apply (b : Fin 2) (r : Fin 256) (n : Fin 1024) : inputOf x0 b (ix3 0 r n) = x0 (ix3 0 ⟨b.val * 256 + r.val, by omega⟩ n) := by
  pointwise [inputOf]

theorem embOf_apply (b : Fin 2) (r : Fin 256) (n : Fin 256) : embOf x5 b (ix4 0 0 r n) = x5 (ix4 0 0 ⟨b.val * 256 + r.val, by omega⟩ n) := by
  pointwise [embOf]

variable (f : Fin 512 → Fin 4096 → EReal)

/-- A point's first row in the sequence. -/
theorem first_row : (i 1).val * 512 + 512 ≤ 4096 := by
  have : (i 1).val < 8 := (i 1).isLt
  omega

/-- What a grid point's block holds at row `q` and column `c`, where `f` is the pool's input. -/
def rowFn (q : Fin 512) (c : Fin 1024) : EReal :=
  rowOut (poolRow f (fun g e j => x6 (ix3 g e j)) (fun n => x7 (ix2 0 n)) ⟨(i 1).val * 512 + q.val, by have := first_row i; omega⟩)
    (fun n => x4 (ix3 0 q n)) (fun k j => x8 (ix2 k j)) (fun k => x0 (ix3 0 q k)) (fun k => x5 (ix4 0 0 q k))
    (fun k => x9 (ix2 0 k)) (fun k => x10 (ix2 0 k)) (fun k => x11 (ix2 0 k)) (fun k j => x12 (ix2 k j)) (fun k j => x13 (ix2 k j))
    (fun k j => x14 (ix2 k j)) (fun k j => x15 (ix2 k j)) (fun k j => x16 (ix2 k j)) (fun k => x17 (ix2 0 k)) c

theorem group_apply (b : Fin 2) (e : Vec Ideal S528x512 .f32)
    (he : ∀ (r : Fin 528) (n : Fin 512), e (ix2 r n) = padded (f n) ((i 1).val * 512 + r.val)) (g : Fin 4) (r : Fin 256) (j : Fin 128) :
    groupOf i e x6 b g (ix2 r j) = ∑ k : Fin 128, centred (reach g) (f ⟨g.val * 128 + k.val, by omega⟩)
      ⟨(i 1).val * 512 + (b.val * 256 + r.val), by have := first_row i; omega⟩ * x6 (ix3 g k j) := by
  have hi := first_row i
  unfold groupOf
  rw [ItemValue.group_apply]
  refine Finset.sum_congr rfl fun k _ => ?_
  rw [weights_apply, ItemValue.centred_apply g _ ((i 1).val * 512 + b.val * 256) (by omega) (fun r j => ItemValue.times_apply _ _ r j)
    (columns e b g) k (f ⟨g.val * 128 + k.val, by omega⟩) (fun m => by rw [columns_apply, he]; exact congrArg (padded _) (by simp only; omega))]
  refine congrArg (fun q => centred _ _ q * _) (Fin.ext ?_)
  show (i 1).val * 512 + b.val * 256 + r.val = (i 1).val * 512 + (b.val * 256 + r.val)
  omega

theorem half_apply (b : Fin 2)
    (he : ∀ (r : Fin 528) (n : Fin 512), extended i x1 x2 x3 (ix2 r n) = padded (f n) ((i 1).val * 512 + r.val)) (r : Fin 256) (c : Fin 1024) :
    half i b x0 x1 x2 x3 x4 x5 x6 x7 x8 x9 x10 x11 x12 x13 x14 x15 x16 x17 (ix3 0 r c)
      = rowFn i x0 x4 x5 x6 x7 x8 x9 x10 x11 x12 x13 x14 x15 x16 x17 f ⟨b.val * 256 + r.val, by omega⟩ c := by
  unfold half
  rw [ItemValue.finish_apply]
  unfold rowFn
  simp only [attnOf_apply, inputOf_apply, embOf_apply]
  refine congrArg (fun o => rowOut o _ _ _ _ _ _ _ _ _ _ _ _ _ c) (funext fun n => ?_)
  rw [ItemValue.pooled_apply (groupOf i (extended i x1 x2 x3) x6 b), group_apply i x6 f b _ he]
  rfl

/-- The block's function of its index. -/
def blockFn (y : S1x512x1024.Idx) : EReal :=
  rowFn i x0 x4 x5 x6 x7 x8 x9 x10 x11 x12 x13 x14 x15 x16 x17 f ⟨(y 1).val, (y 1).isLt⟩ ⟨(y 2).val, (y 2).isLt⟩

/-- A half's rows are the block's rows at its place. -/
theorem place (b : Fin 2) (he : ∀ (r : Fin 528) (n : Fin 512), extended i x1 x2 x3 (ix2 r n) = padded (f n) ((i 1).val * 512 + r.val))
    (inb : ∀ a, ![0, b.val * 256, 0] a + S1x256x1024.size a ≤ S1x512x1024.size a) (x : S1x256x1024.Idx) :
    half i b x0 x1 x2 x3 x4 x5 x6 x7 x8 x9 x10 x11 x12 x13 x14 x15 x16 x17 x
      = blockFn i x0 x4 x5 x6 x7 x8 x9 x10 x11 x12 x13 x14 x15 x16 x17 f ((Rect.unit (s := S1x512x1024) ![0, b.val * 256, 0] S1x256x1024.size inb).emb x) := by
  obtain ⟨a, r, n, rfl⟩ : ∃ (a : Fin 1) (r : Fin 256) (n : Fin 1024), x = ix3 a r n := ⟨x 0, x 1, x 2, eq_ix3 x⟩
  obtain rfl : a = 0 := Subsingleton.elim a 0
  rw [half_apply i x0 x1 x2 x3 x4 x5 x6 x7 x8 x9 x10 x11 x12 x13 x14 x15 x16 x17 f b he]
  have e1 : ((Rect.unit (s := S1x512x1024) ![0, b.val * 256, 0] S1x256x1024.size inb).emb (ix3 0 r n) 1).val = b.val * 256 + r.val := by
    show b.val * 256 + 1 * r.val = _
    omega
  have e2 : ((Rect.unit (s := S1x512x1024) ![0, b.val * 256, 0] S1x256x1024.size inb).emb (ix3 0 r n) 2).val = n.val := by
    show 0 + 1 * n.val = _
    omega
  unfold blockFn
  simp only [e1, e2]

variable (c : Dev nD) (arg2 : Memref sig .tc .vmem S1x512x1024 .f32) (harg2 : arg2.IsWhole) (arg3 : Memref sig .tc .vmem S1x512x512 .f32) (harg3 : arg3.IsWhole) (arg4 : Memref sig .tc .vmem S1x8x512 .f32) (harg4 : arg4.IsWhole) (arg5 : Memref sig .tc .vmem S1x8x512 .f32) (harg5 : arg5.IsWhole) (arg6 : Memref sig .tc .vmem S1x512x512 .bf16) (harg6 : arg6.IsWhole) (arg7 : Memref sig .tc .vmem S1x1x512x256 .f32) (harg7 : arg7.IsWhole) (arg8 : Memref sig .tc .vmem S4x128x128 .bf16) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x2816 .bf16) (harg14 : arg14.IsWhole) (arg15 : Memref sig .tc .vmem S1024x2816 .bf16) (harg15 : arg15.IsWhole) (arg16 : Memref sig .tc .vmem S2816x1024 .bf16) (harg16 : arg16.IsWhole) (arg17 : Memref sig .tc .vmem S256x1024 .bf16) (harg17 : arg17.IsWhole) (arg18 : Memref sig .tc .vmem S1024x1024 .bf16) (harg18 : arg18.IsWhole) (arg19 : Memref sig .tc .vmem S1x1024 .f32) (harg19 : arg19.IsWhole) (arg20 : Memref sig .tc .vmem S1x512x1024 .f32) (harg20 : arg20.IsWhole) (arg21 : Memref sig .tc .vmem S528x512 .f32) (harg21 : arg21.IsWhole)

/-- What a grid point leaves in its output block. -/
theorem out_eq (he : ∀ (r : Fin 528) (n : Fin 512), extended i x1 x2 x3 (ix2 r n) = padded (f n) ((i 1).val * 512 + r.val)) :
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 = blockFn i x0 x4 x5 x6 x7 x8 x9 x10 x11 x12 x13 x14 x15 x16 x17 f := by
  unfold out0_A_18
  rw [View.read_writes_eq_canon _ _ _ (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17)]
  funext y
  refine View.canon_apply_of_pieces (blockFn i x0 x4 x5 x6 x7 x8 x9 x10 x11 x12 x13 x14 x15 x16 x17 f) _ ?_ y (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 y)
  rw [pieces]
  intro p hp x
  simp only [List.mem_cons, List.not_mem_nil, or_false] at hp
  rcases hp with rfl | rfl
  · exact place i x0 x1 x2 x3 x4 x5 x6 x7 x8 x9 x10 x11 x12 x13 x14 x15 x16 x17 f 1 he inb_S1x512x1024_S1x256x1024_0_256_0 x
  · exact place i x0 x1 x2 x3 x4 x5 x6 x7 x8 x9 x10 x11 x12 x13 x14 x15 x16 x17 f 0 he inb_S1x512x1024_S1x256x1024_0_0_0 x

end Cert.Kernel2Ideal.BlockValue

end
-- ==== Proof.PostHostArgs.lean ====
/- What the host hands the kernel after the attention: the arguments and one layer's weights. -/
module

public import proofs.«01_k».proof.Proof.Gen.Kernel2Ideal.Frame.Runs
public import Idealize.ShloMosaic.Lib.Pointwise
public import Idealize.ShloMosaic.Lib.StableHlo.ReadAt

@[expose] public section

set_option maxRecDepth 16384

noncomputable section

namespace Cert.Kernel2Ideal.HostArgs

open Cert.Kernel2Ideal Cert.Kernel2Ideal.Gen Idealize.ShloMosaic Idealize.ShloMosaic.TcCoe

variable (m : (ℓ : Loc nD τ sig) → Buf (Elt Ideal) ℓ) (c : Dev nD)

/-! The arguments as launched. -/

abbrev xArg : FVec Ideal S16x4096x1024 .f32 := m ((c : Thread nD τ).loc main_arg0)
abbrev uArg : FVec Ideal S16x4096x512 .f32 := m ((c : Thread nD τ).loc main_arg1)
abbrev attnArg : FVec Ideal S16x4096x512 .bf16 := m ((c : Thread nD τ).loc main_arg2)
abbrev embArg : FVec Ideal S1x16x4096x256 .f32 := m ((c : Thread nD τ).loc main_arg3)
abbrev gmixArg : FVec Ideal S1x1024 .f32 := m ((c : Thread nD τ).loc main_arg4)
abbrev poolwArg : FVec Ideal S1x4x128x128 .f32 := m ((c : Thread nD τ).loc main_arg5)
abbrev scaleArg : FVec Ideal S1x512 .f32 := m ((c : Thread nD τ).loc main_arg6)
abbrev woutArg : FVec Ideal S1x1024x1024 .f32 := m ((c : Thread nD τ).loc main_arg7)
abbrev gpreArg : FVec Ideal S1x1024 .f32 := m ((c : Thread nD τ).loc main_arg8)
abbrev gpostArg : FVec Ideal S1x1024 .f32 := m ((c : Thread nD τ).loc main_arg9)
abbrev wgateArg : FVec Ideal S1x1024x2816 .f32 := m ((c : Thread nD τ).loc main_arg10)
abbrev wupArg : FVec Ideal S1x1024x2816 .f32 := m ((c : Thread nD τ).loc main_arg11)
abbrev wdownArg : FVec Ideal S1x2816x1024 .f32 := m ((c : Thread nD τ).loc main_arg12)
abbrev wprojArg : FVec Ideal S1x256x1024 .f32 := m ((c : Thread nD τ).loc main_arg13)
abbrev wpleArg : FVec Ideal S1x1024x1024 .f32 := m ((c : Thread nD τ).loc main_arg14)
abbrev bpleArg : FVec Ideal S1x1024 .f32 := m ((c : Thread nD τ).loc main_arg15)

/-! Arguments the kernel reads as they are. -/

theorem x_read (b : Fin 16) (s : Fin 4096) (n : Fin 1024) : (V m c main_arg0 : Vec Ideal S16x4096x1024 .f32) (ix3 b s n) = xArg m c (ix3 b s n) := by
  unfold V hostOps0
  after_reads_at

theorem u_read (b : Fin 16) (s : Fin 4096) (n : Fin 512) : (V m c main_arg1 : Vec Ideal S16x4096x512 .f32) (ix3 b s n) = uArg m c (ix3 b s n) := by
  unfold V hostOps0
  after_reads_at

theorem attn_read (b : Fin 16) (s : Fin 4096) (n : Fin 512) : (V m c main_arg2 : Vec Ideal S16x4096x512 .bf16) (ix3 b s n) = attnArg m c (ix3 b s n) := by
  unfold V hostOps0
  after_reads_at

theorem emb_read (b : Fin 16) (s : Fin 4096) (n : Fin 256) : (V m c main_arg3 : Vec Ideal S1x16x4096x256 .f32) (ix4 0 b s n) = embArg m c (ix4 0 b s n) := by
  unfold V hostOps0
  after_reads_at

/-! One layer's weights. -/

theorem poolw_read (g : Fin 4) (i j : Fin 128) : (V m c main_v1 : Vec Ideal S4x128x128 .bf16) (ix3 g i j) = poolwArg m c (ix4 0 g i j) := by
  unfold V hostOps0
  after_reads_at

theorem scale_read (j : Fin 512) : (V m c main_v3 : Vec Ideal S1x512 .f32) (ix2 0 j) = scaleArg m c (ix2 0 j) := by
  unfold V hostOps0
  after_reads_at

theorem wout_read (i : Fin 1024) (j : Fin 1024) : (V m c main_v5 : Vec Ideal S1024x1024 .bf16) (ix2 i j) = woutArg m c (ix3 0 i j) := by
  unfold V hostOps0
  after_reads_at

theorem gmix_read (j : Fin 1024) : (V m c main_v7 : Vec Ideal S1x1024 .f32) (ix2 0 j) = gmixArg m c (ix2 0 j) := by
  unfold V hostOps0
  after_reads_at

theorem gpre_read (j : Fin 1024) : (V m c main_v9 : Vec Ideal S1x1024 .f32) (ix2 0 j) = gpreArg m c (ix2 0 j) := by
  unfold V hostOps0
  after_reads_at

theorem gpost_read (j : Fin 1024) : (V m c main_v11 : Vec Ideal S1x1024 .f32) (ix2 0 j) = gpostArg m c (ix2 0 j) := by
  unfold V hostOps0
  after_reads_at

theorem wgate_read (i : Fin 1024) (j : Fin 2816) : (V m c main_v13 : Vec Ideal S1024x2816 .bf16) (ix2 i j) = wgateArg m c (ix3 0 i j) := by
  unfold V hostOps0
  after_reads_at

theorem wup_read (i : Fin 1024) (j : Fin 2816) : (V m c main_v15 : Vec Ideal S1024x2816 .bf16) (ix2 i j) = wupArg m c (ix3 0 i j) := by
  unfold V hostOps0
  after_reads_at

theorem wdown_read (i : Fin 2816) (j : Fin 1024) : (V m c main_v17 : Vec Ideal S2816x1024 .bf16) (ix2 i j) = wdownArg m c (ix3 0 i j) := by
  unfold V hostOps0
  after_reads_at

theorem wproj_read (i : Fin 256) (j : Fin 1024) : (V m c main_v19 : Vec Ideal S256x1024 .bf16) (ix2 i j) = wprojArg m c (ix3 0 i j) := by
  unfold V hostOps0
  after_reads_at

theorem wple_read (i : Fin 1024) (j : Fin 1024) : (V m c main_v21 : Vec Ideal S1024x1024 .bf16) (ix2 i j) = wpleArg m c (ix3 0 i j) := by
  unfold V hostOps0
  after_reads_at

theorem bple_read (j : Fin 1024) : (V m c main_v23 : Vec Ideal S1x1024 .f32) (ix2 0 j) = bpleArg m c (ix2 0 j) := by
  unfold V hostOps0
  after_reads_at

end Cert.Kernel2Ideal.HostArgs

end
-- ==== Proof.PostArrayValue.lean ====
/- What the result array of the kernel after the attention holds after the run, over the extended reals. -/
module

public import proofs.«01_k».proof.Proof.PostBlockValue
public import proofs.«01_k».proof.Proof.PostHostArgs
public import proofs.«01_k».proof.Proof.Gen.Kernel2Ideal.Value

@[expose] public section

set_option maxRecDepth 20000

noncomputable section

namespace Cert.Kernel2Ideal.ArrayValue

open Cert.Kernel2Ideal Cert.Kernel2Ideal.Gen Cert.Kernel2Ideal.BlockValue Cert.Kernel2Ideal.HostArgs Cert.PoolRow
open Idealize.ShloMosaic Idealize.ShloMosaic.TcCoe
open Idealize.ShloMosaic.Pipeline (Dat)

variable (m : (ℓ : Loc nD τ sig) → Buf (Elt Ideal) ℓ) (c : Dev nD)

/-- The array's element at batch `b`, row `q`, column `n`. -/
def element (b : Fin 16) (q : Fin 4096) (n : Fin 1024) : EReal :=
  rowOut (poolRow (fun n s => uArg m c (ix3 b s n)) (fun g e j => poolwArg m c (ix4 0 g e j)) (fun n => scaleArg m c (ix2 0 n)) q)
    (fun n => attnArg m c (ix3 b q n)) (fun k j => woutArg m c (ix3 0 k j)) (fun k => xArg m c (ix3 b q k)) (fun k => embArg m c (ix4 0 b q k))
    (fun k => gmixArg m c (ix2 0 k)) (fun k => gpreArg m c (ix2 0 k)) (fun k => gpostArg m c (ix2 0 k)) (fun k j => wgateArg m c (ix3 0 k j))
    (fun k j => wupArg m c (ix3 0 k j)) (fun k j => wdownArg m c (ix3 0 k j)) (fun k j => wprojArg m c (ix3 0 k j))
    (fun k j => wpleArg m c (ix3 0 k j)) (fun k => bpleArg m c (ix2 0 k)) n

/-- The result array. -/
def G : FVec Ideal S16x4096x1024 .f32 := fun i => element m c (i 0) (i 1) (i 2)

/-- The block indices of a grid point, for the windows that move, and its place in the sequence. -/
theorem index_facts : ∀ t : Fin cfg0.N,
    (win0_0.index t 0 = t.val / 8 ∧ win0_0.index t 1 = t.val % 8 ∧ win0_0.index t 2 = 0)
    ∧ (win0_1.index t 0 = t.val / 8 ∧ win0_1.index t 1 = t.val % 8 ∧ win0_1.index t 2 = 0)
    ∧ (win0_2.index t 0 = t.val / 8 ∧ win0_2.index t 1 = t.val % 8 * 64 - 1 ∧ win0_2.index t 2 = 0)
    ∧ (win0_3.index t 0 = t.val / 8 ∧ win0_3.index t 1 = min ((t.val % 8 + 1) * 64) 511 ∧ win0_3.index t 2 = 0)
    ∧ (win0_4.index t 0 = t.val / 8 ∧ win0_4.index t 1 = t.val % 8 ∧ win0_4.index t 2 = 0)
    ∧ (win0_5.index t 0 = 0 ∧ win0_5.index t 1 = t.val / 8 ∧ win0_5.index t 2 = t.val % 8 ∧ win0_5.index t 3 = 0)
    ∧ (win0_18.index t 0 = t.val / 8 ∧ win0_18.index t 1 = t.val % 8 ∧ win0_18.index t 2 = 0)
    ∧ (grid0.coords t 1).val = t.val % 8 :=
  (by decide +kernel : ∀ t : Fin grid0.N, _)

theorem lt_N (t : Fin cfg0.N) : t.val < 128 := lt_of_lt_of_eq t.isLt N_0

/-- An index into an array cut into blocks of `R` rows, by its block and its place there. -/
theorem at_rows {B S W R : ℕ} (x : Shape.Idx ⟨3, ![B, S, W]⟩) (b : Fin B) (s : Fin S) (n : Fin W) (i0 i1 i2 r : ℕ)
    (h0 : (x 0).val = i0 * 1 + 1 * 0) (h1 : (x 1).val = i1 * R + 1 * r) (h2 : (x 2).val = i2 * W + 1 * n.val)
    (e0 : i0 = b.val) (e1 : i1 * R + r = s.val) (e2 : i2 = 0) : x = ix3 b s n := by
  funext a
  match a with
  | ⟨0, _⟩ => exact Fin.ext (by show (x 0).val = b.val; omega)
  | ⟨1, _⟩ => exact Fin.ext (by show (x 1).val = s.val; omega)
  | ⟨2, _⟩ => exact Fin.ext (by show (x 2).val = n.val; rw [h2, e2]; omega)

/-- An index into an array that is one block. -/
theorem at_whole {R W : ℕ} (x : Shape.Idx ⟨2, ![R, W]⟩) (i : Fin R) (j : Fin W)
    (h0 : (x 0).val = 0 * R + 1 * i.val) (h1 : (x 1).val = 0 * W + 1 * j.val) : x = ix2 i j := by
  funext a
  match a with
  | ⟨0, _⟩ => exact Fin.ext (by show (x 0).val = i.val; omega)
  | ⟨1, _⟩ => exact Fin.ext (by show (x 1).val = j.val; omega)

/-! A point's blocks, read off the arrays. -/

theorem iblk0 (t : Fin cfg0.N) (r : Fin 512) (n : Fin 1024) :
    (iblk m c 0 t : Vec Ideal S1x512x1024 .f32) (ix3 0 r n)
      = xArg m c (ix3 ⟨t.val / 8, by have := lt_N t; omega⟩ ⟨t.val % 8 * 512 + r.val, by omega⟩ n) := by
  have f := (index_facts t).1
  rw [← x_read]
  unfold iblk
  rw [View.read_apply]
  exact congrArg (V m c main_arg0 : Vec Ideal S16x4096x1024 .f32)
    (at_rows (R := 512) _ _ _ _ (win0_0.index t 0) (win0_0.index t 1) (win0_0.index t 2) r.val rfl rfl rfl f.1 (by simp only [f.2.1]) f.2.2)

theorem iblk1 (t : Fin cfg0.N) (r : Fin 512) (n : Fin 512) :
    (iblk m c 1 t : Vec Ideal S1x512x512 .f32) (ix3 0 r n)
      = uArg m c (ix3 ⟨t.val / 8, by have := lt_N t; omega⟩ ⟨t.val % 8 * 512 + r.val, by omega⟩ n) := by
  have f := (index_facts t).2.1
  rw [← u_read]
  unfold iblk
  rw [View.read_apply]
  exact congrArg (V m c main_arg1 : Vec Ideal S16x4096x512 .f32)
    (at_rows (R := 512) _ _ _ _ (win0_1.index t 0) (win0_1.index t 1) (win0_1.index t 2) r.val rfl rfl rfl f.1 (by simp only [f.2.1]) f.2.2)

theorem iblk2 (t : Fin cfg0.N) (r : Fin 8) (n : Fin 512) :
    (iblk m c 2 t : Vec Ideal S1x8x512 .f32) (ix3 0 r n)
      = uArg m c (ix3 ⟨t.val / 8, by have := lt_N t; omega⟩ ⟨(t.val % 8 * 64 - 1) * 8 + r.val, by omega⟩ n) := by
  have f := (index_facts t).2.2.1
  rw [← u_read]
  unfold iblk
  rw [View.read_apply]
  exact congrArg (V m c main_arg1 : Vec Ideal S16x4096x512 .f32)
    (at_rows (R := 8) _ _ _ _ (win0_2.index t 0) (win0_2.index t 1) (win0_2.index t 2) r.val rfl rfl rfl f.1 (by simp only [f.2.1]) f.2.2)

theorem iblk3 (t : Fin cfg0.N) (r : Fin 8) (n : Fin 512) :
    (iblk m c 3 t : Vec Ideal S1x8x512 .f32) (ix3 0 r n)
      = uArg m c (ix3 ⟨t.val / 8, by have := lt_N t; omega⟩ ⟨min ((t.val % 8 + 1) * 64) 511 * 8 + r.val, by omega⟩ n) := by
  have f := (index_facts t).2.2.2.1
  rw [← u_read]
  unfold iblk
  rw [View.read_apply]
  exact congrArg (V m c main_arg1 : Vec Ideal S16x4096x512 .f32)
    (at_rows (R := 8) _ _ _ _ (win0_3.index t 0) (win0_3.index t 1) (win0_3.index t 2) r.val rfl rfl rfl f.1 (by simp only [f.2.1]) f.2.2)

theorem iblk4 (t : Fin cfg0.N) (r : Fin 512) (n : Fin 512) :
    (iblk m c 4 t : Vec Ideal S1x512x512 .bf16) (ix3 0 r n)
      = attnArg m c (ix3 ⟨t.val / 8, by have := lt_N t; omega⟩ ⟨t.val % 8 * 512 + r.val, by omega⟩ n) := by
  have f := (index_facts t).2.2.2.2.1
  rw [← attn_read]
  unfold iblk
  rw [View.read_apply]
  exact congrArg (V m c main_arg2 : Vec Ideal S16x4096x512 .bf16)
    (at_rows (R := 512) _ _ _ _ (win0_4.index t 0) (win0_4.index t 1) (win0_4.index t 2) r.val rfl rfl rfl f.1 (by simp only [f.2.1]) f.2.2)

theorem iblk5 (t : Fin cfg0.N) (r : Fin 512) (n : Fin 256) :
    (iblk m c 5 t : Vec Ideal S1x1x512x256 .f32) (ix4 0 0 r n)
      = embArg m c (ix4 0 ⟨t.val / 8, by have := lt_N t; omega⟩ ⟨t.val % 8 * 512 + r.val, by omega⟩ n) := by
  rw [← emb_read]
  unfold iblk
  rw [View.read_apply]
  show (V m c main_arg3 : Vec Ideal S1x16x4096x256 .f32) _ = _
  congr 1
  funext a
  apply Fin.ext
  match a with
  | ⟨0, _⟩ => show win0_5.index t 0 * 1 + 1 * 0 = 0; rw [(index_facts t).2.2.2.2.2.1.1]
  | ⟨1, _⟩ => show win0_5.index t 1 * 1 + 1 * 0 = t.val / 8; rw [(index_facts t).2.2.2.2.2.1.2.1]; omega
  | ⟨2, _⟩ => show win0_5.index t 2 * 512 + 1 * r.val = t.val % 8 * 512 + r.val; rw [(index_facts t).2.2.2.2.2.1.2.2.1]; omega
  | ⟨3, _⟩ => show win0_5.index t 3 * 256 + 1 * n.val = n.val; rw [(index_facts t).2.2.2.2.2.1.2.2.2]; omega

theorem iblk6 (t : Fin cfg0.N) (g : Fin 4) (i j : Fin 128) :
    (iblk m c 6 t : Vec Ideal S4x128x128 .bf16) (ix3 g i j) = poolwArg m c (ix4 0 g i j) := by
  rw [← poolw_read]
  unfold iblk
  rw [View.read_apply]
  show (V m c main_v1 : Vec Ideal S4x128x128 .bf16) _ = _
  congr 1
  funext a
  apply Fin.ext
  match a with
  | ⟨0, _⟩ => show 0 * 4 + 1 * g.val = g.val; omega
  | ⟨1, _⟩ => show 0 * 128 + 1 * i.val = i.val; omega
  | ⟨2, _⟩ => show 0 * 128 + 1 * j.val = j.val; omega

theorem iblk7 (t : Fin cfg0.N) (j : Fin 512) :
    (iblk m c 7 t : Vec Ideal S1x512 .f32) (ix2 0 j) = scaleArg m c (ix2 0 j) := by
  rw [← scale_read]
  unfold iblk
  rw [View.read_apply]
  exact congrArg (V m c main_v3 : Vec Ideal S1x512 .f32) (at_whole _ _ _ rfl rfl)

theorem iblk8 (t : Fin cfg0.N) (i : Fin 1024) (j : Fin 1024) :
    (iblk m c 8 t : Vec Ideal S1024x1024 .bf16) (ix2 i j) = woutArg m c (ix3 0 i j) := by
  rw [← wout_read]
  unfold iblk
  rw [View.read_apply]
  exact congrArg (V m c main_v5 : Vec Ideal S1024x1024 .bf16) (at_whole _ _ _ rfl rfl)

theorem iblk9 (t : Fin cfg0.N) (j : Fin 1024) :
    (iblk m c 9 t : Vec Ideal S1x1024 .f32) (ix2 0 j) = gmixArg m c (ix2 0 j) := by
  rw [← gmix_read]
  unfold iblk
  rw [View.read_apply]
  exact congrArg (V m c main_v7 : Vec Ideal S1x1024 .f32) (at_whole _ _ _ rfl rfl)

theorem iblk10 (t : Fin cfg0.N) (j : Fin 1024) :
    (iblk m c 10 t : Vec Ideal S1x1024 .f32) (ix2 0 j) = gpreArg m c (ix2 0 j) := by
  rw [← gpre_read]
  unfold iblk
  rw [View.read_apply]
  exact congrArg (V m c main_v9 : Vec Ideal S1x1024 .f32) (at_whole _ _ _ rfl rfl)

theorem iblk11 (t : Fin cfg0.N) (j : Fin 1024) :
    (iblk m c 11 t : Vec Ideal S1x1024 .f32) (ix2 0 j) = gpostArg m c (ix2 0 j) := by
  rw [← gpost_read]
  unfold iblk
  rw [View.read_apply]
  exact congrArg (V m c main_v11 : Vec Ideal S1x1024 .f32) (at_whole _ _ _ rfl rfl)

theorem iblk12 (t : Fin cfg0.N) (i : Fin 1024) (j : Fin 2816) :
    (iblk m c 12 t : Vec Ideal S1024x2816 .bf16) (ix2 i j) = wgateArg m c (ix3 0 i j) := by
  rw [← wgate_read]
  unfold iblk
  rw [View.read_apply]
  exact congrArg (V m c main_v13 : Vec Ideal S1024x2816 .bf16) (at_whole _ _ _ rfl rfl)

theorem iblk13 (t : Fin cfg0.N) (i : Fin 1024) (j : Fin 2816) :
    (iblk m c 13 t : Vec Ideal S1024x2816 .bf16) (ix2 i j) = wupArg m c (ix3 0 i j) := by
  rw [← wup_read]
  unfold iblk
  rw [View.read_apply]
  exact congrArg (V m c main_v15 : Vec Ideal S1024x2816 .bf16) (at_whole _ _ _ rfl rfl)

theorem iblk14 (t : Fin cfg0.N) (i : Fin 2816) (j : Fin 1024) :
    (iblk m c 14 t : Vec Ideal S2816x1024 .bf16) (ix2 i j) = wdownArg m c (ix3 0 i j) := by
  rw [← wdown_read]
  unfold iblk
  rw [View.read_apply]
  exact congrArg (V m c main_v17 : Vec Ideal S2816x1024 .bf16) (at_whole _ _ _ rfl rfl)

theorem iblk15 (t : Fin cfg0.N) (i : Fin 256) (j : Fin 1024) :
    (iblk m c 15 t : Vec Ideal S256x1024 .bf16) (ix2 i j) = wprojArg m c (ix3 0 i j) := by
  rw [← wproj_read]
  unfold iblk
  rw [View.read_apply]
  exact congrArg (V m c main_v19 : Vec Ideal S256x1024 .bf16) (at_whole _ _ _ rfl rfl)

theorem iblk16 (t : Fin cfg0.N) (i : Fin 1024) (j : Fin 1024) :
    (iblk m c 16 t : Vec Ideal S1024x1024 .bf16) (ix2 i j) = wpleArg m c (ix3 0 i j) := by
  rw [← wple_read]
  unfold iblk
  rw [View.read_apply]
  exact congrArg (V m c main_v21 : Vec Ideal S1024x1024 .bf16) (at_whole _ _ _ rfl rfl)

theorem iblk17 (t : Fin cfg0.N) (j : Fin 1024) :
    (iblk m c 17 t : Vec Ideal S1x1024 .f32) (ix2 0 j) = bpleArg m c (ix2 0 j) := by
  rw [← bple_read]
  unfold iblk
  rw [View.read_apply]
  exact congrArg (V m c main_v23 : Vec Ideal S1x1024 .f32) (at_whole _ _ _ rfl rfl)

/-- The pool's input of a point's batch. -/
def series (t : Fin cfg0.N) (n : Fin 512) (s : Fin 4096) : EReal := uArg m c (ix3 ⟨t.val / 8, by have := lt_N t; omega⟩ s n)

/-- A point's pool input with its halos is a stretch of the padded sequence. -/
theorem extended_eq (t : Fin cfg0.N) (r : Fin 528) (n : Fin 512) :
    Block.extended (grid0.coords t) (iblk m c 1 t) (iblk m c 2 t) (iblk m c 3 t) (ix2 r n)
      = padded (series m c t n) ((grid0.coords t 1).val * 512 + r.val) := by
  have hc := (index_facts t).2.2.2.2.2.2.2
  have hN := lt_N t
  have hr := r.isLt
  have key : ∀ s s' : Fin 4096, s.val = s'.val → uArg m c (ix3 ⟨t.val / 8, by omega⟩ s n) = uArg m c (ix3 ⟨t.val / 8, by omega⟩ s' n) :=
    fun s s' h => by rw [Fin.ext h]
  rw [extended_apply]
  unfold haloed padded ext series
  rw [hc]
  split
  · split
    · rw [iblk2, if_pos (by omega), dif_pos (by omega)]
      exact key _ _ (by simp only; omega)
    · rw [if_neg (by omega)]
  · split
    · rw [iblk1, if_pos (by omega), dif_pos (by omega)]
      exact key _ _ (by simp only; omega)
    · split
      · rw [iblk3, if_pos (by omega), dif_pos (by omega)]
        exact key _ _ (by simp only; omega)
      · rw [if_pos (by omega), dif_neg (by omega)]

/-- A point's block at an index is the array's element. -/
theorem block_element (t : Fin cfg0.N) (q : Fin 512) (n : Fin 1024) :
    blockFn (grid0.coords t) (iblk m c 0 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (series m c t) (ix3 0 q n)
      = element m c ⟨t.val / 8, by have := lt_N t; omega⟩ ⟨t.val % 8 * 512 + q.val, by omega⟩ n := by
  have hc := (index_facts t).2.2.2.2.2.2.2
  show rowFn (grid0.coords t) (iblk m c 0 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (series m c t) q n = _
  unfold rowFn element
  simp only [iblk0, iblk4, iblk5, iblk6, iblk7, iblk8, iblk9, iblk10, iblk11, iblk12, iblk13, iblk14, iblk15, iblk16, iblk17, hc]
  rfl

/-- Where element `(0, q, n)` of a point's block lies in the array. -/
theorem block_at (t : Fin cfg0.N) (q : Fin 512) (n : Fin 1024) :
    (win0_18.blk t).view.emb (ix3 0 q n)
      = (ix3 ⟨t.val / 8, by have := lt_N t; omega⟩ ⟨t.val % 8 * 512 + q.val, by omega⟩ n : S16x4096x1024.Idx) := by
  have f := (index_facts t).2.2.2.2.2.2.1
  exact at_rows (R := 512) _ _ _ _ (win0_18.index t 0) (win0_18.index t 1) (win0_18.index t 2) q.val rfl rfl rfl f.1 (by simp only [f.2.1]) f.2.2

/-- The block's function is the array read through the point's block. -/
theorem block_read (t : Fin cfg0.N) :
    blockFn (grid0.coords t) (iblk m c 0 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (series m c t) = (win0_18.blk t).view.read (Elt Ideal) (G m c) := by
  have h (q : Fin 512) (n : Fin 1024) : blockFn (grid0.coords t) (iblk m c 0 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (series m c t) (ix3 0 q n)
      = G m c ((win0_18.blk t).view.emb (ix3 0 q n)) :=
    (block_element m c t q n).trans (congrArg (G m c) (block_at t q n)).symm
  funext y
  have hy : y = ix3 (0 : Fin 1) (y 1 : Fin 512) (y 2 : Fin 1024) := by
    funext a
    match a with
    | ⟨0, _⟩ => exact Subsingleton.elim (α := Fin 1) _ _
    | ⟨1, _⟩ => rfl
    | ⟨2, _⟩ => rfl
  rw [hy]
  exact h (y 1) (y 2)

/-- What a point writes back is its block of the array. -/
theorem flushed_eq (t : Fin cfg0.N) :
    (dats m 0 c).flushed 18 t = (win0_18.blk t).view.read (Elt Ideal) (G m c) := by
  rw [Cert.Kernel2Ideal.Value.flushed18_A, out_eq (f := series m c t) (he := extended_eq m c t), ← block_read]
  rfl

/-- Every element of the array is in some point's block. -/
theorem cover (i : S16x4096x1024.Idx) : ∃ t : Fin cfg0.N, (cfg0.win 18).flush t = true ∧ i ∈ ((cfg0.win 18).blk t).view.set := by
  have h0 : (i 0).val < 16 := (i 0).isLt
  have h1 : (i 1).val < 4096 := (i 1).isLt
  have h2 : (i 2).val < 1024 := (i 2).isLt
  have hN : cfg0.N = 128 := N_0
  obtain ⟨t, ht⟩ : ∃ t : Fin cfg0.N, t.val = (i 0).val * 8 + (i 1).val / 512 := ⟨⟨(i 0).val * 8 + (i 1).val / 512, by omega⟩, rfl⟩
  have h := (index_facts t).2.2.2.2.2.2.1
  refine ⟨t, flush0_18 _, ?_⟩
  show i ∈ ((View.whole main_v24).slice (win0_18.rect t)).set
  rw [View.set_slice_whole, Rect.mem_set_unit]
  intro a
  match a with
  | ⟨0, _⟩ => show win0_18.index t 0 * 1 ≤ (i 0).val ∧ (i 0).val < win0_18.index t 0 * 1 + 1; rw [h.1]; omega
  | ⟨1, _⟩ => show win0_18.index t 1 * 512 ≤ (i 1).val ∧ (i 1).val < win0_18.index t 1 * 512 + 512; rw [h.2.1]; omega
  | ⟨2, _⟩ => show win0_18.index t 2 * 1024 ≤ (i 2).val ∧ (i 2).val < win0_18.index t 2 * 1024 + 1024; rw [h.2.2]; omega

/-- The result array after the run. -/
theorem final : (dats m 0 c).arrAt 18 cfg0.N = G m c :=
  (dats m 0 c).arrAt_eq_of_cover 18 (G m c) (fun t _ => flushed_eq m c t) cover

end Cert.Kernel2Ideal.ArrayValue

end
-- ==== Proof.PostPoolRef.lean ====
/- The reference's pool: prefix sums over the sequence, and the difference of two of them gathered per row. -/
module

public import proofs.«01_k».proof.Proof.Gen.Reference2Ideal.Read
public import proofs.«01_k».proof.Proof.PoolRow
public import Idealize.ShloMosaic.Lib.Pipeline.Value
public import Idealize.ShloMosaic.Lib.StableHlo.ReadAt
public import Idealize.ShloMosaic.Lib.Pointwise

@[expose] public section

set_option maxRecDepth 20000

noncomputable section

namespace Cert.Reference2Ideal.Pool

open Cert.Reference2Ideal Cert.Reference2Ideal.Gen Cert.Reference2Ideal.Read Cert.PoolRow Idealize.ShloMosaic

/-- The reference's gather, read at an index: row `r` of group `g`, where the index pair of row `t` names them. -/
theorem gather_apply {α : Type} (x : S16x4097x4x128.Idx → α) (idx : IVec S4096x2 32) (b : Fin 16) (t : Fin 4096) (e : Fin 128)
    (r : Fin 4097) (g : Fin 4) (hr : (idx (ix2 t 0)).toInt = r.val) (hg : (idx (ix2 t 1)).toInt = g.val) :
    Host.gather gather_S16x4097x4x128_S4096x2_S16x4096x128_02_12_n_n_12_1_1611128 x idx (ix3 b t e) = x (ix4 b r g e) := by
  unfold Host.gather
  refine congrArg x (funext fun a => Fin.ext ?_)
  set d := gather_S16x4097x4x128_S4096x2_S16x4096x128_02_12_n_n_12_1_1611128 with hd
  have hb : ∀ a', d.batchCoord (ix3 b t e) a' = 0 := fun a' => d.batchCoord_eq_zero _ _ List.not_mem_nil
  have h1 : (1 : Fin 4) ∈ d.startIndexMap := List.mem_cons_self
  have h2 : (2 : Fin 4) ∈ d.startIndexMap := List.mem_cons_of_mem _ List.mem_cons_self
  have s1 : d.siIdx (ix3 b t e) ⟨d.startIndexMap.idxOf 1, List.idxOf_lt_length_iff.2 h1⟩ = ix2 t 0 := by
    funext c; refine Fin.ext ?_
    match c with
    | ⟨0, _⟩ => rfl
    | ⟨1, _⟩ => rfl
  have s2 : d.siIdx (ix3 b t e) ⟨d.startIndexMap.idxOf 2, List.idxOf_lt_length_iff.2 h2⟩ = ix2 t 1 := by
    funext c; refine Fin.ext ?_
    match c with
    | ⟨0, _⟩ => rfl
    | ⟨1, _⟩ => rfl
  match a with
  | ⟨0, _⟩ =>
    show d.start (ix3 b t e) idx 0 + d.batchCoord (ix3 b t e) 0 + d.offCoord (ix3 b t e) 0 = b.val
    rw [hb, show d.start (ix3 b t e) idx 0 = 0 by unfold GatherDims.start; rw [dif_neg (by rw [hd]; decide)],
      show d.offCoord (ix3 b t e) 0 = b.val from rfl]
    exact Nat.zero_add _
  | ⟨1, _⟩ =>
    show d.start (ix3 b t e) idx 1 + d.batchCoord (ix3 b t e) 1 + d.offCoord (ix3 b t e) 1 = r.val
    rw [hb, show d.offCoord (ix3 b t e) 1 = 0 from rfl]
    unfold GatherDims.start
    rw [dif_pos h1, s1, hr]
    show min ((r.val : Int)).toNat (4097 - 1) + 0 + 0 = r.val
    have := r.isLt
    omega
  | ⟨2, _⟩ =>
    show d.start (ix3 b t e) idx 2 + d.batchCoord (ix3 b t e) 2 + d.offCoord (ix3 b t e) 2 = g.val
    rw [hb, show d.offCoord (ix3 b t e) 2 = 0 from rfl]
    unfold GatherDims.start
    rw [dif_pos h2, s2, hg]
    show min ((g.val : Int)).toNat (4 - 1) + 0 + 0 = g.val
    have := g.isLt
    omega
  | ⟨3, _⟩ =>
    show d.start (ix3 b t e) idx 3 + d.batchCoord (ix3 b t e) 3 + d.offCoord (ix3 b t e) 3 = e.val
    rw [hb, show d.start (ix3 b t e) idx 3 = 0 by unfold GatherDims.start; rw [dif_neg (by rw [hd]; decide)],
      show d.offCoord (ix3 b t e) 3 = e.val from rfl]
    exact Nat.zero_add _

/-- A fold that adds one term per position. -/
theorem foldl_add {ι : Type} (G : ι → EReal) (l : List ι) (z : EReal) : l.foldl (fun r n => r + G n) z = z + (l.map G).sum := by
  induction l generalizing z with
  | nil => simp
  | cons a l ih => rw [List.foldl_cons, ih, List.map_cons, List.sum_cons, add_assoc]

/-- A windowed sum from zero, as a sum over the window's positions. -/
theorem window_apply {s t u : Shape} (window strides lo hi : Fin s.rank → Nat) (x : FVec Ideal s .f32) (init : u.Idx → EReal)
    (h : s.ReduceWindows window strides lo hi t) (hu : 0 < u.numel) (hv : init (Shape.Idx.first hu) = 0) (j : t.Idx) :
    Host.reduceWindowAdd (F := Ideal) (φ := .f32) window strides lo hi x init h hu j
      = ∑ i : (⟨s.rank, window⟩ : Shape).Idx,
          if hin : ∀ a, lo a ≤ (j (a.cast h.1.symm)).val * strides a + (i a).val ∧ (j (a.cast h.1.symm)).val * strides a + (i a).val - lo a < s.size a
            then x (fun a => ⟨(j (a.cast h.1.symm)).val * strides a + (i a).val - lo a, (hin a).2⟩) else 0 := by
  show Ideal.hostReduceWindowAdd window strides lo hi h x (init (Shape.Idx.first hu)) j = _
  rw [hv]
  unfold Ideal.hostReduceWindowAdd Host.reduceWindow
  dsimp only
  rw [foldl_add, zero_add, ← Fin.sum_univ_def]
  refine (Finset.sum_congr rfl fun n _ => ?_).trans (Equiv.sum_comp (⟨s.rank, window⟩ : Shape).rowMajor.symm (fun i : (⟨s.rank, window⟩ : Shape).Idx =>
    if hin : ∀ a, lo a ≤ (j (a.cast h.1.symm)).val * strides a + (i a).val ∧ (j (a.cast h.1.symm)).val * strides a + (i a).val - lo a < s.size a
            then x (fun a => ⟨(j (a.cast h.1.symm)).val * strides a + (i a).val - lo a, (hin a).2⟩) else 0))
  dsimp only
  split <;> rfl

/-- A sum that starts late, from its start. -/
theorem shifted (G : Nat → EReal) (t : Nat) (ht : t < 4096) :
    ∑ n ∈ Finset.range 4096, (if 4095 ≤ t + n then G (t + n - 4095) else 0) = ∑ i ∈ Finset.range (t + 1), G i := by
  conv_lhs => rw [show 4096 = (4095 - t) + (t + 1) by omega, Finset.sum_range_add]
  rw [Finset.sum_eq_zero (s := Finset.range (4095 - t)), zero_add]
  · refine Finset.sum_congr rfl fun i _ => ?_
    rw [if_pos (by omega)]
    congr 1; omega
  · intro i hi
    have := Finset.mem_range.1 hi
    rw [if_neg (by omega)]

/-- A sum over a window of one column. -/
theorem sum_column (f : (⟨4, ![1, 4096, 1, 1]⟩ : Shape).Idx → EReal) : ∑ i, f i = ∑ k : Fin 4096, f (ix4 0 k 0 0) := by
  refine (Fintype.sum_bijective (fun k : Fin 4096 => (ix4 0 k 0 0 : (⟨4, ![1, 4096, 1, 1]⟩ : Shape).Idx)) ⟨fun a b hab => ?_, fun y => ?_⟩ _ _ fun _ => rfl).symm
  · exact congrFun hab 1
  · refine ⟨y 1, funext fun a => ?_⟩
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _

/-- The running sums over the sequence: row `t` holds the sum of the rows up to and including it. -/
theorem running (x : FVec Ideal S16x4096x4x128 .f32) (v : S_.Idx → EReal) (hv : v (Shape.Idx.first h_S_) = 0)
    (b : Fin 16) (t : Fin 4096) (g : Fin 4) (e : Fin 128) :
    Host.reduceWindowAdd (F := Ideal) (φ := .f32) ![1, 4096, 1, 1] ![1, 1, 1, 1] ![0, 4095, 0, 0] ![0, 0, 0, 0] x v
        reduceWindows_S16x4096x4x128_S16x4096x4x128_w1s1p0_0_w4096s1p4095_0_w1s1p0_0_w1s1p0_0 h_S_ (ix4 b t g e)
      = ∑ i ∈ Finset.range (t.val + 1), ext (fun s => x (ix4 b s g e)) i := by
  rw [window_apply _ _ _ _ _ _ _ _ hv]
  refine (sum_column _).trans ?_
  have step (k : Fin 4096) : (if hin : ∀ a : Fin 4, (![0, 4095, 0, 0] : Fin 4 → Nat) a ≤ (ix4 b t g e a).val * (![1, 1, 1, 1] : Fin 4 → Nat) a + ((ix4 0 k 0 0 : (⟨4, ![1, 4096, 1, 1]⟩ : Shape).Idx) a).val ∧
      (ix4 b t g e a).val * (![1, 1, 1, 1] : Fin 4 → Nat) a + ((ix4 0 k 0 0 : (⟨4, ![1, 4096, 1, 1]⟩ : Shape).Idx) a).val - (![0, 4095, 0, 0] : Fin 4 → Nat) a < S16x4096x4x128.size a
      then x (fun a => ⟨(ix4 b t g e a).val * (![1, 1, 1, 1] : Fin 4 → Nat) a + ((ix4 0 k 0 0 : (⟨4, ![1, 4096, 1, 1]⟩ : Shape).Idx) a).val - (![0, 4095, 0, 0] : Fin 4 → Nat) a, (hin a).2⟩) else (0 : EReal))
      = (fun n : Nat => if 4095 ≤ t.val + n then ext (fun s => x (ix4 b s g e)) (t.val + n - 4095) else 0) k.val := by
    dsimp only
    by_cases hk : 4095 ≤ t.val + k.val
    · have h1 : t.val + k.val - 4095 < 4096 := by have := t.isLt; have := k.isLt; omega
      rw [if_pos hk]
      unfold ext
      rw [dif_pos h1]
      have hin : ∀ a : Fin 4, (![0, 4095, 0, 0] : Fin 4 → Nat) a ≤ (ix4 b t g e a).val * (![1, 1, 1, 1] : Fin 4 → Nat) a + ((ix4 0 k 0 0 : (⟨4, ![1, 4096, 1, 1]⟩ : Shape).Idx) a).val ∧
          (ix4 b t g e a).val * (![1, 1, 1, 1] : Fin 4 → Nat) a + ((ix4 0 k 0 0 : (⟨4, ![1, 4096, 1, 1]⟩ : Shape).Idx) a).val - (![0, 4095, 0, 0] : Fin 4 → Nat) a < S16x4096x4x128.size a := fun a => by
        match a with
        | ⟨0, _⟩ => show 0 ≤ b.val * 1 + 0 ∧ b.val * 1 + 0 - 0 < 16; have := b.isLt; omega
        | ⟨1, _⟩ => show 4095 ≤ t.val * 1 + k.val ∧ t.val * 1 + k.val - 4095 < 4096; omega
        | ⟨2, _⟩ => show 0 ≤ g.val * 1 + 0 ∧ g.val * 1 + 0 - 0 < 4; have := g.isLt; omega
        | ⟨3, _⟩ => show 0 ≤ e.val * 1 + 0 ∧ e.val * 1 + 0 - 0 < 128; have := e.isLt; omega
      rw [dif_pos hin]
      refine congrArg x (funext fun a => Fin.ext ?_)
      match a with
      | ⟨0, _⟩ => show b.val * 1 + 0 - 0 = b.val; omega
      | ⟨1, _⟩ => show t.val * 1 + k.val - 4095 = t.val + k.val - 4095; omega
      | ⟨2, _⟩ => show g.val * 1 + 0 - 0 = g.val; omega
      | ⟨3, _⟩ => show e.val * 1 + 0 - 0 = e.val; omega
    · rw [if_neg hk, dif_neg]
      intro hin
      have h1 : 4095 ≤ t.val * 1 + k.val := (hin 1).1
      omega
  refine (Finset.sum_congr rfl fun k _ => step k).trans ?_
  rw [Fin.sum_univ_eq_sum_range (fun n : Nat => if 4095 ≤ t.val + n then ext (fun s => x (ix4 b s g e)) (t.val + n - 4095) else 0) 4096]
  exact shifted _ t.val t.isLt

variable (x1 : FVec Ideal S16x4096x512 .f32)

/-- The prefix sums: row `n` of 4097 holds the sum of the first `n` rows. -/
theorem prefixes (b : Fin 16) (n : Fin 4097) (g : Fin 4) (e : Fin 128) :
    val_main_v5 (F := Ideal) x1 (ix4 b n g e)
      = ∑ i ∈ Finset.range n.val, ext (fun s => x1 (ix3 b s ⟨g.val * 128 + e.val, by omega⟩)) i := by
  have h2 (s : Fin 4096) : val_main_v2 (F := Ideal) x1 (ix4 b s g e) = x1 (ix3 b s ⟨g.val * 128 + e.val, by omega⟩) := by
    pointwise [val_main_v2]
  have h4 (t : Fin 4096) : val_main_v4 (F := Ideal) x1 (ix4 b t g e)
      = ∑ i ∈ Finset.range (t.val + 1), ext (fun s => x1 (ix3 b s ⟨g.val * 128 + e.val, by omega⟩)) i := by
    unfold val_main_v4
    rw [running _ _ (by rw [val_main_call0_call0_v0_apply]; simp [val_main_call0_call0_cst, constant, Ideal.ofBits, Ideal.ieee])]
    simp only [h2]
  have h3 : val_main_v3 (F := Ideal) (ix4 b 0 g e) = (0 : EReal) := by
    rw [val_main_v3_apply]; simp [val_main_cst, constant, Ideal.ofBits, Ideal.ieee]
  unfold val_main_v5
  generalize val_main_v4 (F := Ideal) x1 = y at h4
  generalize val_main_v3 (F := Ideal) = z at h3
  pointwise
  split
  · have e0 : (⟨n.val, by omega⟩ : Fin 1) = 0 := Subsingleton.elim _ _
    rw [e0, h3, show n.val = 0 by omega]
    rfl
  · rw [h4]
    show ∑ i ∈ Finset.range (n.val - 1 + 1), _ = _
    rw [show n.val - 1 + 1 = n.val by omega]

/-- A group's centred mean, from the prefix sums at its two bounds and the count between them. -/
theorem centred_of (hx : ∀ i, ∃ r : ℝ, x1 i = r) (n : Nat) (hn : 0 < n) (hi lo : IVec S4096x2 32) (count : IVec S4096 32) (g : Fin 4)
    (h1 : ∀ t : Fin 4096, (hi (ix2 t 0)).toInt = (upper n t.val : Nat)) (h2 : ∀ t : Fin 4096, (hi (ix2 t 1)).toInt = (g.val : Nat))
    (h3 : ∀ t : Fin 4096, (lo (ix2 t 0)).toInt = (lower n t.val : Nat)) (h4 : ∀ t : Fin 4096, (lo (ix2 t 1)).toInt = (g.val : Nat))
    (h5 : ∀ t : Fin 4096, (count (ix1 t)).toInt = (upper n t.val - lower n t.val : Nat)) (b : Fin 16) (t : Fin 4096) (e : Fin 128) :
    Ideal.div (Host.gather gather_S16x4097x4x128_S4096x2_S16x4096x128_02_12_n_n_12_1_1611128 (val_main_v5 (F := Ideal) x1) hi (ix3 b t e)
        - Host.gather gather_S16x4097x4x128_S4096x2_S16x4096x128_02_12_n_n_12_1_1611128 (val_main_v5 (F := Ideal) x1) lo (ix3 b t e))
        (((count (ix1 t)).toInt : ℝ) : EReal) - x1 (ix3 b t ⟨g.val * 128 + e.val, by omega⟩)
      = centred n (fun s => x1 (ix3 b s ⟨g.val * 128 + e.val, by omega⟩)) t := by
  have hu : upper n t.val < 4097 := by unfold upper; omega
  have hl : lower n t.val < 4097 := by unfold lower; omega
  rw [gather_apply _ hi b t e ⟨upper n t.val, hu⟩ g (h1 t) (h2 t), gather_apply _ lo b t e ⟨lower n t.val, hl⟩ g (h3 t) (h4 t),
    prefixes, prefixes, h5 t]
  unfold centred
  rw [prefix_sub _ (fun i => hx _) n t.val t.isLt]
  have hc : ((upper n t.val - lower n t.val : Nat) : ℝ) ≠ 0 := by
    have : 0 < upper n t.val - lower n t.val := by unfold upper lower; omega
    exact_mod_cast this.ne'
  rw [Int.cast_natCast, Ideal.div_coe hc]

end Cert.Reference2Ideal.Pool

end
-- ==== Proof.PostIndex.lean ====
/- The reference's window bounds and counts, as natural numbers. -/
module

public import proofs.«01_k».proof.Proof.Gen.Reference2Ideal.Read
public import proofs.«01_k».proof.Proof.PoolRow
public import Idealize.ShloMosaic.Lib.Pipeline.Value
public import Idealize.ShloMosaic.Lib.StableHlo.ReadAt

@[expose] public section

noncomputable section

namespace Cert.Reference2Ideal.Pool

open Cert.Reference2Ideal Cert.Reference2Ideal.Gen Cert.Reference2Ideal.Read Cert.PoolRow Idealize.ShloMosaic

/-! What the reference's index arithmetic gives, by evaluation: the two index pairs and the count of each group's window. -/

theorem hi0 : ∀ t : Fin 4096, (val_main_v24 (F := Ideal) (ix2 t 0)).toInt = (upper 1 t.val : Nat) := by decide +kernel
theorem hi_group0 : ∀ t : Fin 4096, (val_main_v24 (F := Ideal) (ix2 t 1)).toInt = ((0 : Fin 4).val : Nat) := by decide +kernel
theorem lo0 : ∀ t : Fin 4096, (val_main_v35 (F := Ideal) (ix2 t 0)).toInt = (lower 1 t.val : Nat) := by decide +kernel
theorem lo_group0 : ∀ t : Fin 4096, (val_main_v35 (F := Ideal) (ix2 t 1)).toInt = ((0 : Fin 4).val : Nat) := by decide +kernel
theorem count0 : ∀ t : Fin 4096, (val_main_v40 (F := Ideal) (ix1 t)).toInt = (upper 1 t.val - lower 1 t.val : Nat) := by decide +kernel
theorem hi1 : ∀ t : Fin 4096, (val_main_v65 (F := Ideal) (ix2 t 0)).toInt = (upper 2 t.val : Nat) := by decide +kernel
theorem hi_group1 : ∀ t : Fin 4096, (val_main_v65 (F := Ideal) (ix2 t 1)).toInt = ((1 : Fin 4).val : Nat) := by decide +kernel
theorem lo1 : ∀ t : Fin 4096, (val_main_v76 (F := Ideal) (ix2 t 0)).toInt = (lower 2 t.val : Nat) := by decide +kernel
theorem lo_group1 : ∀ t : Fin 4096, (val_main_v76 (F := Ideal) (ix2 t 1)).toInt = ((1 : Fin 4).val : Nat) := by decide +kernel
theorem count1 : ∀ t : Fin 4096, (val_main_v81 (F := Ideal) (ix1 t)).toInt = (upper 2 t.val - lower 2 t.val : Nat) := by decide +kernel
theorem hi2 : ∀ t : Fin 4096, (val_main_v106 (F := Ideal) (ix2 t 0)).toInt = (upper 4 t.val : Nat) := by decide +kernel
theorem hi_group2 : ∀ t : Fin 4096, (val_main_v106 (F := Ideal) (ix2 t 1)).toInt = ((2 : Fin 4).val : Nat) := by decide +kernel
theorem lo2 : ∀ t : Fin 4096, (val_main_v117 (F := Ideal) (ix2 t 0)).toInt = (lower 4 t.val : Nat) := by decide +kernel
theorem lo_group2 : ∀ t : Fin 4096, (val_main_v117 (F := Ideal) (ix2 t 1)).toInt = ((2 : Fin 4).val : Nat) := by decide +kernel
theorem count2 : ∀ t : Fin 4096, (val_main_v122 (F := Ideal) (ix1 t)).toInt = (upper 4 t.val - lower 4 t.val : Nat) := by decide +kernel
theorem hi3 : ∀ t : Fin 4096, (val_main_v147 (F := Ideal) (ix2 t 0)).toInt = (upper 8 t.val : Nat) := by decide +kernel
theorem hi_group3 : ∀ t : Fin 4096, (val_main_v147 (F := Ideal) (ix2 t 1)).toInt = ((3 : Fin 4).val : Nat) := by decide +kernel
theorem lo3 : ∀ t : Fin 4096, (val_main_v158 (F := Ideal) (ix2 t 0)).toInt = (lower 8 t.val : Nat) := by decide +kernel
theorem lo_group3 : ∀ t : Fin 4096, (val_main_v158 (F := Ideal) (ix2 t 1)).toInt = ((3 : Fin 4).val : Nat) := by decide +kernel
theorem count3 : ∀ t : Fin 4096, (val_main_v163 (F := Ideal) (ix1 t)).toInt = (upper 8 t.val - lower 8 t.val : Nat) := by decide +kernel

end Cert.Reference2Ideal.Pool

end
-- ==== Proof.PostRefValue.lean ====
/- What the reference computes after the attention, at an index: a row of the result from its row of the pool. -/
module

public import proofs.«01_k».proof.Proof.PostPoolRef
public import proofs.«01_k».proof.Proof.PostIndex
public import Idealize.ShloMosaic.Lib.Pointwise

@[expose] public section

set_option maxRecDepth 20000

noncomputable section

namespace Cert.Reference2Ideal.RefValue

open Cert.Reference2Ideal Cert.Reference2Ideal.Gen Cert.Reference2Ideal.Read Cert.Reference2Ideal.Pool Cert.PoolRow Idealize.ShloMosaic

variable (x1 : FVec Ideal S16x4096x512 .f32) (hx : ∀ i, ∃ r : ℝ, x1 i = r) (b : Fin 16) (t : Fin 4096)

include hx

theorem group0 (e : Fin 128) : val_main_v47 (F := Ideal) x1 (ix3 b t e) = centred 1 (fun s => x1 (ix3 b s ⟨0 * 128 + e.val, by omega⟩)) t := by
  refine Eq.trans ?_ (centred_of x1 hx 1 (by omega) val_main_v24 val_main_v35 val_main_v40 0 hi0 hi_group0 lo0 lo_group0 count0 b t e)
  show _ = Ideal.div (val_main_v25 (F := Ideal) x1 (ix3 b t e) - val_main_v36 (F := Ideal) x1 (ix3 b t e)) _ - _
  unfold val_main_v47 val_main_v44 val_main_v37 val_main_v43 val_main_v42 val_main_v41 val_main_v46 val_main_v45 val_main_v2
  generalize (val_main_v25 (F := Ideal) x1 : FVec Ideal S16x4096x128 .f32) = p
  generalize (val_main_v36 (F := Ideal) x1 : FVec Ideal S16x4096x128 .f32) = q
  generalize val_main_v40 (F := Ideal) = c
  pointwise
  rfl

theorem group1 (e : Fin 128) : val_main_v88 (F := Ideal) x1 (ix3 b t e) = centred 2 (fun s => x1 (ix3 b s ⟨1 * 128 + e.val, by omega⟩)) t := by
  refine Eq.trans ?_ (centred_of x1 hx 2 (by omega) val_main_v65 val_main_v76 val_main_v81 1 hi1 hi_group1 lo1 lo_group1 count1 b t e)
  show _ = Ideal.div (val_main_v66 (F := Ideal) x1 (ix3 b t e) - val_main_v77 (F := Ideal) x1 (ix3 b t e)) _ - _
  unfold val_main_v88 val_main_v85 val_main_v78 val_main_v84 val_main_v83 val_main_v82 val_main_v87 val_main_v86 val_main_v2
  generalize (val_main_v66 (F := Ideal) x1 : FVec Ideal S16x4096x128 .f32) = p
  generalize (val_main_v77 (F := Ideal) x1 : FVec Ideal S16x4096x128 .f32) = q
  generalize val_main_v81 (F := Ideal) = c
  pointwise
  rfl

theorem group2 (e : Fin 128) : val_main_v129 (F := Ideal) x1 (ix3 b t e) = centred 4 (fun s => x1 (ix3 b s ⟨2 * 128 + e.val, by omega⟩)) t := by
  refine Eq.trans ?_ (centred_of x1 hx 4 (by omega) val_main_v106 val_main_v117 val_main_v122 2 hi2 hi_group2 lo2 lo_group2 count2 b t e)
  show _ = Ideal.div (val_main_v107 (F := Ideal) x1 (ix3 b t e) - val_main_v118 (F := Ideal) x1 (ix3 b t e)) _ - _
  unfold val_main_v129 val_main_v126 val_main_v119 val_main_v125 val_main_v124 val_main_v123 val_main_v128 val_main_v127 val_main_v2
  generalize (val_main_v107 (F := Ideal) x1 : FVec Ideal S16x4096x128 .f32) = p
  generalize (val_main_v118 (F := Ideal) x1 : FVec Ideal S16x4096x128 .f32) = q
  generalize val_main_v122 (F := Ideal) = c
  pointwise
  rfl

theorem group3 (e : Fin 128) : val_main_v170 (F := Ideal) x1 (ix3 b t e) = centred 8 (fun s => x1 (ix3 b s ⟨3 * 128 + e.val, by omega⟩)) t := by
  refine Eq.trans ?_ (centred_of x1 hx 8 (by omega) val_main_v147 val_main_v158 val_main_v163 3 hi3 hi_group3 lo3 lo_group3 count3 b t e)
  show _ = Ideal.div (val_main_v148 (F := Ideal) x1 (ix3 b t e) - val_main_v159 (F := Ideal) x1 (ix3 b t e)) _ - _
  unfold val_main_v170 val_main_v167 val_main_v160 val_main_v166 val_main_v165 val_main_v164 val_main_v169 val_main_v168 val_main_v2
  generalize (val_main_v148 (F := Ideal) x1 : FVec Ideal S16x4096x128 .f32) = p
  generalize (val_main_v159 (F := Ideal) x1 : FVec Ideal S16x4096x128 .f32) = q
  generalize val_main_v163 (F := Ideal) = c
  pointwise
  rfl

/-- The centred means of all four groups. -/
theorem means (g : Fin 4) (e : Fin 128) : val_main_v175 (F := Ideal) x1 (ix4 b t g e)
    = centred (reach g) (fun s => x1 (ix3 b s ⟨g.val * 128 + e.val, by omega⟩)) t := by
  have h0 := group0 x1 hx b t e
  have h1 := group1 x1 hx b t e
  have h2 := group2 x1 hx b t e
  have h3 := group3 x1 hx b t e
  unfold val_main_v175 val_main_v171 val_main_v172 val_main_v173 val_main_v174
  generalize (val_main_v47 (F := Ideal) x1 : FVec Ideal S16x4096x128 .f32) = p0 at *
  generalize (val_main_v88 (F := Ideal) x1 : FVec Ideal S16x4096x128 .f32) = p1 at *
  generalize (val_main_v129 (F := Ideal) x1 : FVec Ideal S16x4096x128 .f32) = p2 at *
  generalize (val_main_v170 (F := Ideal) x1 : FVec Ideal S16x4096x128 .f32) = p3 at *
  match g with
  | ⟨0, _⟩ => pointwise; simp only [zero_mul, zero_add] at h0; exact h0
  | ⟨1, _⟩ => pointwise; exact h1
  | ⟨2, _⟩ => pointwise; exact h2
  | ⟨3, _⟩ => pointwise; exact h3

variable (x5 : FVec Ideal S1x4x128x128 .f32) (x6 : FVec Ideal S1x512 .f32)

/-- A row of the pool. -/
theorem pool (n : Fin 512) : val_main_v181 (F := Ideal) x1 x5 x6 (ix3 b t n)
    = poolRow (fun m s => x1 (ix3 b s m)) (fun g e j => x5 (ix4 0 g e j)) (fun m => x6 (ix2 0 m)) t n := by
  have hm := means x1 hx b t
  unfold val_main_v181 val_main_v180 val_main_v179 val_main_v1 val_main_v178 val_main_v177 val_main_v176 val_main_v0 poolRow
  generalize (val_main_v175 (F := Ideal) x1 : FVec Ideal S16x4096x4x128 .f32) = p at *
  pointwise
  simp only [hm]
  refine congrArg (· * _) (Finset.sum_congr rfl fun e _ => ?_)
  rw [mul_comm]

omit hx

variable (x0 : FVec Ideal S16x4096x1024 .f32) (x2 : FVec Ideal S16x4096x512 .bf16) (x3 : FVec Ideal S1x16x4096x256 .f32) (x4 x8 x9 : FVec Ideal S1x1024 .f32)
  (x7 : FVec Ideal S1x1024x1024 .f32) (x10 x11 : FVec Ideal S1x1024x2816 .f32) (x12 : FVec Ideal S1x2816x1024 .f32) (x13 : FVec Ideal S1x256x1024 .f32)
  (x14 : FVec Ideal S1x1024x1024 .f32) (x15 : FVec Ideal S1x1024 .f32)

/-- The pool and the attention through the output weights. -/
theorem mixed (o : Fin 512 → EReal) (ho : ∀ n, val_main_v181 (F := Ideal) x1 x5 x6 (ix3 b t n) = o n) (c : Fin 1024) :
    val_main_v185 (F := Ideal) x1 x2 x5 x6 x7 (ix3 b t c) = lin (joined o (fun n => x2 (ix3 b t n))) (fun k j => x7 (ix3 0 k j)) c := by
  unfold val_main_v185 val_main_v184 val_main_v183 val_main_v182 lin joined
  generalize (val_main_v181 (F := Ideal) x1 x5 x6 : FVec Ideal S16x4096x512 .f32) = p at *
  pointwise
  simp only [ho]

/-- Its rows normed and added to the input. -/
theorem added (z : Fin 1024 → EReal) (hz : ∀ c, val_main_v185 (F := Ideal) x1 x2 x5 x6 x7 (ix3 b t c) = z c) (c : Fin 1024) :
    val_main_v200 (F := Ideal) x0 x1 x2 x4 x5 x6 x7 (ix3 b t c) = x0 (ix3 b t c) + rms z (fun k => x4 (ix2 0 k)) c := by
  unfold val_main_v200 val_main_v199 val_main_v198 val_main_v197 val_main_v196 val_main_v195 val_main_v194 val_main_v193 val_main_v192
    val_main_v191 val_main_v190 val_main_v189 val_main_v188 val_main_v187 val_main_v186 val_main_cst_55 val_main_cst_56 val_main_cst_57 rms
  generalize (val_main_v185 (F := Ideal) x1 x2 x5 x6 x7 : FVec Ideal S16x4096x1024 .f32) = p at *
  pointwise
  simp only [hz]

/-- The pattern of one. -/
theorem one_bits : Ideal.ofBits FTy.f32 0x3F800000#32 = (1 : EReal) := by
  simp [Ideal.ofBits, Ideal.ieee]
  rw [← EReal.coe_mul]
  norm_num

/-- The feed-forward part added to the rows. -/
theorem widened (h : Fin 1024 → EReal) (hh : ∀ c, val_main_v200 (F := Ideal) x0 x1 x2 x4 x5 x6 x7 (ix3 b t c) = h c) (c : Fin 1024) :
    val_main_v214 (F := Ideal) x0 x1 x2 x4 x5 x6 x7 x8 (ix3 b t c) = rms h (fun k => x8 (ix2 0 k)) c := by
  unfold val_main_v214 val_main_v213 val_main_v212 val_main_v211 val_main_v210 val_main_v209 val_main_v208 val_main_v207
    val_main_v206 val_main_v205 val_main_v204 val_main_v203 val_main_v202 val_main_v201 val_main_cst_58 val_main_cst_59 val_main_cst_60 rms
  generalize (val_main_v200 (F := Ideal) x0 x1 x2 x4 x5 x6 x7 : FVec Ideal S16x4096x1024 .f32) = p at *
  pointwise
  simp only [hh]

/-- The gated branch through its weights. -/
theorem narrowed (h : Fin 1024 → EReal) (hh : ∀ c, val_main_v214 (F := Ideal) x0 x1 x2 x4 x5 x6 x7 x8 (ix3 b t c) = h c) (c : Fin 1024) :
    val_main_v222 (F := Ideal) x0 x1 x2 x4 x5 x6 x7 x8 x10 x11 x12 (ix3 b t c)
      = lin (fun j => lin h (fun k m => x10 (ix3 0 k m)) j * Ideal.logistic (lin h (fun k m => x10 (ix3 0 k m)) j) * lin h (fun k m => x11 (ix3 0 k m)) j)
          (fun k m => x12 (ix3 0 k m)) c := by
  unfold val_main_v222 val_main_v221 val_main_v220 val_main_v219 val_main_v218 val_main_v217 val_main_call9_v5 val_main_call9_v4 val_main_call9_v3
    val_main_call9_v2 val_main_call9_v1 val_main_call9_v0 val_main_call9_cst val_main_call9_cst_0 val_main_v216 val_main_v215 lin
  generalize (val_main_v214 (F := Ideal) x0 x1 x2 x4 x5 x6 x7 x8 : FVec Ideal S16x4096x1024 .f32) = p at *
  pointwise
  simp only [hh, one_bits]
  rfl

/-- The rows after the feed-forward part. -/
theorem fed_rows (h z : Fin 1024 → EReal) (hh : ∀ c, val_main_v200 (F := Ideal) x0 x1 x2 x4 x5 x6 x7 (ix3 b t c) = h c)
    (hz : ∀ c, val_main_v222 (F := Ideal) x0 x1 x2 x4 x5 x6 x7 x8 x10 x11 x12 (ix3 b t c) = z c) (c : Fin 1024) :
    val_main_v237 (F := Ideal) x0 x1 x2 x4 x5 x6 x7 x8 x9 x10 x11 x12 (ix3 b t c) = h c + rms z (fun k => x9 (ix2 0 k)) c := by
  unfold val_main_v237 val_main_v236 val_main_v235 val_main_v234 val_main_v233 val_main_v232 val_main_v231 val_main_v230 val_main_v229
    val_main_v228 val_main_v227 val_main_v226 val_main_v225 val_main_v224 val_main_v223 val_main_cst_61 val_main_cst_62 val_main_cst_63 rms
  generalize (val_main_v222 (F := Ideal) x0 x1 x2 x4 x5 x6 x7 x8 x10 x11 x12 : FVec Ideal S16x4096x1024 .f32) = p at *
  generalize (val_main_v200 (F := Ideal) x0 x1 x2 x4 x5 x6 x7 : FVec Ideal S16x4096x1024 .f32) = q at *
  pointwise
  simp only [hz, hh]

/-- The rows with their gated embeddings. -/
theorem gated_rows (h : Fin 1024 → EReal) (hh : ∀ c, val_main_v237 (F := Ideal) x0 x1 x2 x4 x5 x6 x7 x8 x9 x10 x11 x12 (ix3 b t c) = h c) (c : Fin 1024) :
    val_main_v254 (F := Ideal) x0 x1 x2 x3 x4 x5 x6 x7 x8 x9 x10 x11 x12 x13 x14 x15 (ix3 b t c)
      = embedded h (fun k => x3 (ix4 0 b t k)) (fun k m => x13 (ix3 0 k m)) (fun k m => x14 (ix3 0 k m)) (fun k => x15 (ix2 0 k)) c := by
  unfold val_main_v254 val_main_v253 val_main_v252 val_main_v251 val_main_v250 val_main_v249 val_main_v248 val_main_v247 val_main_v246
    val_main_v245 val_main_v244 val_main_v243 val_main_v242 val_main_v241 val_main_v240 val_main_v239 val_main_v238 val_main_cst_64 val_main_cst_65
    embedded lin
  generalize (val_main_v237 (F := Ideal) x0 x1 x2 x4 x5 x6 x7 x8 x9 x10 x11 x12 : FVec Ideal S16x4096x1024 .f32) = p at *
  pointwise
  simp only [hh, one_bits]
  rfl

include hx

/-- The reference's result at an index. -/
theorem result (c : Fin 1024) : val_main_v254 (F := Ideal) x0 x1 x2 x3 x4 x5 x6 x7 x8 x9 x10 x11 x12 x13 x14 x15 (ix3 b t c)
    = rowOut (poolRow (fun m s => x1 (ix3 b s m)) (fun g e j => x5 (ix4 0 g e j)) (fun m => x6 (ix2 0 m)) t)
        (fun n => x2 (ix3 b t n)) (fun k j => x7 (ix3 0 k j)) (fun k => x0 (ix3 b t k)) (fun k => x3 (ix4 0 b t k)) (fun k => x4 (ix2 0 k))
        (fun k => x8 (ix2 0 k)) (fun k => x9 (ix2 0 k)) (fun k j => x10 (ix3 0 k j)) (fun k j => x11 (ix3 0 k j)) (fun k j => x12 (ix3 0 k j))
        (fun k j => x13 (ix3 0 k j)) (fun k j => x14 (ix3 0 k j)) (fun k => x15 (ix2 0 k)) c := by
  have h1 := mixed x1 b t x5 x6 x2 x7 _ (pool x1 hx b t x5 x6)
  have h2 := added x1 b t x5 x6 x0 x2 x4 x7 _ h1
  have h3 := widened x1 b t x5 x6 x0 x2 x4 x8 x7 _ h2
  have h4 := narrowed x1 b t x5 x6 x0 x2 x4 x8 x7 x10 x11 x12 _ h3
  have h5 := fed_rows x1 b t x5 x6 x0 x2 x4 x8 x9 x7 x10 x11 x12 _ _ h2 h4
  exact gated_rows x1 b t x5 x6 x0 x2 x3 x4 x8 x9 x7 x10 x11 x12 x13 x14 x15 _ h5 c

end Cert.Reference2Ideal.RefValue

end
-- ==== Proof.PostEquation.lean ====
/- The equation of the kernel after the attention: its precondition, read, and what its array holds against what the
   reference computes. -/
module

public import proofs.«01_k».proof.Pre_finite2
public import proofs.«01_k».proof.Proof.Finite
public import proofs.«01_k».proof.Proof.PostArrayValue
public import proofs.«01_k».proof.Proof.PostRefValue

@[expose] public section

set_option maxRecDepth 20000

noncomputable section

namespace Cert.PostEquation

open Idealize.ShloMosaic Cert.Kernel2Ideal.HostArgs

/-- The shape relations of the predicate. -/
theorem facts : Cert.Pre_finite2.Facts := by
  constructor <;> decide

section
variable [Cert.Pre_finite2.Facts]
open Cert.Pre_finite2

instance : Subsingleton S_.Idx := ⟨fun _ _ => funext fun a => a.elim0⟩

/-- The predicate says that every element of the pool's input is a real number. -/
theorem elements (x : FVec Ideal S16x4096x1024 .f32) (u : FVec Ideal S16x4096x512 .f32) (attn : FVec Ideal S16x4096x512 .bf16)
    (emb : FVec Ideal S1x16x4096x256 .f32) (gmix : FVec Ideal S1x1024 .f32) (poolw : FVec Ideal S1x4x128x128 .f32)
    (scale : FVec Ideal S1x512 .f32) (wout : FVec Ideal S1x1024x1024 .f32) (gpre gpost : FVec Ideal S1x1024 .f32)
    (wgate wup : FVec Ideal S1x1024x2816 .f32) (wdown : FVec Ideal S1x2816x1024 .f32) (wproj : FVec Ideal S1x256x1024 .f32)
    (wple : FVec Ideal S1x1024x1024 .f32) (bple : FVec Ideal S1x1024 .f32)
    (h : Cert.Pre_finite2.fn x u attn emb gmix poolw scale wout gpre gpost wgate wup wdown wproj wple bple = fun _ => 1#1) :
    ∀ i, ∃ r : ℝ, u i = (r : EReal) := by
  have h0 := congrFun h ix0
  dsimp only [Cert.Pre_finite2.fn] at h0
  exact fun i => Cert.Finite.real_of_lt _ (Host.reduce_andi_all _ _ _ _ _ h0 i)

end

variable (m : (ℓ : Loc Cert.Kernel2Ideal.nD Cert.Kernel2Ideal.τ Cert.Kernel2Ideal.sig) → Buf (Elt Ideal) ℓ) (c : Dev Cert.Kernel2Ideal.nD)

/-- The array the kernel leaves is the reference's result, when the pool's input is real. -/
theorem array_eq (hu : ∀ i, ∃ r : ℝ, uArg m c i = (r : EReal)) :
    Cert.Kernel2Ideal.ArrayValue.G m c = Cert.Reference2Ideal.Read.val_main_v254 (F := Ideal) (xArg m c) (uArg m c) (attnArg m c) (embArg m c)
      (gmixArg m c) (poolwArg m c) (scaleArg m c) (woutArg m c) (gpreArg m c) (gpostArg m c) (wgateArg m c) (wupArg m c) (wdownArg m c)
      (wprojArg m c) (wpleArg m c) (bpleArg m c) := by
  funext i
  have hi : i = ix3 (i 0 : Fin 16) (i 1 : Fin 4096) (i 2 : Fin 1024) := eq_ix3 i
  rw [hi]
  exact (Cert.Reference2Ideal.RefValue.result _ hu _ _ _ _ _ _ _ _ _ _ _ _ _ _ _ _ _ _).symm

end Cert.PostEquation

end
-- ==== Proof.PreBlock.lean ====
/- What one grid point of the kernel before the attention leaves in its output blocks, as four stretches of 256 rows. -/
module

public import proofs.«01_k».proof.Proof.Gen.Kernel3Ideal.Frame

@[expose] public section

set_option maxRecDepth 20000

noncomputable section

namespace Cert.Kernel3Ideal.Block

open Cert.Kernel3Ideal Cert.Kernel3Ideal.Gen Idealize.ShloMosaic Idealize.ShloMosaic.TcCoe

variable {F : FTy → Type} [FloatOps F] [Named F]

/-- The 64 columns of head `h`. -/
def headOf (z : FVec F S768x256 .f32) (h : Fin 10) : FVec F S64x256 .f32 :=
  extractStridedSlice S64x256 ![h.val * 64, 0] z ⟨rfl, by
    intro a; have := h.isLt; fin_cases a <;> simp [S64x256, S768x256] <;> omega⟩

/-- A head's features normed. -/
def normed (g : FVec F S64x1 .f32) (z : FVec F S64x256 .f32) : FVec F S64x256 .f32 :=
  mulf (mulf z (broadcastTo S64x256 (rsqrt (addf
    (mulf (shapeCast S1x256 (multiReduction .add [0] S256 (mulf z z) 0x00000000#32 reduces_S64x256_S256 (.inl rfl) rfl) shapeCasts_S256_S1x256)
      (broadcast S1x256 (Scalar.ofBits .f32 0x3C800000#32))) (broadcast S1x256 (Scalar.ofBits .f32 0x358637BD#32)))) broadcasts_S1x256_S64x256))
    (broadcastTo S64x256 g broadcasts_S64x1_S64x256)

/-- A head's features rotated. -/
def turned (y : FVec F S64x256 .f32) (co si : FVec F S32x256 .f32) : FVec F S64x256 .f32 :=
  let a := extractStridedSlice S32x256 ![0, 0] y slices_S64x256_o0_0_S32x256
  let b := extractStridedSlice S32x256 ![32, 0] y slices_S64x256_o32_0_S32x256
  concatenate S64x256 0 [⟨S32x256, subf (mulf a co) (mulf b si)⟩, ⟨S32x256, addf (mulf a si) (mulf b co)⟩] concatenates_S32x256_S32x256_S64x256_d0

/-- One head's queries. -/
def query (g : FVec F S64x1 .f32) (z : FVec F S64x256 .f32) (co si : FVec F S32x256 .f32) : FVec F S1x64x256 .bf16 :=
  shapeCast S1x64x256 (truncf .bf16 (mulf (turned (normed g z) co si)
    (broadcast S64x256 (Named.named κ "q_scale" 0x3E38AA3B#32))) bitsLt_bf16_f32) shapeCasts_S64x256_S1x64x256

/-- The keys of both heads. -/
def keys (g : FVec F S64x1 .f32) (z : FVec F S768x256 .f32) (co si : FVec F S32x256 .f32) : FVec F S1x256x128 .bf16 :=
  shapeCast S1x256x128 (truncf .bf16 (transpose S256x128 [1, 0] (concatenate S128x256 0
    [⟨S64x256, turned (normed g (headOf z 8)) co si⟩, ⟨S64x256, turned (normed g (headOf z 9)) co si⟩]
    concatenates_S64x256_S64x256_S128x256_d0) transposes_S128x256_p1_0_S256x128) bitsLt_bf16_f32) shapeCasts_S256x128_S1x256x128

/-- One stretch's rows of the input. -/
def rowsOf (x0 : Vec F S1x1024x1024 .f32) (b : Fin 4) : Vec F S1x256x1024 .f32 :=
  View.ld x0 (Rect.unit ![0, b.val * 256, 0] S1x256x1024.size (by
    intro a; have := b.isLt; fin_cases a <;> simp [S1x256x1024, S1x1024x1024] <;> omega))

/-- One stretch's columns of a table of angles. -/
def tableOf (x : Vec F S32x1024 .f32) (b : Fin 4) : Vec F S32x256 .f32 :=
  View.ld x (Rect.unit ![0, b.val * 256] S32x256.size (by
    intro a; have := b.isLt; fin_cases a <;> simp [S32x256, S32x1024] <;> omega))

/-- One stretch's rows, normed. -/
def restOf (x0 : Vec F S1x1024x1024 .f32) (x1 : Vec F S1x1024 .f32) (b : Fin 4) : FVec F S256x1024 .bf16 := k0_pay5 (rowsOf x0 b) (View.ld x1 r0_2)

/-- One stretch's heads, before their norms. -/
def headsOf (x0 : Vec F S1x1024x1024 .f32) (x1 : Vec F S1x1024 .f32) (x3 : Vec F S768x1024 .bf16) (b : Fin 4) : FVec F S768x256 .f32 :=
  k0_pay11 (restOf x0 x1 b) (View.ld x3 r0_8)

variable (x0 : Vec F S1x1024x1024 .f32) (x1 : Vec F S1x1024 .f32) (x2 : Vec F S1024x512 .bf16) (x3 : Vec F S768x1024 .bf16)
  (x4 x5 : Vec F S64x1 .f32) (x6 x7 : Vec F S32x1024 .f32)

/-- The store of one stretch's pool inputs. -/
def poolPiece (b : Fin 4) : View.Piece (Elt F) S1x1024x512 .f32 :=
  ⟨Rect.unit ![0, b.val * 256, 0] S1x256x512.size (by
    intro a; have := b.isLt; fin_cases a <;> simp [S1x256x512, S1x1024x512] <;> omega), k0_pay10 (k0_pay9 (restOf x0 x1 b) (View.ld x2 r0_6))⟩

/-- The store of one head's queries in one stretch. -/
def queryPiece (b : Fin 4) (h : Fin 8) : View.Piece (Elt F) S1x512x1024 .bf16 :=
  ⟨Rect.unit ![0, h.val * 64, b.val * 256] S1x64x256.size (by
    intro a; have := b.isLt; have := h.isLt; fin_cases a <;> simp [S1x64x256, S1x512x1024] <;> omega),
    query (k0_pay3 (View.ld x4 r0_0)) (headOf (headsOf x0 x1 x3 b) ⟨h.val, by omega⟩) (k0_pay18 (tableOf x6 b)) (k0_pay18 (tableOf x7 b))⟩

/-- The store of one stretch's keys. -/
def keyPiece (b : Fin 4) : View.Piece (Elt F) S1x1024x128 .bf16 :=
  ⟨Rect.unit ![0, b.val * 256, 0] S1x256x128.size (by
    intro a; have := b.isLt; fin_cases a <;> simp [S1x256x128, S1x1024x128] <;> omega),
    keys (k0_pay3 (View.ld x5 r0_0)) (headsOf x0 x1 x3 b) (k0_pay18 (tableOf x6 b)) (k0_pay18 (tableOf x7 b))⟩

/-- The store of one stretch's values. -/
def valuePiece (b : Fin 4) : View.Piece (Elt F) S1x128x1024 .bf16 :=
  ⟨Rect.unit ![0, 0, b.val * 256] S1x128x256.size (by
    intro a; have := b.isLt; fin_cases a <;> simp [S1x128x256, S1x128x1024] <;> omega), k0_pay2 (headsOf x0 x1 x3 b)⟩

theorem pools : out0_8 x0 x1 x2 x3 x4 x5 x6 x7 = View.canon ([3, 2, 1, 0].map (poolPiece x0 x1 x2)) := rfl
theorem values : out0_11 x0 x1 x2 x3 x4 x5 x6 x7 = View.canon ([3, 2, 1, 0].map (valuePiece x0 x1 x3)) := rfl
theorem keysOf : out0_10 x0 x1 x2 x3 x4 x5 x6 x7 = View.canon ([3, 2, 1, 0].map (keyPiece x0 x1 x3 x5 x6 x7)) := rfl
theorem queries : out0_9 x0 x1 x2 x3 x4 x5 x6 x7 =
    View.canon ([3, 2, 1, 0].flatMap fun b => [7, 6, 5, 4, 3, 2, 1, 0].map (queryPiece x0 x1 x3 x4 x6 x7 b)) := rfl

end Cert.Kernel3Ideal.Block

end
-- ==== Proof.PreRow.lean ====
/- What the layer computes of one row before the attention, over the extended reals: the row's norm, its image under the input weights,
   and the norm and rotation of one head of it. -/
module

public import proofs.«01_k».proof.Proof.PoolRow

@[expose] public section

noncomputable section

namespace Cert.PreRow

open Cert.PoolRow Idealize.ShloMosaic

/-- Where the rotated order keeps feature `d`: the even features first, then the odd ones. -/
def spread (d : Fin 64) : Fin 64 := if h : d.val < 32 then ⟨2 * d.val, by omega⟩ else ⟨2 * (d.val - 32) + 1, by omega⟩

theorem spread_bijective : Function.Bijective spread := by decide

/-- A head's features over the root of their mean square, times the gain. -/
def headNorm (z g : Fin 64 → EReal) (d : Fin 64) : EReal :=
  z d * Ideal.rsqrt (Ideal.div (∑ e, z e * z e) (Ideal.ofBits .f32 0x42800000#32) + Ideal.ofBits .f32 0x358637BD#32) * g d

/-- The norm with its features in the rotated order. -/
def headNormSpread (z g : Fin 64 → EReal) (d : Fin 64) : EReal :=
  z d * Ideal.rsqrt ((∑ e, z e * z e) * Ideal.ofBits .f32 0x3C800000#32 + Ideal.ofBits .f32 0x358637BD#32) * g d

/-- The rotation of a head whose pairs are 32 features apart. -/
def turn (y : Fin 64 → EReal) (co si : Fin 32 → EReal) (d : Fin 64) : EReal :=
  if h : d.val < 32 then y d * co ⟨d.val, h⟩ - y ⟨d.val + 32, by omega⟩ * si ⟨d.val, h⟩
  else y ⟨d.val - 32, by omega⟩ * si ⟨d.val - 32, by omega⟩ + y d * co ⟨d.val - 32, by omega⟩

/-- One head of a row: normed, then rotated, in the rotated order. -/
def headRow (z g : Fin 64 → EReal) (co si : Fin 32 → EReal) (d : Fin 64) : EReal :=
  turn (fun e => headNorm z g (spread e)) co si d

/-- The angle of frequency `e` at place `p` of its axis. -/
def angleOf (p e : Nat) : EReal :=
  FloatOps.sitofp (F := Ideal) FTy.f32 (BitVec.ofNat 32 p) * Ideal.div 1 (Ideal.pow (Ideal.ofBits FTy.f32 0x461C4000#32)
    (Ideal.div (Ideal.ofBits FTy.f32 0x40000000#32 * FloatOps.sitofp (F := Ideal) FTy.f32 (BitVec.ofNat 32 e)) (Ideal.ofBits FTy.f32 0x42000000#32)))

/-- The angle of pair `d` at position `s` of the grid of 64 columns: the row's angles, then the column's. -/
def angle (s : Fin 4096) (d : Fin 32) : EReal := if d.val < 16 then angleOf (s.val / 64) d.val else angleOf (s.val % 64) (d.val - 16)

theorem sixtyfour_bits : Ideal.ofBits FTy.f32 0x42800000#32 = ((64 : ℝ) : EReal) := by
  simp [Ideal.ofBits, Ideal.ieee, ← EReal.coe_mul]; norm_num
theorem sixtyfourth_bits : Ideal.ofBits FTy.f32 0x3C800000#32 = ((1 / 64 : ℝ) : EReal) := by
  simp [Ideal.ofBits, Ideal.ieee, ← EReal.coe_mul]; norm_num

theorem headNormSpread_eq (z g : Fin 64 → EReal) (d : Fin 64) :
    headNormSpread (fun e => z (spread e)) (fun e => g (spread e)) d = headNorm z g (spread d) := by
  unfold headNormSpread headNorm
  rw [spread_bijective.sum_comp (fun e => z e * z e), sixtyfour_bits, sixtyfourth_bits, Ideal.div_coe (by norm_num)]

end Cert.PreRow

end
-- ==== Proof.PreItem.lean ====
/- The functions of one stretch of a grid point before the attention, at an index, over the extended reals. -/
module

public import proofs.«01_k».proof.Proof.PreBlock
public import proofs.«01_k».proof.Proof.PreRow
public import Idealize.ShloMosaic.Lib.Pointwise

@[expose] public section

set_option maxRecDepth 20000

noncomputable section

namespace Cert.Kernel3Ideal.ItemValue

open Cert.Kernel3Ideal Cert.Kernel3Ideal.Gen Cert.Kernel3Ideal.Block Cert.PoolRow Cert.PreRow Idealize.ShloMosaic

/-- The queries' factor. -/
def scale : EReal := (Named.named κ "q_scale" 0x3E38AA3B#32 : Ideal .f32)

theorem rest_apply (x : Vec Ideal S1x256x1024 .f32) (g : Vec Ideal S1x1024 .f32) (r : Fin 256) (k : Fin 1024) :
    k0_pay5 x g (ix2 r k) = rms (fun k => x (ix3 0 r k)) (fun k => g (ix2 0 k)) k := by
  unfold rms
  pointwise [k0_pay5]

theorem pool_apply (h : FVec Ideal S256x1024 .bf16) (w : Vec Ideal S1024x512 .bf16) (r : Fin 256) (n : Fin 512) :
    k0_pay10 (k0_pay9 h w) (ix3 0 r n) = lin (fun k => h (ix2 r k)) (fun k n => w (ix2 k n)) n := by
  unfold lin
  pointwise [k0_pay10, k0_pay9]

theorem heads_apply (h : FVec Ideal S256x1024 .bf16) (w : Vec Ideal S768x1024 .bf16) (j : Fin 768) (r : Fin 256) :
    k0_pay11 h w (ix2 j r) = lin (fun k => h (ix2 r k)) (fun k j => w (ix2 j k)) j := by
  unfold lin
  pointwise [k0_pay11]
  exact Finset.sum_congr rfl fun _ _ => mul_comm _ _

theorem head_apply (z : FVec Ideal S768x256 .f32) (h : Fin 10) (d : Fin 64) (r : Fin 256) :
    headOf z h (ix2 d r) = z (ix2 ⟨h.val * 64 + d.val, by omega⟩ r) := by
  pointwise [headOf]

theorem normed_apply (g : FVec Ideal S64x1 .f32) (z : FVec Ideal S64x256 .f32) (d : Fin 64) (r : Fin 256) :
    normed g z (ix2 d r) = headNormSpread (fun e => z (ix2 e r)) (fun e => g (ix2 e 0)) d := by
  unfold headNormSpread
  pointwise [normed]

theorem turned_apply (y : FVec Ideal S64x256 .f32) (co si : FVec Ideal S32x256 .f32) (d : Fin 64) (r : Fin 256) :
    turned y co si (ix2 d r) = turn (fun e => y (ix2 e r)) (fun e => co (ix2 e r)) (fun e => si (ix2 e r)) d := by
  unfold turn
  pointwise [turned]
  by_cases h : d.val < 32
  · simp only [dif_pos h, Nat.add_comm 32]
  · simp only [dif_neg h, show 32 + (d.val - 32) = d.val by omega]

/-- A head, normed and rotated, at an index. -/
theorem both_apply (g : FVec Ideal S64x1 .f32) (z : FVec Ideal S768x256 .f32) (h : Fin 10) (co si : FVec Ideal S32x256 .f32) (d : Fin 64) (r : Fin 256) :
    turned (normed g (headOf z h)) co si (ix2 d r)
      = turn (headNormSpread (fun e => z (ix2 ⟨h.val * 64 + e.val, by omega⟩ r)) (fun e => g (ix2 e 0)))
          (fun e => co (ix2 e r)) (fun e => si (ix2 e r)) d := by
  rw [turned_apply]
  simp only [normed_apply, head_apply]

theorem query_apply (g : FVec Ideal S64x1 .f32) (z : FVec Ideal S64x256 .f32) (co si : FVec Ideal S32x256 .f32) (d : Fin 64) (r : Fin 256) :
    query g z co si (ix3 0 d r) = turned (normed g z) co si (ix2 d r) * scale := by
  unfold query
  generalize turned (normed g z) co si = y
  pointwise
  rfl

theorem keys_apply (g : FVec Ideal S64x1 .f32) (z : FVec Ideal S768x256 .f32) (co si : FVec Ideal S32x256 .f32) (r : Fin 256) (n : Fin 128) :
    keys g z co si (ix3 0 r n) = turned (normed g (headOf z ⟨8 + n.val / 64, by omega⟩)) co si (ix2 ⟨n.val % 64, by omega⟩ r) := by
  have hn := n.isLt
  obtain ⟨a, ha⟩ : ∃ a, a = turned (normed g (headOf z 8)) co si := ⟨_, rfl⟩
  obtain ⟨b, hb⟩ : ∃ b, b = turned (normed g (headOf z 9)) co si := ⟨_, rfl⟩
  unfold keys
  rw [← ha, ← hb]
  by_cases h : n.val < 64
  · rw [show (⟨8 + n.val / 64, by omega⟩ : Fin 10) = 8 from Fin.ext (by show 8 + n.val / 64 = 8; omega), ← ha,
      show (⟨n.val % 64, by omega⟩ : Fin 64) = ⟨n.val, h⟩ from Fin.ext (by show n.val % 64 = n.val; omega)]
    pointwise
    rw [dif_pos h]
  · rw [show (⟨8 + n.val / 64, by omega⟩ : Fin 10) = 9 from Fin.ext (by show 8 + n.val / 64 = 9; omega), ← hb,
      show (⟨n.val % 64, by omega⟩ : Fin 64) = ⟨n.val - 64, by omega⟩ from Fin.ext (by show n.val % 64 = n.val - 64; omega)]
    pointwise
    rw [dif_neg h]

theorem values_apply (z : FVec Ideal S768x256 .f32) (n : Fin 128) (r : Fin 256) :
    k0_pay2 z (ix3 0 n r) = z (ix2 ⟨640 + n.val, by omega⟩ r) := by
  pointwise [k0_pay2]

end Cert.Kernel3Ideal.ItemValue

end
-- ==== Proof.PreBlockValue.lean ====
/- One grid point's output blocks before the attention, at an index, over the extended reals. -/
module

public import proofs.«01_k».proof.Proof.PreItem
public import Idealize.ShloMosaic.Lib.Pipeline.Value

@[expose] public section

set_option maxRecDepth 20000

noncomputable section

namespace Cert.Kernel3Ideal.BlockValue

open Cert.Kernel3Ideal Cert.Kernel3Ideal.Gen Cert.Kernel3Ideal.Block Cert.Kernel3Ideal.ItemValue Cert.PoolRow Cert.PreRow Idealize.ShloMosaic

variable (x0 : Vec Ideal S1x1024x1024 .f32) (x1 : Vec Ideal S1x1024 .f32) (x2 : Vec Ideal S1024x512 .bf16) (x3 : Vec Ideal S768x1024 .bf16)
  (x4 x5 : Vec Ideal S64x1 .f32) (x6 x7 : Vec Ideal S32x1024 .f32)

/-- A row of the block, normed. -/
def rest (r : Fin 1024) : Fin 1024 → EReal := rms (fun k => x0 (ix3 0 r k)) (fun k => x1 (ix2 0 k))

/-- A row's heads, before their norms. -/
def heads (r : Fin 1024) (j : Fin 768) : EReal := lin (rest x0 x1 r) (fun k j => x3 (ix2 j k)) j

/-- One head of a row, normed and rotated. -/
def head (g : Vec Ideal S64x1 .f32) (h : Fin 10) (r : Fin 1024) : Fin 64 → EReal :=
  turn (headNormSpread (fun e => heads x0 x1 x3 r ⟨h.val * 64 + e.val, by omega⟩) (fun e => g (ix2 e 0)))
    (fun e => x6 (ix2 e r)) (fun e => x7 (ix2 e r))

/-- What a row of the block leaves for the pool, for the queries, for the keys and for the values. -/
def poolRow (r : Fin 1024) (n : Fin 512) : EReal := lin (rest x0 x1 r) (fun k n => x2 (ix2 k n)) n
def queryRow (r : Fin 1024) (n : Fin 512) : EReal := head x0 x1 x3 x6 x7 x4 ⟨n.val / 64, by omega⟩ r ⟨n.val % 64, by omega⟩ * scale
def keyRow (r : Fin 1024) (n : Fin 128) : EReal := head x0 x1 x3 x6 x7 x5 ⟨8 + n.val / 64, by omega⟩ r ⟨n.val % 64, by omega⟩
def valueRow (r : Fin 1024) (n : Fin 128) : EReal := heads x0 x1 x3 r ⟨640 + n.val, by omega⟩

def poolBlock (i : S1x1024x512.Idx) : Elt Ideal .f32 := poolRow x0 x1 x2 (i 1) (i 2)
def queryBlock (i : S1x512x1024.Idx) : Elt Ideal .bf16 := queryRow x0 x1 x3 x4 x6 x7 (i 2) (i 1)
def keyBlock (i : S1x1024x128.Idx) : Elt Ideal .bf16 := keyRow x0 x1 x3 x5 x6 x7 (i 1) (i 2)
def valueBlock (i : S1x128x1024.Idx) : Elt Ideal .bf16 := valueRow x0 x1 x3 (i 2) (i 1)

theorem rest_eq (b : Fin 4) (r : Fin 256) (k : Fin 1024) : restOf x0 x1 b (ix2 r k) = rest x0 x1 ⟨b.val * 256 + r.val, by omega⟩ k := by
  unfold restOf
  rw [rest_apply]
  unfold rest
  congr 1
  · funext k; pointwise [rowsOf]
  · funext k; pointwise

theorem heads_eq (b : Fin 4) (r : Fin 256) (j : Fin 768) : headsOf x0 x1 x3 b (ix2 j r) = heads x0 x1 x3 ⟨b.val * 256 + r.val, by omega⟩ j := by
  unfold headsOf
  rw [heads_apply]
  unfold heads
  simp only [rest_eq]
  congr 1
  funext k j; pointwise

theorem table_eq (x : Vec Ideal S32x1024 .f32) (b : Fin 4) (r : Fin 256) (e : Fin 32) :
    k0_pay18 (tableOf x b) (ix2 e r) = x (ix2 e ⟨b.val * 256 + r.val, by omega⟩) := by
  pointwise [k0_pay18, tableOf]

theorem gain_eq (g : Vec Ideal S64x1 .f32) (e : Fin 64) : k0_pay3 (View.ld g r0_0) (ix2 e 0) = g (ix2 e 0) := by
  pointwise [k0_pay3]

theorem head_eq (g : Vec Ideal S64x1 .f32) (b : Fin 4) (h : Fin 10) (d : Fin 64) (r : Fin 256) :
    turned (normed (k0_pay3 (View.ld g r0_0)) (headOf (headsOf x0 x1 x3 b) h)) (k0_pay18 (tableOf x6 b)) (k0_pay18 (tableOf x7 b)) (ix2 d r)
      = head x0 x1 x3 x6 x7 g h ⟨b.val * 256 + r.val, by omega⟩ d := by
  rw [both_apply]
  unfold head
  simp only [heads_eq, table_eq, gain_eq]

/-! Each store's elements are the block's at the store's place. -/

theorem pool_piece (b : Fin 4) (x : S1x256x512.Idx) :
    (poolPiece x0 x1 x2 b).2 x = poolBlock x0 x1 x2 ((poolPiece x0 x1 x2 b).1.emb x) := by
  obtain ⟨a, r, n, rfl⟩ : ∃ (a : Fin 1) (r : Fin 256) (n : Fin 512), x = ix3 a r n := ⟨x 0, x 1, x 2, eq_ix3 x⟩
  obtain rfl : a = 0 := Subsingleton.elim a 0
  have e1 : (poolPiece x0 x1 x2 b).1.emb (ix3 0 r n) 1 = (⟨b.val * 256 + r.val, by omega⟩ : Fin 1024) :=
    Fin.ext (by show b.val * 256 + 1 * r.val = _; simp only; omega)
  have e2 : (poolPiece x0 x1 x2 b).1.emb (ix3 0 r n) 2 = n := Fin.ext (by show 0 + 1 * n.val = _; omega)
  unfold poolBlock
  rw [e1, e2]
  show k0_pay10 (k0_pay9 (restOf x0 x1 b) (View.ld x2 r0_6)) (ix3 0 r n) = _
  rw [pool_apply]
  unfold poolRow
  simp only [rest_eq]
  congr 1
  funext k n; pointwise

theorem query_piece (b : Fin 4) (h : Fin 8) (x : S1x64x256.Idx) :
    (queryPiece x0 x1 x3 x4 x6 x7 b h).2 x = queryBlock x0 x1 x3 x4 x6 x7 ((queryPiece x0 x1 x3 x4 x6 x7 b h).1.emb x) := by
  obtain ⟨a, d, r, rfl⟩ : ∃ (a : Fin 1) (d : Fin 64) (r : Fin 256), x = ix3 a d r := ⟨x 0, x 1, x 2, eq_ix3 x⟩
  obtain rfl : a = 0 := Subsingleton.elim a 0
  have e1 : (queryPiece x0 x1 x3 x4 x6 x7 b h).1.emb (ix3 0 d r) 1 = (⟨h.val * 64 + d.val, by omega⟩ : Fin 512) :=
    Fin.ext (by show h.val * 64 + 1 * d.val = _; simp only; omega)
  have e2 : (queryPiece x0 x1 x3 x4 x6 x7 b h).1.emb (ix3 0 d r) 2 = (⟨b.val * 256 + r.val, by omega⟩ : Fin 1024) :=
    Fin.ext (by show b.val * 256 + 1 * r.val = _; simp only; omega)
  unfold queryBlock
  rw [e1, e2]
  show query _ _ _ _ (ix3 0 d r) = _
  rw [query_apply, head_eq]
  unfold queryRow
  have f1 : (⟨(h.val * 64 + d.val) / 64, by omega⟩ : Fin 10) = ⟨h.val, by omega⟩ := Fin.ext (by show (h.val * 64 + d.val) / 64 = h.val; omega)
  have f2 : (⟨(h.val * 64 + d.val) % 64, by omega⟩ : Fin 64) = d := Fin.ext (by show (h.val * 64 + d.val) % 64 = d.val; omega)
  simp only [f1, f2]

theorem key_piece (b : Fin 4) (x : S1x256x128.Idx) :
    (keyPiece x0 x1 x3 x5 x6 x7 b).2 x = keyBlock x0 x1 x3 x5 x6 x7 ((keyPiece x0 x1 x3 x5 x6 x7 b).1.emb x) := by
  obtain ⟨a, r, n, rfl⟩ : ∃ (a : Fin 1) (r : Fin 256) (n : Fin 128), x = ix3 a r n := ⟨x 0, x 1, x 2, eq_ix3 x⟩
  obtain rfl : a = 0 := Subsingleton.elim a 0
  have e1 : (keyPiece x0 x1 x3 x5 x6 x7 b).1.emb (ix3 0 r n) 1 = (⟨b.val * 256 + r.val, by omega⟩ : Fin 1024) :=
    Fin.ext (by show b.val * 256 + 1 * r.val = _; simp only; omega)
  have e2 : (keyPiece x0 x1 x3 x5 x6 x7 b).1.emb (ix3 0 r n) 2 = n := Fin.ext (by show 0 + 1 * n.val = _; omega)
  unfold keyBlock
  rw [e1, e2]
  show Block.keys _ _ _ _ (ix3 0 r n) = _
  rw [keys_apply, head_eq]
  rfl

theorem value_piece (b : Fin 4) (x : S1x128x256.Idx) :
    (valuePiece x0 x1 x3 b).2 x = valueBlock x0 x1 x3 ((valuePiece x0 x1 x3 b).1.emb x) := by
  obtain ⟨a, n, r, rfl⟩ : ∃ (a : Fin 1) (n : Fin 128) (r : Fin 256), x = ix3 a n r := ⟨x 0, x 1, x 2, eq_ix3 x⟩
  obtain rfl : a = 0 := Subsingleton.elim a 0
  have e1 : (valuePiece x0 x1 x3 b).1.emb (ix3 0 n r) 1 = n := Fin.ext (by show 0 + 1 * n.val = _; omega)
  have e2 : (valuePiece x0 x1 x3 b).1.emb (ix3 0 n r) 2 = (⟨b.val * 256 + r.val, by omega⟩ : Fin 1024) :=
    Fin.ext (by show b.val * 256 + 1 * r.val = _; simp only; omega)
  unfold valueBlock
  rw [e1, e2]
  show k0_pay2 (headsOf x0 x1 x3 b) (ix3 0 n r) = _
  rw [values_apply, heads_eq]
  rfl

/-! What a grid point leaves in its output blocks. -/

theorem pool_eq : out0_8 x0 x1 x2 x3 x4 x5 x6 x7 = poolBlock x0 x1 x2 := by
  funext y
  rw [pools]
  refine View.canon_apply_of_pieces (poolBlock x0 x1 x2) _ (fun p hp x => ?_) y (cover0_8 _ _ _ _ y)
  obtain ⟨b, _, rfl⟩ := List.mem_map.1 hp
  exact pool_piece x0 x1 x2 b x

theorem query_eq : out0_9 x0 x1 x2 x3 x4 x5 x6 x7 = queryBlock x0 x1 x3 x4 x6 x7 := by
  funext y
  rw [queries]
  refine View.canon_apply_of_pieces (queryBlock x0 x1 x3 x4 x6 x7) _ (fun p hp x => ?_) y
    (cover0_9 _ _ _ _ _ _ _ _ _ _ _ _ _ _ _ _ _ _ _ _ _ _ _ _ _ _ _ _ _ _ _ _ y)
  obtain ⟨b, _, hb⟩ := List.mem_flatMap.1 hp
  obtain ⟨h, _, rfl⟩ := List.mem_map.1 hb
  exact query_piece x0 x1 x3 x4 x6 x7 b h x

theorem key_eq : out0_10 x0 x1 x2 x3 x4 x5 x6 x7 = keyBlock x0 x1 x3 x5 x6 x7 := by
  funext y
  rw [keysOf]
  refine View.canon_apply_of_pieces (keyBlock x0 x1 x3 x5 x6 x7) _ (fun p hp x => ?_) y (cover0_10 _ _ _ _ y)
  obtain ⟨b, _, rfl⟩ := List.mem_map.1 hp
  exact key_piece x0 x1 x3 x5 x6 x7 b x

theorem value_eq : out0_11 x0 x1 x2 x3 x4 x5 x6 x7 = valueBlock x0 x1 x3 := by
  funext y
  rw [Block.values]
  refine View.canon_apply_of_pieces (valueBlock x0 x1 x3) _ (fun p hp x => ?_) y (cover0_11 _ _ _ _ y)
  obtain ⟨b, _, rfl⟩ := List.mem_map.1 hp
  exact value_piece x0 x1 x3 b x

end Cert.Kernel3Ideal.BlockValue

end
-- ==== Proof.PreHostArgs.lean ====
/- What the host hands the kernel before the attention: the input, one layer's weights with the heads' features in the rotated order, and
   the tables of the rotation. -/
module

public import proofs.«01_k».proof.Proof.Gen.Kernel3Ideal.Frame
public import proofs.«01_k».proof.Proof.PreRow
public import Idealize.ShloMosaic.Lib.Pointwise
public import Idealize.ShloMosaic.Lib.StableHlo.ReadAt

@[expose] public section

set_option maxRecDepth 16384

noncomputable section

namespace Cert.Kernel3Ideal.HostArgs

open Cert.Kernel3Ideal Cert.Kernel3Ideal.Gen Cert.PreRow Idealize.ShloMosaic Idealize.ShloMosaic.TcCoe

variable (m : (ℓ : Loc nD τ sig) → Buf (Elt Ideal) ℓ) (c : Dev nD)

/-! The arguments as launched. -/

abbrev xArg : FVec Ideal S16x4096x1024 .f32 := m ((c : Thread nD τ).loc main_arg0)
abbrev gArg : FVec Ideal S1x1024 .f32 := m ((c : Thread nD τ).loc main_arg1)
abbrev wArg : FVec Ideal S1x1024x1280 .f32 := m ((c : Thread nD τ).loc main_arg2)
abbrev qgArg : FVec Ideal S1x64 .f32 := m ((c : Thread nD τ).loc main_arg3)
abbrev kgArg : FVec Ideal S1x64 .f32 := m ((c : Thread nD τ).loc main_arg4)

theorem x_read (b : Fin 16) (s : Fin 4096) (n : Fin 1024) : (V m c main_arg0 : Vec Ideal S16x4096x1024 .f32) (ix3 b s n) = xArg m c (ix3 b s n) := by
  unfold V hostOps0
  after_reads_at

theorem g_read (n : Fin 1024) : (V m c main_v2 : Vec Ideal S1x1024 .f32) (ix2 0 n) = gArg m c (ix2 0 n) := by
  unfold V hostOps0
  after_reads_at

theorem wu_read (k : Fin 1024) (n : Fin 512) : (V m c main_v4 : Vec Ideal S1024x512 .bf16) (ix2 k n) = wArg m c (ix3 0 k ⟨n.val, by omega⟩) := by
  unfold V hostOps0
  after_reads_at

/-! The gathers by the rotated order. -/

/-- The gather of one number per position, at an index. -/
theorem gather64_apply {α : Type} (x : S64.Idx → α) (idx : IVec S64x1 32) (j r : Fin 64) (hr : (idx (ix2 j 0)).toInt = r.val) :
    Host.gather gather_S64_S64x1_S64_n_0_n_n_0_1_1 x idx (ix1 j) = x (ix1 r) := by
  unfold Host.gather
  refine congrArg x (funext fun a => Fin.ext ?_)
  set d := gather_S64_S64x1_S64_n_0_n_n_0_1_1 with hd
  have hb : ∀ a', d.batchCoord (ix1 j) a' = 0 := fun a' => d.batchCoord_eq_zero _ _ List.not_mem_nil
  have h0 : (0 : Fin 1) ∈ d.startIndexMap := List.mem_cons_self
  have s0 : d.siIdx (ix1 j) ⟨d.startIndexMap.idxOf 0, List.idxOf_lt_length_iff.2 h0⟩ = ix2 j 0 := by
    funext c; refine Fin.ext ?_
    match c with
    | ⟨0, _⟩ => rfl
    | ⟨1, _⟩ => rfl
  match a with
  | ⟨0, _⟩ =>
    show d.start (ix1 j) idx 0 + d.batchCoord (ix1 j) 0 + d.offCoord (ix1 j) 0 = r.val
    rw [hb, show d.offCoord (ix1 j) 0 = 0 from rfl]
    unfold GatherDims.start
    rw [dif_pos h0, s0, hr]
    show min ((r.val : Int)).toNat (64 - 1) + 0 + 0 = r.val
    have := r.isLt
    omega

/-- The gather of one column per position, at an index. -/
theorem gatherColumns_apply {α : Type} (x : S1024x1280.Idx → α) (idx : IVec S768x1 32) (k : Fin 1024) (j : Fin 768) (r : Fin 1280)
    (hr : (idx (ix2 j 0)).toInt = r.val) :
    Host.gather gather_S1024x1280_S768x1_S1024x768_0_1_n_n_1_1_10241 x idx (ix2 k j) = x (ix2 k r) := by
  unfold Host.gather
  refine congrArg x (funext fun a => Fin.ext ?_)
  set d := gather_S1024x1280_S768x1_S1024x768_0_1_n_n_1_1_10241 with hd
  have hb : ∀ a', d.batchCoord (ix2 k j) a' = 0 := fun a' => d.batchCoord_eq_zero _ _ List.not_mem_nil
  have h1 : (1 : Fin 2) ∈ d.startIndexMap := List.mem_cons_self
  have s1 : d.siIdx (ix2 k j) ⟨d.startIndexMap.idxOf 1, List.idxOf_lt_length_iff.2 h1⟩ = ix2 j 0 := by
    funext c; refine Fin.ext ?_
    match c with
    | ⟨0, _⟩ => rfl
    | ⟨1, _⟩ => rfl
  match a with
  | ⟨0, _⟩ =>
    show d.start (ix2 k j) idx 0 + d.batchCoord (ix2 k j) 0 + d.offCoord (ix2 k j) 0 = k.val
    rw [hb, show d.start (ix2 k j) idx 0 = 0 by unfold GatherDims.start; rw [dif_neg (by rw [hd]; decide)],
      show d.offCoord (ix2 k j) 0 = k.val from rfl]
    exact Nat.zero_add _
  | ⟨1, _⟩ =>
    show d.start (ix2 k j) idx 1 + d.batchCoord (ix2 k j) 1 + d.offCoord (ix2 k j) 1 = r.val
    rw [hb, show d.offCoord (ix2 k j) 1 = 0 from rfl]
    unfold GatherDims.start
    rw [dif_pos h1, s1, hr]
    show min ((r.val : Int)).toNat (1280 - 1) + 0 + 0 = r.val
    have := r.isLt
    omega

/-- The input weights' column that the heads' column `j` is: the queries' and keys' features in the rotated order, then the values'. -/
def column (j : Fin 768) : Fin 1280 :=
  if j.val < 640 then ⟨512 + j.val / 64 * 64 + (spread ⟨j.val % 64, by omega⟩).val, by omega⟩ else ⟨512 + j.val, by omega⟩

theorem order_gains : ∀ d : Fin 64, ((broadcastInDim S64x1 ![0] bcast_S64_S64x1_0
    (select (constantI S64 1 0#1) (addi (fun i => lit1 (S64.rowMajor i)) (broadcastInDim S64 ![] bcast_S_S64 (constantI S_ 32 64#32)))
      fun i => lit1 (S64.rowMajor i)) : IVec S64x1 32) (ix2 d 0)).toInt = (spread d).val := by decide +kernel

theorem order_columns : ∀ j : Fin 768, ((broadcastInDim S768x1 ![0] bcast_S768_S768x1_0
    (select (constantI S768 1 0#1) (addi (fun i => lit0 (S768.rowMajor i)) (broadcastInDim S768 ![] bcast_S_S768 (constantI S_ 32 1280#32)))
      fun i => lit0 (S768.rowMajor i)) : IVec S768x1 32) (ix2 j 0)).toInt = (column j).val := by decide +kernel

theorem qg_read (d : Fin 64) : (V m c main_v18 : Vec Ideal S64x1 .f32) (ix2 d 0) = qgArg m c (ix2 0 (spread d)) := by
  unfold V hostOps0
  after_reads_at
  exact (gather64_apply _ _ d (spread d) (order_gains d)).trans rfl

theorem kg_read (d : Fin 64) : (V m c main_v25 : Vec Ideal S64x1 .f32) (ix2 d 0) = kgArg m c (ix2 0 (spread d)) := by
  unfold V hostOps0
  after_reads_at
  exact (gather64_apply _ _ d (spread d) (order_gains d)).trans rfl

theorem w_read (j : Fin 768) (k : Fin 1024) : (V m c main_v11 : Vec Ideal S768x1024 .bf16) (ix2 j k) = wArg m c (ix3 0 k (column j)) := by
  unfold V hostOps0
  after_reads_at
  exact (gatherColumns_apply _ _ k j (column j) (order_columns j)).trans rfl

/-! The tables of the rotation. -/

theorem cos_read (d : Fin 32) (s : Fin 4096) : (V m c main_v56 : Vec Ideal S32x4096 .f32) (ix2 d s) = Ideal.cos (angle s d) := by
  unfold V hostOps0 angle
  after_reads_at
  split
  · after_reads_at
    rfl
  · after_reads_at
    rfl

theorem sin_read (d : Fin 32) (s : Fin 4096) : (V m c main_v58 : Vec Ideal S32x4096 .f32) (ix2 d s) = Ideal.sin (angle s d) := by
  unfold V hostOps0 angle
  after_reads_at
  split
  · after_reads_at
    rfl
  · after_reads_at
    rfl

end Cert.Kernel3Ideal.HostArgs

end
-- ==== Proof.PreArrayValue.lean ====
/- What the result arrays of the kernel before the attention hold after the run, over the extended reals. -/
module

public import proofs.«01_k».proof.Proof.PreBlockValue
public import proofs.«01_k».proof.Proof.PreHostArgs
public import proofs.«01_k».proof.Proof.Gen.Kernel3Ideal.Value

@[expose] public section

set_option maxRecDepth 20000

noncomputable section

namespace Cert.Kernel3Ideal.ArrayValue

open Cert.Kernel3Ideal Cert.Kernel3Ideal.Gen Cert.Kernel3Ideal.BlockValue Cert.Kernel3Ideal.HostArgs Cert.PreRow
open Cert.PoolRow (rms lin)
open Idealize.ShloMosaic Idealize.ShloMosaic.TcCoe
open Idealize.ShloMosaic.Pipeline (Dat)

variable (m : (ℓ : Loc nD τ sig) → Buf (Elt Ideal) ℓ) (c : Dev nD)

/-- A row of the input, normed. -/
def normRow (b : Fin 16) (s : Fin 4096) : Fin 1024 → EReal := rms (fun k => xArg m c (ix3 b s k)) (fun k => gArg m c (ix2 0 k))

/-- A row's heads in the kernel's order, before their norms. -/
def headsRow (b : Fin 16) (s : Fin 4096) (j : Fin 768) : EReal := lin (normRow m c b s) (fun k j => wArg m c (ix3 0 k (column j))) j

/-- One head of a row, normed and rotated. -/
def turnedRow (g : FVec Ideal S1x64 .f32) (h : Fin 10) (b : Fin 16) (s : Fin 4096) : Fin 64 → EReal :=
  turn (headNormSpread (fun e => headsRow m c b s ⟨h.val * 64 + e.val, by omega⟩) (fun e => g (ix2 0 (spread e))))
    (fun d => Ideal.cos (angle s d)) (fun d => Ideal.sin (angle s d))

/-! The four result arrays. -/

def poolAt (b : Fin 16) (s : Fin 4096) (n : Fin 512) : EReal := lin (normRow m c b s) (fun k (n : Fin 512) => wArg m c (ix3 0 k ⟨n.val, by omega⟩)) n
def queryAt (b : Fin 16) (s : Fin 4096) (n : Fin 512) : EReal :=
  turnedRow m c (qgArg m c) ⟨n.val / 64, by omega⟩ b s ⟨n.val % 64, by omega⟩ * ItemValue.scale
def keyAt (b : Fin 16) (s : Fin 4096) (n : Fin 128) : EReal :=
  turnedRow m c (kgArg m c) ⟨8 + n.val / 64, by omega⟩ b s ⟨n.val % 64, by omega⟩
def valueAt (b : Fin 16) (s : Fin 4096) (n : Fin 128) : EReal := headsRow m c b s ⟨640 + n.val, by omega⟩

def poolArray : FVec Ideal S16x4096x512 .f32 := fun i => poolAt m c (i 0) (i 1) (i 2)
def queryArray : FVec Ideal S16x512x4096 .bf16 := fun i => queryAt m c (i 0) (i 2) (i 1)
def keyArray : FVec Ideal S16x4096x128 .bf16 := fun i => keyAt m c (i 0) (i 1) (i 2)
def valueArray : FVec Ideal S16x128x4096 .bf16 := fun i => valueAt m c (i 0) (i 2) (i 1)

/-- The block indices of a grid point, for the windows that move. -/
theorem index_facts : ∀ t : Fin cfg0.N,
    (win0_0.index t 0 = t.val / 4 ∧ win0_0.index t 1 = t.val % 4 ∧ win0_0.index t 2 = 0)
    ∧ (win0_6.index t 0 = 0 ∧ win0_6.index t 1 = t.val % 4)
    ∧ (win0_7.index t 0 = 0 ∧ win0_7.index t 1 = t.val % 4)
    ∧ (win0_8.index t 0 = t.val / 4 ∧ win0_8.index t 1 = t.val % 4 ∧ win0_8.index t 2 = 0)
    ∧ (win0_9.index t 0 = t.val / 4 ∧ win0_9.index t 1 = 0 ∧ win0_9.index t 2 = t.val % 4)
    ∧ (win0_10.index t 0 = t.val / 4 ∧ win0_10.index t 1 = t.val % 4 ∧ win0_10.index t 2 = 0)
    ∧ (win0_11.index t 0 = t.val / 4 ∧ win0_11.index t 1 = 0 ∧ win0_11.index t 2 = t.val % 4) :=
  (by decide +kernel : ∀ t : Fin grid0.N, _)

theorem lt_N (t : Fin cfg0.N) : t.val < 64 := lt_of_lt_of_eq t.isLt N_0

/-- A point's batch, and the place of a row of its blocks in the sequence. -/
def batch (t : Fin cfg0.N) : Fin 16 := ⟨t.val / 4, by have := lt_N t; omega⟩
def place (t : Fin cfg0.N) (r : Fin 1024) : Fin 4096 := ⟨t.val % 4 * 1024 + r.val, by omega⟩

/-- An index, by its coordinates. -/
theorem at_place {A B C : ℕ} (x : Shape.Idx ⟨3, ![A, B, C]⟩) (i : Fin A) (j : Fin B) (k : Fin C)
    (h0 : (x 0).val = i.val) (h1 : (x 1).val = j.val) (h2 : (x 2).val = k.val) : x = ix3 i j k := by
  funext a
  match a with
  | ⟨0, _⟩ => exact Fin.ext h0
  | ⟨1, _⟩ => exact Fin.ext h1
  | ⟨2, _⟩ => exact Fin.ext h2

theorem at_place2 {A B : ℕ} (x : Shape.Idx ⟨2, ![A, B]⟩) (i : Fin A) (j : Fin B) (h0 : (x 0).val = i.val) (h1 : (x 1).val = j.val) : x = ix2 i j := by
  funext a
  match a with
  | ⟨0, _⟩ => exact Fin.ext h0
  | ⟨1, _⟩ => exact Fin.ext h1

/-! A point's blocks, read off the arrays. -/

theorem iblk0 (t : Fin cfg0.N) (r : Fin 1024) (n : Fin 1024) :
    (iblk m c 0 t : Vec Ideal S1x1024x1024 .f32) (ix3 0 r n) = xArg m c (ix3 (batch t) (place t r) n) := by
  have f := (index_facts t).1
  rw [← x_read]
  unfold iblk
  rw [View.read_apply]
  exact congrArg (V m c main_arg0 : Vec Ideal S16x4096x1024 .f32) (at_place _ _ _ _
    (by show win0_0.index t 0 * 1 + 1 * 0 = t.val / 4; rw [f.1]; omega)
    (by show win0_0.index t 1 * 1024 + 1 * r.val = t.val % 4 * 1024 + r.val; rw [f.2.1]; omega)
    (by show win0_0.index t 2 * 1024 + 1 * n.val = n.val; rw [f.2.2]; omega))

theorem iblk1 (t : Fin cfg0.N) (k : Fin 1024) :
    (iblk m c 1 t : Vec Ideal S1x1024 .f32) (ix2 0 k) = gArg m c (ix2 0 k) := by
  rw [← g_read]
  unfold iblk
  rw [View.read_apply]
  exact congrArg (V m c main_v2 : Vec Ideal S1x1024 .f32) (at_place2 _ _ _
    (by show 0 * 1 + 1 * 0 = 0; omega) (by show 0 * 1024 + 1 * k.val = k.val; omega))

theorem iblk2 (t : Fin cfg0.N) (k : Fin 1024) (n : Fin 512) :
    (iblk m c 2 t : Vec Ideal S1024x512 .bf16) (ix2 k n) = wArg m c (ix3 0 k ⟨n.val, by omega⟩) := by
  rw [← wu_read]
  unfold iblk
  rw [View.read_apply]
  exact congrArg (V m c main_v4 : Vec Ideal S1024x512 .bf16) (at_place2 _ _ _
    (by show 0 * 1024 + 1 * k.val = k.val; omega) (by show 0 * 512 + 1 * n.val = n.val; omega))

theorem iblk3 (t : Fin cfg0.N) (j : Fin 768) (k : Fin 1024) :
    (iblk m c 3 t : Vec Ideal S768x1024 .bf16) (ix2 j k) = wArg m c (ix3 0 k (column j)) := by
  rw [← w_read]
  unfold iblk
  rw [View.read_apply]
  exact congrArg (V m c main_v11 : Vec Ideal S768x1024 .bf16) (at_place2 _ _ _
    (by show 0 * 768 + 1 * j.val = j.val; omega) (by show 0 * 1024 + 1 * k.val = k.val; omega))

theorem iblk4 (t : Fin cfg0.N) (d : Fin 64) :
    (iblk m c 4 t : Vec Ideal S64x1 .f32) (ix2 d 0) = qgArg m c (ix2 0 (spread d)) := by
  rw [← qg_read]
  unfold iblk
  rw [View.read_apply]
  exact congrArg (V m c main_v18 : Vec Ideal S64x1 .f32) (at_place2 _ _ _
    (by show 0 * 64 + 1 * d.val = d.val; omega) (by show 0 * 1 + 1 * 0 = 0; omega))

theorem iblk5 (t : Fin cfg0.N) (d : Fin 64) :
    (iblk m c 5 t : Vec Ideal S64x1 .f32) (ix2 d 0) = kgArg m c (ix2 0 (spread d)) := by
  rw [← kg_read]
  unfold iblk
  rw [View.read_apply]
  exact congrArg (V m c main_v25 : Vec Ideal S64x1 .f32) (at_place2 _ _ _
    (by show 0 * 64 + 1 * d.val = d.val; omega) (by show 0 * 1 + 1 * 0 = 0; omega))

theorem iblk6 (t : Fin cfg0.N) (d : Fin 32) (r : Fin 1024) :
    (iblk m c 6 t : Vec Ideal S32x1024 .f32) (ix2 d r) = Ideal.cos (angle (place t r) d) := by
  have f := (index_facts t).2.1
  rw [← cos_read m c]
  unfold iblk
  rw [View.read_apply]
  exact congrArg (V m c main_v56 : Vec Ideal S32x4096 .f32) (at_place2 _ _ _
    (by show win0_6.index t 0 * 32 + 1 * d.val = d.val; rw [f.1]; omega)
    (by show win0_6.index t 1 * 1024 + 1 * r.val = t.val % 4 * 1024 + r.val; rw [f.2]; omega))

theorem iblk7 (t : Fin cfg0.N) (d : Fin 32) (r : Fin 1024) :
    (iblk m c 7 t : Vec Ideal S32x1024 .f32) (ix2 d r) = Ideal.sin (angle (place t r) d) := by
  have f := (index_facts t).2.2.1
  rw [← sin_read m c]
  unfold iblk
  rw [View.read_apply]
  exact congrArg (V m c main_v58 : Vec Ideal S32x4096 .f32) (at_place2 _ _ _
    (by show win0_7.index t 0 * 32 + 1 * d.val = d.val; rw [f.1]; omega)
    (by show win0_7.index t 1 * 1024 + 1 * r.val = t.val % 4 * 1024 + r.val; rw [f.2]; omega))

/-! A point's rows are the arrays' rows. -/

theorem rest_row (t : Fin cfg0.N) (r : Fin 1024) : rest (iblk m c 0 t) (iblk m c 1 t) r = normRow m c (batch t) (place t r) := by
  unfold rest normRow
  simp only [iblk0, iblk1]

theorem heads_row (t : Fin cfg0.N) (r : Fin 1024) (j : Fin 768) :
    heads (iblk m c 0 t) (iblk m c 1 t) (iblk m c 3 t) r j = headsRow m c (batch t) (place t r) j := by
  unfold heads headsRow
  simp only [rest_row, iblk3]

theorem head_row (g : Vec Ideal S64x1 .f32) (g' : FVec Ideal S1x64 .f32) (hg : ∀ e, g (ix2 e 0) = g' (ix2 0 (spread e)))
    (t : Fin cfg0.N) (h : Fin 10) (r : Fin 1024) :
    head (iblk m c 0 t) (iblk m c 1 t) (iblk m c 3 t) (iblk m c 6 t) (iblk m c 7 t) g h r = turnedRow m c g' h (batch t) (place t r) := by
  unfold head turnedRow
  simp only [heads_row, hg, iblk6, iblk7]

theorem pool_row (t : Fin cfg0.N) (r : Fin 1024) (n : Fin 512) :
    poolRow (iblk m c 0 t) (iblk m c 1 t) (iblk m c 2 t) r n = poolAt m c (batch t) (place t r) n := by
  unfold poolRow poolAt
  simp only [rest_row, iblk2]

theorem query_row (t : Fin cfg0.N) (r : Fin 1024) (n : Fin 512) :
    queryRow (iblk m c 0 t) (iblk m c 1 t) (iblk m c 3 t) (iblk m c 4 t) (iblk m c 6 t) (iblk m c 7 t) r n
      = queryAt m c (batch t) (place t r) n := by
  unfold queryRow queryAt
  rw [head_row m c _ (qgArg m c) (iblk4 m c t)]

theorem key_row (t : Fin cfg0.N) (r : Fin 1024) (n : Fin 128) :
    keyRow (iblk m c 0 t) (iblk m c 1 t) (iblk m c 3 t) (iblk m c 5 t) (iblk m c 6 t) (iblk m c 7 t) r n
      = keyAt m c (batch t) (place t r) n := by
  unfold keyRow keyAt
  rw [head_row m c _ (kgArg m c) (iblk5 m c t)]

theorem value_row (t : Fin cfg0.N) (r : Fin 1024) (n : Fin 128) :
    valueRow (iblk m c 0 t) (iblk m c 1 t) (iblk m c 3 t) r n = valueAt m c (batch t) (place t r) n := by
  unfold valueRow valueAt
  rw [heads_row]

/-! The arrays that keep the rows in the second axis, and those that keep them in the third: a block's place, and the cover. -/

/-- Two functions on a block's indices are one if they agree at every row and column. -/
theorem eq_of_rows {A B : ℕ} {α : Type} (f g : Shape.Idx ⟨3, ![1, A, B]⟩ → α) (h : ∀ i j, f (ix3 0 i j) = g (ix3 0 i j)) : f = g := by
  funext y
  obtain ⟨a, i, j, rfl⟩ : ∃ (a : Fin 1) (i : Fin A) (j : Fin B), y = ix3 a i j := ⟨y 0, y 1, y 2, eq_ix3 y⟩
  obtain rfl : a = 0 := Subsingleton.elim a 0
  exact h i j

/-- The point whose blocks hold a row of a batch. -/
theorem point_of (b s : ℕ) (hb : b < 16) (hs : s < 4096) : ∃ t : Fin cfg0.N, t.val / 4 = b ∧ t.val % 4 = s / 1024 := by
  have hN : cfg0.N = 64 := N_0
  exact ⟨⟨b * 4 + s / 1024, by omega⟩, by simp only; omega, by simp only; omega⟩

theorem pool_at (t : Fin cfg0.N) (r : Fin 1024) (n : Fin 512) :
    (win0_8.blk t).view.emb (ix3 0 r n) = (ix3 (batch t) (place t r) n : S16x4096x512.Idx) := by
  have f := (index_facts t).2.2.2.1
  exact at_place _ _ _ _
    (by show win0_8.index t 0 * 1 + 1 * 0 = t.val / 4; rw [f.1]; omega)
    (by show win0_8.index t 1 * 1024 + 1 * r.val = t.val % 4 * 1024 + r.val; rw [f.2.1]; omega)
    (by show win0_8.index t 2 * 512 + 1 * n.val = n.val; rw [f.2.2]; omega)

theorem pool_read (t : Fin cfg0.N) :
    poolBlock (iblk m c 0 t) (iblk m c 1 t) (iblk m c 2 t) = (win0_8.blk t).view.read (Elt Ideal) (poolArray m c) := by
  refine eq_of_rows _ _ fun r n => ?_
  exact (pool_row m c t r n).trans (congrArg (poolArray m c) (pool_at t r n)).symm

theorem pool_flushed (t : Fin cfg0.N) : (dats m 0 c).flushed 8 t = (win0_8.blk t).view.read (Elt Ideal) (poolArray m c) := by
  rw [Cert.Kernel3Ideal.Value.flushed8, pool_eq, ← pool_read]
  rfl

theorem pool_cover (i : S16x4096x512.Idx) : ∃ t : Fin cfg0.N, (cfg0.win 8).flush t = true ∧ i ∈ ((cfg0.win 8).blk t).view.set := by
  have h0 : (i 0).val < 16 := (i 0).isLt
  have h1 : (i 1).val < 4096 := (i 1).isLt
  have h2 : (i 2).val < 512 := (i 2).isLt
  obtain ⟨t, ht, hs⟩ := point_of _ _ h0 h1
  have h := (index_facts t).2.2.2.1
  refine ⟨t, flush0_8 _, ?_⟩
  show i ∈ ((View.whole main_v59_0).slice (win0_8.rect t)).set
  rw [View.set_slice_whole, Rect.mem_set_unit]
  intro a
  match a with
  | ⟨0, _⟩ => show win0_8.index t 0 * 1 ≤ (i 0).val ∧ (i 0).val < win0_8.index t 0 * 1 + 1; rw [h.1]; omega
  | ⟨1, _⟩ => show win0_8.index t 1 * 1024 ≤ (i 1).val ∧ (i 1).val < win0_8.index t 1 * 1024 + 1024; rw [h.2.1]; omega
  | ⟨2, _⟩ => show win0_8.index t 2 * 512 ≤ (i 2).val ∧ (i 2).val < win0_8.index t 2 * 512 + 512; rw [h.2.2]; omega

theorem pool_final : (dats m 0 c).arrAt 8 cfg0.N = poolArray m c :=
  (dats m 0 c).arrAt_eq_of_cover 8 (poolArray m c) (fun t _ => pool_flushed m c t) pool_cover

theorem query_at (t : Fin cfg0.N) (r : Fin 1024) (n : Fin 512) :
    (win0_9.blk t).view.emb (ix3 0 n r) = (ix3 (batch t) n (place t r) : S16x512x4096.Idx) := by
  have f := (index_facts t).2.2.2.2.1
  exact at_place _ _ _ _
    (by show win0_9.index t 0 * 1 + 1 * 0 = t.val / 4; rw [f.1]; omega)
    (by show win0_9.index t 1 * 512 + 1 * n.val = n.val; rw [f.2.1]; omega)
    (by show win0_9.index t 2 * 1024 + 1 * r.val = t.val % 4 * 1024 + r.val; rw [f.2.2]; omega)

theorem query_read (t : Fin cfg0.N) :
    queryBlock (iblk m c 0 t) (iblk m c 1 t) (iblk m c 3 t) (iblk m c 4 t) (iblk m c 6 t) (iblk m c 7 t) = (win0_9.blk t).view.read (Elt Ideal) (queryArray m c) := by
  refine eq_of_rows _ _ fun n r => ?_
  exact (query_row m c t r n).trans (congrArg (queryArray m c) (query_at t r n)).symm

theorem query_flushed (t : Fin cfg0.N) : (dats m 0 c).flushed 9 t = (win0_9.blk t).view.read (Elt Ideal) (queryArray m c) := by
  rw [Cert.Kernel3Ideal.Value.flushed9, query_eq, ← query_read]
  rfl

theorem query_cover (i : S16x512x4096.Idx) : ∃ t : Fin cfg0.N, (cfg0.win 9).flush t = true ∧ i ∈ ((cfg0.win 9).blk t).view.set := by
  have h0 : (i 0).val < 16 := (i 0).isLt
  have h1 : (i 1).val < 512 := (i 1).isLt
  have h2 : (i 2).val < 4096 := (i 2).isLt
  obtain ⟨t, ht, hs⟩ := point_of _ _ h0 h2
  have h := (index_facts t).2.2.2.2.1
  refine ⟨t, flush0_9 _, ?_⟩
  show i ∈ ((View.whole main_v59_1).slice (win0_9.rect t)).set
  rw [View.set_slice_whole, Rect.mem_set_unit]
  intro a
  match a with
  | ⟨0, _⟩ => show win0_9.index t 0 * 1 ≤ (i 0).val ∧ (i 0).val < win0_9.index t 0 * 1 + 1; rw [h.1]; omega
  | ⟨1, _⟩ => show win0_9.index t 1 * 512 ≤ (i 1).val ∧ (i 1).val < win0_9.index t 1 * 512 + 512; rw [h.2.1]; omega
  | ⟨2, _⟩ => show win0_9.index t 2 * 1024 ≤ (i 2).val ∧ (i 2).val < win0_9.index t 2 * 1024 + 1024; rw [h.2.2]; omega

theorem query_final : (dats m 0 c).arrAt 9 cfg0.N = queryArray m c :=
  (dats m 0 c).arrAt_eq_of_cover 9 (queryArray m c) (fun t _ => query_flushed m c t) query_cover

theorem key_at (t : Fin cfg0.N) (r : Fin 1024) (n : Fin 128) :
    (win0_10.blk t).view.emb (ix3 0 r n) = (ix3 (batch t) (place t r) n : S16x4096x128.Idx) := by
  have f := (index_facts t).2.2.2.2.2.1
  exact at_place _ _ _ _
    (by show win0_10.index t 0 * 1 + 1 * 0 = t.val / 4; rw [f.1]; omega)
    (by show win0_10.index t 1 * 1024 + 1 * r.val = t.val % 4 * 1024 + r.val; rw [f.2.1]; omega)
    (by show win0_10.index t 2 * 128 + 1 * n.val = n.val; rw [f.2.2]; omega)

theorem key_read (t : Fin cfg0.N) :
    keyBlock (iblk m c 0 t) (iblk m c 1 t) (iblk m c 3 t) (iblk m c 5 t) (iblk m c 6 t) (iblk m c 7 t) = (win0_10.blk t).view.read (Elt Ideal) (keyArray m c) := by
  refine eq_of_rows _ _ fun r n => ?_
  exact (key_row m c t r n).trans (congrArg (keyArray m c) (key_at t r n)).symm

theorem key_flushed (t : Fin cfg0.N) : (dats m 0 c).flushed 10 t = (win0_10.blk t).view.read (Elt Ideal) (keyArray m c) := by
  rw [Cert.Kernel3Ideal.Value.flushed10, key_eq, ← key_read]
  rfl

theorem key_cover (i : S16x4096x128.Idx) : ∃ t : Fin cfg0.N, (cfg0.win 10).flush t = true ∧ i ∈ ((cfg0.win 10).blk t).view.set := by
  have h0 : (i 0).val < 16 := (i 0).isLt
  have h1 : (i 1).val < 4096 := (i 1).isLt
  have h2 : (i 2).val < 128 := (i 2).isLt
  obtain ⟨t, ht, hs⟩ := point_of _ _ h0 h1
  have h := (index_facts t).2.2.2.2.2.1
  refine ⟨t, flush0_10 _, ?_⟩
  show i ∈ ((View.whole main_v59_2).slice (win0_10.rect t)).set
  rw [View.set_slice_whole, Rect.mem_set_unit]
  intro a
  match a with
  | ⟨0, _⟩ => show win0_10.index t 0 * 1 ≤ (i 0).val ∧ (i 0).val < win0_10.index t 0 * 1 + 1; rw [h.1]; omega
  | ⟨1, _⟩ => show win0_10.index t 1 * 1024 ≤ (i 1).val ∧ (i 1).val < win0_10.index t 1 * 1024 + 1024; rw [h.2.1]; omega
  | ⟨2, _⟩ => show win0_10.index t 2 * 128 ≤ (i 2).val ∧ (i 2).val < win0_10.index t 2 * 128 + 128; rw [h.2.2]; omega

theorem key_final : (dats m 0 c).arrAt 10 cfg0.N = keyArray m c :=
  (dats m 0 c).arrAt_eq_of_cover 10 (keyArray m c) (fun t _ => key_flushed m c t) key_cover

theorem value_at (t : Fin cfg0.N) (r : Fin 1024) (n : Fin 128) :
    (win0_11.blk t).view.emb (ix3 0 n r) = (ix3 (batch t) n (place t r) : S16x128x4096.Idx) := by
  have f := (index_facts t).2.2.2.2.2.2
  exact at_place _ _ _ _
    (by show win0_11.index t 0 * 1 + 1 * 0 = t.val / 4; rw [f.1]; omega)
    (by show win0_11.index t 1 * 128 + 1 * n.val = n.val; rw [f.2.1]; omega)
    (by show win0_11.index t 2 * 1024 + 1 * r.val = t.val % 4 * 1024 + r.val; rw [f.2.2]; omega)

theorem value_read (t : Fin cfg0.N) :
    valueBlock (iblk m c 0 t) (iblk m c 1 t) (iblk m c 3 t) = (win0_11.blk t).view.read (Elt Ideal) (valueArray m c) := by
  refine eq_of_rows _ _ fun n r => ?_
  exact (value_row m c t r n).trans (congrArg (valueArray m c) (value_at t r n)).symm

theorem value_flushed (t : Fin cfg0.N) : (dats m 0 c).flushed 11 t = (win0_11.blk t).view.read (Elt Ideal) (valueArray m c) := by
  rw [Cert.Kernel3Ideal.Value.flushed11, value_eq, ← value_read]
  rfl

theorem value_cover (i : S16x128x4096.Idx) : ∃ t : Fin cfg0.N, (cfg0.win 11).flush t = true ∧ i ∈ ((cfg0.win 11).blk t).view.set := by
  have h0 : (i 0).val < 16 := (i 0).isLt
  have h1 : (i 1).val < 128 := (i 1).isLt
  have h2 : (i 2).val < 4096 := (i 2).isLt
  obtain ⟨t, ht, hs⟩ := point_of _ _ h0 h2
  have h := (index_facts t).2.2.2.2.2.2
  refine ⟨t, flush0_11 _, ?_⟩
  show i ∈ ((View.whole main_v59_3).slice (win0_11.rect t)).set
  rw [View.set_slice_whole, Rect.mem_set_unit]
  intro a
  match a with
  | ⟨0, _⟩ => show win0_11.index t 0 * 1 ≤ (i 0).val ∧ (i 0).val < win0_11.index t 0 * 1 + 1; rw [h.1]; omega
  | ⟨1, _⟩ => show win0_11.index t 1 * 128 ≤ (i 1).val ∧ (i 1).val < win0_11.index t 1 * 128 + 128; rw [h.2.1]; omega
  | ⟨2, _⟩ => show win0_11.index t 2 * 1024 ≤ (i 2).val ∧ (i 2).val < win0_11.index t 2 * 1024 + 1024; rw [h.2.2]; omega

theorem value_final : (dats m 0 c).arrAt 11 cfg0.N = valueArray m c :=
  (dats m 0 c).arrAt_eq_of_cover 11 (valueArray m c) (fun t _ => value_flushed m c t) value_cover

end Cert.Kernel3Ideal.ArrayValue

end
-- ==== Proof.PreRefValue.lean ====
/- What the reference computes before the attention, at an index. -/
module

public import proofs.«01_k».proof.Proof.Gen.Reference3Ideal.Read
public import proofs.«01_k».proof.Proof.PreRow
public import Idealize.ShloMosaic.Lib.Pointwise

@[expose] public section

set_option maxRecDepth 20000

noncomputable section

namespace Cert.Reference3Ideal.RefValue

open Cert.Reference3Ideal Cert.Reference3Ideal.Gen Cert.Reference3Ideal.Read Cert.PoolRow Cert.PreRow Idealize.ShloMosaic

variable (x0 : FVec Ideal S16x4096x1024 .f32) (x1 : FVec Ideal S1x1024 .f32) (x2 : FVec Ideal S1x1024x1280 .f32) (x3 x4 : FVec Ideal S1x64 .f32)
  (b : Fin 16) (s : Fin 4096)

/-- A row of the input, normed and through the input weights. -/
def zRow : Fin 1280 → EReal := lin (rms (fun k => x0 (ix3 b s k)) (fun k => x1 (ix2 0 k))) (fun k j => x2 (ix3 0 k j))

theorem angles (d : Fin 32) : val_main_v28 (F := Ideal) (ix2 s d) = angle s d := by
  unfold val_main_v28 val_main_v27 val_main_v26 val_main_v25 val_main_v24 val_main_v23 val_main_v22 val_main_v21 val_main_v20 val_main_v19
    val_main_v18 val_main_v17 val_main_v16 val_main_v15 val_main_v14 val_main_v13 val_main_v12 val_main_v11 val_main_v10 val_main_v9 val_main_v8
    val_main_v7 val_main_v6 val_main_v5 val_main_v4 val_main_v3 val_main_v2 val_main_v1 val_main_v0 val_main_cst val_main_cst_0 val_main_cst_1
    val_main_cst_2 val_main_cst_3 angle
  pointwise
  rfl

theorem cosines (d : Fin 32) : val_main_v29 (F := Ideal) (ix2 s d) = Ideal.cos (angle s d) := by
  rw [← angles]; rfl

theorem sines (d : Fin 32) : val_main_v30 (F := Ideal) (ix2 s d) = Ideal.sin (angle s d) := by
  rw [← angles]; rfl

theorem rows (j : Fin 1280) : val_main_v46 (F := Ideal) x0 x1 x2 (ix3 b s j) = zRow x0 x1 x2 b s j := by
  unfold val_main_v46 val_main_v45 val_main_v44 val_main_v43 val_main_v42 val_main_v41 val_main_v40 val_main_v39 val_main_v38 val_main_v37
    val_main_v36 val_main_v35 val_main_v34 val_main_v33 val_main_v32 val_main_v31 val_main_cst_4 val_main_cst_5 val_main_cst_6 zRow lin rms
  pointwise

/-- The pool's input. -/
theorem pool (n : Fin 512) : val_main_v47 (F := Ideal) x0 x1 x2 (ix3 b s n) = zRow x0 x1 x2 b s ⟨n.val, by omega⟩ := by
  rw [← rows]
  unfold val_main_v47
  generalize (val_main_v46 (F := Ideal) x0 x1 x2 : FVec Ideal S16x4096x1280 .f32) = z
  pointwise

/-- The values. -/
theorem values (n : Fin 128) : val_main_v132 (F := Ideal) x0 x1 x2 (ix3 b n s) = zRow x0 x1 x2 b s ⟨1152 + n.val, by omega⟩ := by
  rw [← rows]
  unfold val_main_v132 val_main_v131 val_main_v52
  generalize (val_main_v46 (F := Ideal) x0 x1 x2 : FVec Ideal S16x4096x1280 .f32) = z
  pointwise

theorem queryHead (h : Fin 8) (e : Fin 64) : val_main_v49 (F := Ideal) x0 x1 x2 (ix4 b s h e)
    = zRow x0 x1 x2 b s ⟨512 + h.val * 64 + e.val, by omega⟩ := by
  rw [← rows]
  unfold val_main_v49 val_main_v48
  generalize (val_main_v46 (F := Ideal) x0 x1 x2 : FVec Ideal S16x4096x1280 .f32) = z
  pointwise
  congr 2
  exact Fin.ext (by simp only; omega)

theorem keyHead (h : Fin 2) (e : Fin 64) : val_main_v51 (F := Ideal) x0 x1 x2 (ix4 b s h e)
    = zRow x0 x1 x2 b s ⟨1024 + h.val * 64 + e.val, by omega⟩ := by
  rw [← rows]
  unfold val_main_v51 val_main_v50
  generalize (val_main_v46 (F := Ideal) x0 x1 x2 : FVec Ideal S16x4096x1280 .f32) = z
  pointwise
  congr 2
  exact Fin.ext (by simp only; omega)

theorem queryNorm (h : Fin 8) (d : Fin 64) : val_main_v66 (F := Ideal) x0 x1 x2 x3 (ix4 b s h d)
    = headNorm (fun e => zRow x0 x1 x2 b s ⟨512 + h.val * 64 + e.val, by omega⟩) (fun e => x3 (ix2 0 e)) d := by
  simp only [← queryHead]
  unfold val_main_v66 val_main_v65 val_main_v64 val_main_v63 val_main_v62 val_main_v61 val_main_v60 val_main_v59 val_main_v58 val_main_v57
    val_main_v56 val_main_v55 val_main_v54 val_main_v53 val_main_cst_7 val_main_cst_8 val_main_cst_9 headNorm
  generalize (val_main_v49 (F := Ideal) x0 x1 x2 : FVec Ideal S16x4096x8x64 .f32) = z
  pointwise

theorem keyNorm (h : Fin 2) (d : Fin 64) : val_main_v105 (F := Ideal) x0 x1 x2 x4 (ix4 b s h d)
    = headNorm (fun e => zRow x0 x1 x2 b s ⟨1024 + h.val * 64 + e.val, by omega⟩) (fun e => x4 (ix2 0 e)) d := by
  simp only [← keyHead]
  unfold val_main_v105 val_main_v104 val_main_v103 val_main_v102 val_main_v101 val_main_v100 val_main_v99 val_main_v98 val_main_v97 val_main_v96
    val_main_v95 val_main_v94 val_main_v93 val_main_v92 val_main_cst_12 val_main_cst_13 val_main_cst_14 headNorm
  generalize (val_main_v51 (F := Ideal) x0 x1 x2 : FVec Ideal S16x4096x2x64 .f32) = z
  pointwise

theorem spread_first (i : Fin 32) (n : Fin 64) (hn : n.val = i.val) : spread n = ⟨i.val * 2, by omega⟩ := by
  unfold spread
  rw [dif_pos (by omega)]
  exact Fin.ext (by simp only; omega)

theorem spread_second (i : Fin 32) (n : Fin 64) (hn : n.val = i.val + 32) : spread n = ⟨i.val * 2 + 1, by omega⟩ := by
  unfold spread
  rw [dif_neg (by omega)]
  exact Fin.ext (by simp only; omega)

/-- A rotation's two results, in the order of the pairs' first features and then their second ones. -/
theorem pairs (y : Fin 64 → EReal) (co si : Fin 32 → EReal) (p : Fin 2) (i : Fin 32) (n : Fin 64) (hn : n.val = p.val * 32 + i.val) :
    turn (fun e => y (spread e)) co si n = if p.val < 1 then y ⟨i.val * 2, by omega⟩ * co i - y ⟨i.val * 2 + 1, by omega⟩ * si i
      else y ⟨i.val * 2, by omega⟩ * si i + y ⟨i.val * 2 + 1, by omega⟩ * co i := by
  have hi := i.isLt
  by_cases hp : p.val < 1
  · have h0 : n.val = i.val := by omega
    have e : (⟨n.val, by omega⟩ : Fin 32) = i := Fin.ext h0
    unfold turn
    rw [dif_pos (by omega), if_pos hp]
    show y (spread n) * co _ - y (spread _) * si _ = _
    rw [spread_first i n h0, spread_second i ⟨n.val + 32, by omega⟩ (by simp only; omega), e]
  · have h1 : n.val = i.val + 32 := by have := p.isLt; omega
    have e : (⟨n.val - 32, by omega⟩ : Fin 32) = i := Fin.ext (by simp only; omega)
    unfold turn
    rw [dif_neg (by omega), if_neg hp]
    show y (spread _) * si _ + y (spread n) * co _ = _
    rw [spread_second i n h1, spread_first i ⟨n.val - 32, by omega⟩ (by simp only; omega), e]

theorem queryTurn (h : Fin 8) (p : Fin 2) (i : Fin 32) (n : Fin 64) (hn : n.val = p.val * 32 + i.val) :
    val_main_v86 (F := Ideal) x0 x1 x2 x3 (ix5 b s h p i)
      = headRow (fun e => zRow x0 x1 x2 b s ⟨512 + h.val * 64 + e.val, by omega⟩) (fun e => x3 (ix2 0 e))
          (fun d => Ideal.cos (angle s d)) (fun d => Ideal.sin (angle s d)) n := by
  unfold headRow
  rw [pairs _ _ _ p i n hn]
  simp only [← queryNorm, ← cosines, ← sines]
  unfold val_main_v86 val_main_v85 val_main_v84 val_main_v83 val_main_v82 val_main_v81 val_main_v80 val_main_v79 val_main_v78 val_main_v77
    val_main_v76 val_main_v75 val_main_v74 val_main_v73 val_main_v72 val_main_v71 val_main_v70 val_main_v69 val_main_v68 val_main_v67
  generalize (val_main_v66 (F := Ideal) x0 x1 x2 x3 : FVec Ideal S16x4096x8x64 .f32) = z
  generalize (val_main_v29 (F := Ideal) : FVec Ideal S4096x32 .f32) = co
  generalize (val_main_v30 (F := Ideal) : FVec Ideal S4096x32 .f32) = si
  pointwise
  simp only [Nat.mul_comm 2, dite_eq_ite]

theorem keyTurn (h : Fin 2) (p : Fin 2) (i : Fin 32) (n : Fin 64) (hn : n.val = p.val * 32 + i.val) :
    val_main_v125 (F := Ideal) x0 x1 x2 x4 (ix5 b s h p i)
      = headRow (fun e => zRow x0 x1 x2 b s ⟨1024 + h.val * 64 + e.val, by omega⟩) (fun e => x4 (ix2 0 e))
          (fun d => Ideal.cos (angle s d)) (fun d => Ideal.sin (angle s d)) n := by
  unfold headRow
  rw [pairs _ _ _ p i n hn]
  simp only [← keyNorm, ← cosines, ← sines]
  unfold val_main_v125 val_main_v124 val_main_v123 val_main_v122 val_main_v121 val_main_v120 val_main_v119 val_main_v118 val_main_v117
    val_main_v116 val_main_v115 val_main_v114 val_main_v113 val_main_v112 val_main_v111 val_main_v110 val_main_v109 val_main_v108 val_main_v107
    val_main_v106
  generalize (val_main_v105 (F := Ideal) x0 x1 x2 x4 : FVec Ideal S16x4096x2x64 .f32) = z
  generalize (val_main_v29 (F := Ideal) : FVec Ideal S4096x32 .f32) = co
  generalize (val_main_v30 (F := Ideal) : FVec Ideal S4096x32 .f32) = si
  pointwise
  simp only [Nat.mul_comm 2, dite_eq_ite]

theorem halves (n : Nat) : n / 32 % 2 = n % 64 / 32 := by omega

/-- The keys. -/
theorem keys (n : Fin 128) : val_main_v130 (F := Ideal) x0 x1 x2 x4 (ix3 b s n)
    = headRow (fun e => zRow x0 x1 x2 b s ⟨1024 + n.val / 64 * 64 + e.val, by omega⟩) (fun e => x4 (ix2 0 e))
        (fun d => Ideal.cos (angle s d)) (fun d => Ideal.sin (angle s d)) ⟨n.val % 64, by omega⟩ := by
  have hn := n.isLt
  rw [← keyTurn x0 x1 x2 x4 b s ⟨n.val / 64, by omega⟩ ⟨n.val % 64 / 32, by omega⟩ ⟨n.val % 32, by omega⟩ ⟨n.val % 64, by omega⟩ (by simp only; omega)]
  unfold val_main_v130 val_main_v129
  generalize (val_main_v125 (F := Ideal) x0 x1 x2 x4 : FVec Ideal S16x4096x2x2x32 .f32) = z
  pointwise
  simp only [halves]

/-- The queries. -/
theorem queries (n : Fin 512) : val_main_v128 (F := Ideal) x0 x1 x2 x3 (ix3 b n s)
    = Ideal.div (headRow (fun e => zRow x0 x1 x2 b s ⟨512 + n.val / 64 * 64 + e.val, by omega⟩) (fun e => x3 (ix2 0 e))
        (fun d => Ideal.cos (angle s d)) (fun d => Ideal.sin (angle s d)) ⟨n.val % 64, by omega⟩ * Ideal.ofBits .f32 0x3E000000#32)
        (Ideal.log (Ideal.ofBits .f32 0x40000000#32)) := by
  have hn := n.isLt
  rw [← queryTurn x0 x1 x2 x3 b s ⟨n.val / 64, by omega⟩ ⟨n.val % 64 / 32, by omega⟩ ⟨n.val % 32, by omega⟩ ⟨n.val % 64, by omega⟩ (by simp only; omega)]
  unfold val_main_v128 val_main_v127 val_main_v126 val_main_v91 val_main_v90 val_main_v89 val_main_v88 val_main_v87 val_main_cst_10 val_main_cst_11
  generalize (val_main_v86 (F := Ideal) x0 x1 x2 x3 : FVec Ideal S16x4096x8x2x32 .f32) = z
  pointwise
  simp only [halves]

end Cert.Reference3Ideal.RefValue

end
-- ==== Proof.PreEquation.lean ====
/- The equations of the kernel before the attention: what its arrays hold against what the reference computes. -/
module

public import proofs.«01_k».proof.Proof.PreArrayValue
public import proofs.«01_k».proof.Proof.PreRefValue

@[expose] public section

set_option maxRecDepth 20000

noncomputable section

namespace Cert.PreEquation

open Idealize.ShloMosaic Cert.Kernel3Ideal.HostArgs Cert.Kernel3Ideal.ArrayValue Cert.PoolRow Cert.PreRow Cert.Reference3Ideal.RefValue

/-! The query's scale: an eighth over the logarithm of two, named in the kernel, a product and a quotient in the reference. -/

theorem scale_eq : Cert.Kernel3Ideal.ItemValue.scale = (((1 / 8) * (Real.log 2)⁻¹ : ℝ) : EReal) := by
  unfold Cert.Kernel3Ideal.ItemValue.scale
  exact IdealRules.named_const.ideal_named_scalar _ _ _ _ rfl

theorem eighth_bits : Ideal.ofBits .f32 0x3E000000#32 = ((1 / 8 : ℝ) : EReal) := by
  simp [Ideal.ofBits, Ideal.ieee, ← EReal.coe_mul]; norm_num

theorem two_bits : Ideal.ofBits .f32 0x40000000#32 = ((2 : ℝ) : EReal) := by
  simp [Ideal.ofBits, Ideal.ieee, ← EReal.coe_mul]; norm_num

theorem log_two : Ideal.log ((2 : ℝ) : EReal) = ((Real.log 2 : ℝ) : EReal) := by
  rw [Ideal.log_coe]
  norm_num

theorem scaled (x : EReal) : Ideal.div (x * Ideal.ofBits .f32 0x3E000000#32) (Ideal.log (Ideal.ofBits .f32 0x40000000#32))
    = x * Cert.Kernel3Ideal.ItemValue.scale := by
  rw [scale_eq, eighth_bits, two_bits, log_two, Ideal.div_coe (Real.log_pos (by norm_num)).ne', mul_assoc, ← EReal.coe_mul, one_div (Real.log 2)]

variable (m : (ℓ : Loc Cert.Kernel3Ideal.nD Cert.Kernel3Ideal.τ Cert.Kernel3Ideal.sig) → Buf (Elt Ideal) ℓ) (c : Dev Cert.Kernel3Ideal.nD)

/-- A row's heads in the kernel's order are columns of the reference's row. -/
theorem heads_zRow (b : Fin 16) (s : Fin 4096) (j : Fin 768) :
    headsRow m c b s j = zRow (xArg m c) (gArg m c) (wArg m c) b s (column j) := rfl

theorem column_head (h : Fin 10) (e : Fin 64) (j : Fin 768) (hj : j.val = h.val * 64 + e.val) :
    column j = ⟨512 + h.val * 64 + (spread e).val, by omega⟩ := by
  have he : (⟨j.val % 64, by omega⟩ : Fin 64) = e := Fin.ext (by simp only; omega)
  unfold column
  rw [if_pos (by omega)]
  exact Fin.ext (by simp only [he]; omega)

theorem column_value (n : Fin 128) : column ⟨640 + n.val, by omega⟩ = ⟨1152 + n.val, by omega⟩ := by
  unfold column
  rw [if_neg (by simp)]
  exact Fin.ext (by simp only; omega)

/-- A head of the kernel is the reference's: the order of its features is one permutation throughout, the root's and the gain's. -/
theorem turned_head (g : FVec Ideal Cert.Kernel3Ideal.S1x64 .f32) (h : Fin 10) (b : Fin 16) (s : Fin 4096) (k : Nat) (hk : k = 512 + h.val * 64) (d : Fin 64) :
    turnedRow m c g h b s d = headRow (fun e => zRow (xArg m c) (gArg m c) (wArg m c) b s ⟨k + e.val, by omega⟩) (fun e => g (ix2 0 e))
      (fun d => Ideal.cos (angle s d)) (fun d => Ideal.sin (angle s d)) d := by
  subst hk
  unfold turnedRow headRow
  congr 1
  funext e
  rw [← headNormSpread_eq]
  congr 1
  funext e
  rw [heads_zRow, column_head h e _ rfl]

theorem pool_eq : poolArray m c = Cert.Reference3Ideal.Read.val_main_v47 (F := Ideal) (xArg m c) (gArg m c) (wArg m c) := by
  funext i
  have hi : i = ix3 (i 0 : Fin 16) (i 1 : Fin 4096) (i 2 : Fin 512) := eq_ix3 i
  rw [hi]
  exact (pool _ _ _ _ _ _).symm

theorem query_eq : queryArray m c = Cert.Reference3Ideal.Read.val_main_v128 (F := Ideal) (xArg m c) (gArg m c) (wArg m c) (qgArg m c) := by
  funext i
  have hi : i = ix3 (i 0 : Fin 16) (i 1 : Fin 512) (i 2 : Fin 4096) := eq_ix3 i
  rw [hi]
  refine Eq.trans ?_ (queries _ _ _ _ _ _ _).symm
  rw [scaled]
  exact congrArg (· * _) (turned_head m c (qgArg m c) _ _ _ _ rfl _)

theorem key_eq : keyArray m c = Cert.Reference3Ideal.Read.val_main_v130 (F := Ideal) (xArg m c) (gArg m c) (wArg m c) (kgArg m c) := by
  funext i
  have hi : i = ix3 (i 0 : Fin 16) (i 1 : Fin 4096) (i 2 : Fin 128) := eq_ix3 i
  rw [hi]
  refine Eq.trans ?_ (keys _ _ _ _ _ _ _).symm
  exact turned_head m c (kgArg m c) _ _ _ _
    (by show 1024 + (i 2 : Fin 128).val / 64 * 64 = 512 + (8 + (i 2 : Fin 128).val / 64) * 64; omega) _

theorem value_eq : valueArray m c = Cert.Reference3Ideal.Read.val_main_v132 (F := Ideal) (xArg m c) (gArg m c) (wArg m c) := by
  funext i
  have hi : i = ix3 (i 0 : Fin 16) (i 1 : Fin 128) (i 2 : Fin 4096) := eq_ix3 i
  rw [hi]
  refine Eq.trans ?_ (values _ _ _ _ _ _).symm
  exact (heads_zRow m c _ _ _).trans (congrArg (zRow _ _ _ _ _) (column_value _))

end Cert.PreEquation

end
-- ==== Proof.lean ====
/- The certificate's proof, assembled: the frames from the generated runs, the idealization's one named
   constant, and the equations of the three kernels from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Finite
public import proofs.«01_k».proof.Proof.Equation
public import proofs.«01_k».proof.Proof.PostEquation
public import proofs.«01_k».proof.Proof.PreEquation
public import Idealize.ShloMosaic.Adequacy
public import Idealize.ShloMosaic.Init

@[expose] public section

noncomputable section

namespace Cert.Proof

open Idealize.ShloMosaic Idealize.SL.Sem

attribute [local instance] Cert.Finite.facts Cert.PostEquation.facts

/-- The reference runs and leaves its arguments; it declares no semaphore. -/
theorem reference_frame : Cert.quiescent_ReferenceIdeal := fun m ρ _ =>
  (θ_run _ _ _).mono (fun _ h => ⟨fun c => (h c).2, funext fun s => nomatch s.2⟩) (Cert.ReferenceIdeal.Value.run (F := Ideal) m ρ)

/-- The kernel and the reference end with the same array. -/
theorem attention : Cert.algebraic_KernelIdeal_ReferenceIdeal_pre_finite (hPre_finite := Cert.Finite.facts) := by
  intro m ρ m' ρ' hpre hagree
  refine ⟨fun c => Cert.KernelIdeal.ArrayValue.G m c, ?_, ?_⟩
  · exact (θ_run _ _ _).mono (fun r h c => ⟨(h c).1.trans (Cert.KernelIdeal.ArrayValue.final m c), (h c).2⟩)
      (Cert.KernelIdeal.Value.run_blocks m ρ)
  · refine (θ_run _ _ _).mono (fun r h c => ⟨(h c).1.trans ?_, (h c).2⟩) (Cert.ReferenceIdeal.Value.run (F := Ideal) m' ρ')
    obtain ⟨hq, hk⟩ := Cert.Finite.elements _ _ _ (hpre c)
    obtain ⟨h0, h1, h2⟩ := hagree c
    rw [h0, h1, h2]
    exact (Cert.ReferenceIdeal.Read.val_main_v19_eq _ _ _).trans (Cert.Equation.array_eq m c hq hk).symm

/-- The second reference runs and leaves its arguments; it declares no semaphore. -/
theorem reference2_frame : Cert.quiescent_Reference2Ideal := fun m ρ _ =>
  (θ_run _ _ _).mono (fun _ h => ⟨fun c => (h c).2, funext fun s => nomatch s.2⟩) (Cert.Reference2Ideal.Value.run (F := Ideal) m ρ)

/-- The kernel after the attention and its reference end with the same array. -/
theorem post : Cert.algebraic_Kernel2Ideal_Reference2Ideal_pre_finite2 (hPre_finite2 := Cert.PostEquation.facts) := by
  intro m ρ m' ρ' hpre hagree
  refine ⟨fun c => Cert.Kernel2Ideal.ArrayValue.G m c, ?_, ?_⟩
  · exact (θ_run _ _ _).mono (fun r h c => ⟨(h c).1.trans (Cert.Kernel2Ideal.ArrayValue.final m c), (h c).2⟩)
      (Cert.Kernel2Ideal.Value.run_blocks m ρ)
  · refine (θ_run _ _ _).mono (fun r h c => ⟨(h c).1.trans ?_, (h c).2⟩) (Cert.Reference2Ideal.Value.run (F := Ideal) m' ρ')
    have hu := Cert.PostEquation.elements _ _ _ _ _ _ _ _ _ _ _ _ _ _ _ _ (hpre c)
    obtain ⟨h0, h1, h2, h3, h4, h5, h6, h7, h8, h9, h10, h11, h12, h13, h14, h15⟩ := hagree c
    refine (Cert.Reference2Ideal.Read.val_main_v254_eq _).trans (Eq.trans ?_ (Cert.PostEquation.array_eq m c hu).symm)
    congr 1

/-- The third reference runs and leaves its arguments; it declares no semaphore. -/
theorem reference3_frame : Cert.quiescent_Reference3Ideal := fun m ρ _ =>
  (θ_run _ _ _).mono (fun _ h => ⟨fun c => (h c).2.2.2.2, funext fun s => nomatch s.2⟩) (Cert.Reference3Ideal.Value.run (F := Ideal) m ρ)

/-- The kernel before the attention and its reference end with the same four arrays. -/
theorem pre : Cert.algebraic_Kernel3Ideal_Reference3Ideal := by
  intro m ρ m' ρ' _ hagree
  refine ⟨fun c => Cert.Kernel3Ideal.ArrayValue.poolArray m c, fun c => Cert.Kernel3Ideal.ArrayValue.queryArray m c,
    fun c => Cert.Kernel3Ideal.ArrayValue.keyArray m c, fun c => Cert.Kernel3Ideal.ArrayValue.valueArray m c, ?_, ?_⟩
  · exact (θ_run _ _ _).mono (fun r h c => ⟨(h c).1.trans (Cert.Kernel3Ideal.ArrayValue.pool_final m c),
      (h c).2.1.trans (Cert.Kernel3Ideal.ArrayValue.query_final m c), (h c).2.2.1.trans (Cert.Kernel3Ideal.ArrayValue.key_final m c),
      (h c).2.2.2.1.trans (Cert.Kernel3Ideal.ArrayValue.value_final m c), (h c).2.2.2.2⟩) (Cert.Kernel3Ideal.Value.run_blocks m ρ)
  · refine (θ_run _ _ _).mono (fun r h c => ⟨(h c).1.trans ?_, (h c).2.1.trans ?_, (h c).2.2.1.trans ?_, (h c).2.2.2.1.trans ?_, (h c).2.2.2.2⟩)
      (Cert.Reference3Ideal.Value.run (F := Ideal) m' ρ')
    all_goals obtain ⟨h0, h1, h2, h3, h4⟩ := hagree c
    · rw [h0, h1, h2]
      exact (Cert.Reference3Ideal.Read.val_main_v47_eq _ _ _).trans (Cert.PreEquation.pool_eq m c).symm
    · refine (Cert.Reference3Ideal.Read.val_main_v128_eq _ _).trans ?_
      rw [h0, h1, h2, h3]
      exact (Cert.PreEquation.query_eq m c).symm
    · refine (Cert.Reference3Ideal.Read.val_main_v130_eq _ _).trans ?_
      rw [h0, h1, h2, h4]
      exact (Cert.PreEquation.key_eq m c).symm
    · rw [h0, h1, h2]
      exact (Cert.Reference3Ideal.Read.val_main_v132_eq _ _ _).trans (Cert.PreEquation.value_eq m c).symm

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Finite.facts, Cert.PostEquation.facts,
    fun m ρ _ => Cert.Kernel.Gen.frame m ρ,
    fun m ρ _ => Cert.KernelIdeal.Gen.frame m ρ,
    fun m ρ _ => Cert.KernelIdeal.Gen.frame m ρ,
    fun m ρ _ => reference_frame m ρ trivial,
    fun m ρ _ => reference_frame m ρ trivial,
    fun m ρ _ => Cert.Kernel2.Gen.frame m ρ,
    fun m ρ _ => Cert.Kernel2Ideal.Gen.frame m ρ,
    fun m ρ _ => Cert.Kernel2Ideal.Gen.frame m ρ,
    fun m ρ _ => reference2_frame m ρ trivial,
    fun m ρ _ => reference2_frame m ρ trivial,
    fun m ρ _ => Cert.Kernel3.Gen.frame m ρ,
    fun m ρ _ => Cert.Kernel3Ideal.Gen.frame m ρ,
    reference3_frame,
    trivial,
    attention,
    trivial,
    post,
    IdealRules.named_const.statement _ _ _ _ _ rfl,
    pre⟩

end Cert.Proof

end
